-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_key [hPre_finite_key : Cert.Pre_finite_key.Facts] (m : (ℓ : Loc Cert.InpIdeal.nD Cert.InpIdeal.τ Cert.InpIdeal.sig) → Buf (Elt Ideal) ℓ) : Prop :=
  ∀ c : Dev Cert.InpIdeal.nD,
    (Cert.Pre_finite_key.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1))) = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_key [hPre_finite_key : Cert.Pre_finite_key.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_key.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1))) = (fun _ => 1#1)

def Pre_Que (m : (ℓ : Loc Cert.Que.nD Cert.Que.τ Cert.Que.sig) → Buf (Elt Bits) ℓ) : Prop :=
  True

def Pre_QueIdeal (m : (ℓ : Loc Cert.QueIdeal.nD Cert.QueIdeal.τ Cert.QueIdeal.sig) → Buf (Elt Ideal) ℓ) : Prop :=
  True

def Pre_QueRefIdeal (m : (ℓ : Loc Cert.QueRefIdeal.nD Cert.QueRefIdeal.τ Cert.QueRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpIdeal_pre_finite_key [hInpIdeal : Cert.InpIdeal.Facts] [hPre_finite_key : Cert.Pre_finite_key.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_key m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_InpRefIdeal_pre_finite_key [hInpRefIdeal : Cert.InpRefIdeal.Facts] [hPre_finite_key : Cert.Pre_finite_key.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_key m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Que [hQue : Cert.Que.Facts] : Prop :=
  ∀ (m : (ℓ : Loc Cert.Que.nD Cert.Que.τ Cert.Que.sig) → Buf (Elt Bits) ℓ) (g : Dev Cert.Que.nD → PrngReg), Pre_Que m →
    θ_run (Cert.Que.defs (F := Bits)) (onTc (τ := Cert.Que.τ) (Cert.Que.main (F := Bits))) ⟨m, fun _ => 0, g⟩ (fun r => (∀ c : Dev Cert.Que.nD,
      r.2.mem ((c.tc : Thread Cert.Que.nD Cert.Que.τ).loc Cert.Que.main_arg0) = m ((c.tc : Thread Cert.Que.nD Cert.Que.τ).loc Cert.Que.main_arg0)
      ∧ r.2.mem ((c.tc : Thread Cert.Que.nD Cert.Que.τ).loc Cert.Que.main_arg1) = m ((c.tc : Thread Cert.Que.nD Cert.Que.τ).loc Cert.Que.main_arg1)
      ∧ r.2.mem ((c.tc : Thread Cert.Que.nD Cert.Que.τ).loc Cert.Que.main_arg2) = m ((c.tc : Thread Cert.Que.nD Cert.Que.τ).loc Cert.Que.main_arg2))
      ∧ r.2.sem = fun _ => 0)

def quiescent_QueIdeal [hQueIdeal : Cert.QueIdeal.Facts] : Prop :=
  ∀ (m : (ℓ : Loc Cert.QueIdeal.nD Cert.QueIdeal.τ Cert.QueIdeal.sig) → Buf (Elt Ideal) ℓ) (g : Dev Cert.QueIdeal.nD → PrngReg), Pre_QueIdeal m →
    θ_run (Cert.QueIdeal.defs (F := Ideal)) (onTc (τ := Cert.QueIdeal.τ) (Cert.QueIdeal.main (F := Ideal))) ⟨m, fun _ => 0, g⟩ (fun r => (∀ c : Dev Cert.QueIdeal.nD,
      r.2.mem ((c.tc : Thread Cert.QueIdeal.nD Cert.QueIdeal.τ).loc Cert.QueIdeal.main_arg0) = m ((c.tc : Thread Cert.QueIdeal.nD Cert.QueIdeal.τ).loc Cert.QueIdeal.main_arg0)
      ∧ r.2.mem ((c.tc : Thread Cert.QueIdeal.nD Cert.QueIdeal.τ).loc Cert.QueIdeal.main_arg1) = m ((c.tc : Thread Cert.QueIdeal.nD Cert.QueIdeal.τ).loc Cert.QueIdeal.main_arg1)
      ∧ r.2.mem ((c.tc : Thread Cert.QueIdeal.nD Cert.QueIdeal.τ).loc Cert.QueIdeal.main_arg2) = m ((c.tc : Thread Cert.QueIdeal.nD Cert.QueIdeal.τ).loc Cert.QueIdeal.main_arg2))
      ∧ r.2.sem = fun _ => 0)

def quiescent_QueRefIdeal [hQueRefIdeal : Cert.QueRefIdeal.Facts] : Prop :=
  ∀ (m : (ℓ : Loc Cert.QueRefIdeal.nD Cert.QueRefIdeal.τ Cert.QueRefIdeal.sig) → Buf (Elt Ideal) ℓ) (g : Dev Cert.QueRefIdeal.nD → PrngReg), Pre_QueRefIdeal m →
    θ_run (Cert.QueRefIdeal.defs (F := Ideal)) (onTc (τ := Cert.QueRefIdeal.τ) (Cert.QueRefIdeal.main (F := Ideal))) ⟨m, fun _ => 0, g⟩ (fun r => (∀ c : Dev Cert.QueRefIdeal.nD,
      r.2.mem ((c.tc : Thread Cert.QueRefIdeal.nD Cert.QueRefIdeal.τ).loc Cert.QueRefIdeal.main_arg0) = m ((c.tc : Thread Cert.QueRefIdeal.nD Cert.QueRefIdeal.τ).loc Cert.QueRefIdeal.main_arg0)
      ∧ r.2.mem ((c.tc : Thread Cert.QueRefIdeal.nD Cert.QueRefIdeal.τ).loc Cert.QueRefIdeal.main_arg1) = m ((c.tc : Thread Cert.QueRefIdeal.nD Cert.QueRefIdeal.τ).loc Cert.QueRefIdeal.main_arg1)
      ∧ r.2.mem ((c.tc : Thread Cert.QueRefIdeal.nD Cert.QueRefIdeal.τ).loc Cert.QueRefIdeal.main_arg2) = m ((c.tc : Thread Cert.QueRefIdeal.nD Cert.QueRefIdeal.τ).loc Cert.QueRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v23) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v62) = v0 c
          ∧ r.2.mem ((c.tc : Thread Cert.MixRefIdeal.nD Cert.MixRefIdeal.τ).loc Cert.MixRefIdeal.main_v64) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Up_UpIdeal : Prop :=
  IdealRules.bf16_pair.BufferStatement Cert.UpIdeal.S2x8x2x256 Cert.UpIdeal.S2x8x1x256
  ∧ IdealRules.bf16_pair.Statement Cert.UpIdeal.S2x8x2x256 Cert.UpIdeal.S2x8x1x256
  ∧ IdealRules.bf16_pair.SelectZeroStatement Cert.UpIdeal.S2x8x256
  ∧ IdealRules.bf16_pair.PackStatement Cert.UpIdeal.S1024x256
  ∧ IdealRules.bf16_pair.Statement Cert.UpIdeal.S1x8x2x256 Cert.UpIdeal.S1x8x1x256
  ∧ IdealRules.bf16_pair.SelectZeroStatement Cert.UpIdeal.S8x256
  ∧ IdealRules.bf16_pair.Statement Cert.UpIdeal.S2064x256 Cert.UpIdeal.S1032x256
  ∧ IdealRules.bf16_pair.PackStatement Cert.UpIdeal.S8x256
  ∧ IdealRules.bf16_pair.Statement Cert.UpIdeal.S16x256 Cert.UpIdeal.S8x256
  ∧ IdealRules.bf16_pair.Statement Cert.UpIdeal.S2048x256 Cert.UpIdeal.S1024x256
  ∧ IdealRules.named_const.Statement Cert.UpIdeal.κ "nlog2e" .f32 0xBFB8AA3B#32 ((-((Real.log 2)⁻¹) : ℝ) : EReal)

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v32) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Inp_InpIdeal : Prop :=
  IdealRules.named_const.Statement Cert.InpIdeal.κ "qscale" .f32 0x3E38AA3B#32 (((8 * (Real.log 2))⁻¹ : ℝ) : EReal)

def algebraic_InpIdeal_InpRefIdeal_pre_finite_key [hInpIdeal : Cert.InpIdeal.Facts] [hInpRefIdeal : Cert.InpRefIdeal.Facts] [hPre_finite_key : Cert.Pre_finite_key.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_key m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v1) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v16) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Que_QueIdeal : Prop :=
  True

def algebraic_QueIdeal_QueRefIdeal [hQueIdeal : Cert.QueIdeal.Facts] [hQueRefIdeal : Cert.QueRefIdeal.Facts] : Prop :=
  ∀ (m : (ℓ : Loc Cert.QueIdeal.nD Cert.QueIdeal.τ Cert.QueIdeal.sig) → Buf (Elt Ideal) ℓ) (g : Dev Cert.QueIdeal.nD → PrngReg)
    (m' : (ℓ : Loc Cert.QueRefIdeal.nD Cert.QueRefIdeal.τ Cert.QueRefIdeal.sig) → Buf (Elt Ideal) ℓ) (g' : Dev Cert.QueRefIdeal.nD → PrngReg), Pre_QueIdeal m →
    (∀ c : Dev Cert.QueIdeal.nD,
      m' ((c.tc : Thread Cert.QueRefIdeal.nD Cert.QueRefIdeal.τ).loc Cert.QueRefIdeal.main_arg0) = m ((c.tc : Thread Cert.QueIdeal.nD Cert.QueIdeal.τ).loc Cert.QueIdeal.main_arg0)
      ∧ m' ((c.tc : Thread Cert.QueRefIdeal.nD Cert.QueRefIdeal.τ).loc Cert.QueRefIdeal.main_arg1) = m ((c.tc : Thread Cert.QueIdeal.nD Cert.QueIdeal.τ).loc Cert.QueIdeal.main_arg1)
      ∧ m' ((c.tc : Thread Cert.QueRefIdeal.nD Cert.QueRefIdeal.τ).loc Cert.QueRefIdeal.main_arg2) = m ((c.tc : Thread Cert.QueIdeal.nD Cert.QueIdeal.τ).loc Cert.QueIdeal.main_arg2)) →
    ∃ (v0 : (c : Dev Cert.QueIdeal.nD) → Buf (Elt Ideal) ((c.tc : Thread Cert.QueIdeal.nD Cert.QueIdeal.τ).loc Cert.QueIdeal.main_v28_0)) (v1 : (c : Dev Cert.QueIdeal.nD) → Buf (Elt Ideal) ((c.tc : Thread Cert.QueIdeal.nD Cert.QueIdeal.τ).loc Cert.QueIdeal.main_v28_1)),
      θ_run (Cert.QueIdeal.defs (F := Ideal)) (onTc (τ := Cert.QueIdeal.τ) (Cert.QueIdeal.main (F := Ideal))) ⟨m, fun _ => 0, g⟩ (fun r => ∀ c : Dev Cert.QueIdeal.nD,
          r.2.mem ((c.tc : Thread Cert.QueIdeal.nD Cert.QueIdeal.τ).loc Cert.QueIdeal.main_v28_0) = v0 c
          ∧ r.2.mem ((c.tc : Thread Cert.QueIdeal.nD Cert.QueIdeal.τ).loc Cert.QueIdeal.main_v28_1) = v1 c
          ∧ r.2.mem ((c.tc : Thread Cert.QueIdeal.nD Cert.QueIdeal.τ).loc Cert.QueIdeal.main_arg0) = m ((c.tc : Thread Cert.QueIdeal.nD Cert.QueIdeal.τ).loc Cert.QueIdeal.main_arg0)
          ∧ r.2.mem ((c.tc : Thread Cert.QueIdeal.nD Cert.QueIdeal.τ).loc Cert.QueIdeal.main_arg1) = m ((c.tc : Thread Cert.QueIdeal.nD Cert.QueIdeal.τ).loc Cert.QueIdeal.main_arg1)
          ∧ r.2.mem ((c.tc : Thread Cert.QueIdeal.nD Cert.QueIdeal.τ).loc Cert.QueIdeal.main_arg2) = m ((c.tc : Thread Cert.QueIdeal.nD Cert.QueIdeal.τ).loc Cert.QueIdeal.main_arg2))
      ∧ θ_run (Cert.QueRefIdeal.defs (F := Ideal)) (onTc (τ := Cert.QueRefIdeal.τ) (Cert.QueRefIdeal.main (F := Ideal))) ⟨m', fun _ => 0, g'⟩ (fun r => ∀ c : Dev Cert.QueRefIdeal.nD,
          r.2.mem ((c.tc : Thread Cert.QueRefIdeal.nD Cert.QueRefIdeal.τ).loc Cert.QueRefIdeal.main_v52) = v0 c
          ∧ r.2.mem ((c.tc : Thread Cert.QueRefIdeal.nD Cert.QueRefIdeal.τ).loc Cert.QueRefIdeal.main_v54) = v1 c
          ∧ r.2.mem ((c.tc : Thread Cert.QueRefIdeal.nD Cert.QueRefIdeal.τ).loc Cert.QueRefIdeal.main_arg0) = m' ((c.tc : Thread Cert.QueRefIdeal.nD Cert.QueRefIdeal.τ).loc Cert.QueRefIdeal.main_arg0)
          ∧ r.2.mem ((c.tc : Thread Cert.QueRefIdeal.nD Cert.QueRefIdeal.τ).loc Cert.QueRefIdeal.main_arg1) = m' ((c.tc : Thread Cert.QueRefIdeal.nD Cert.QueRefIdeal.τ).loc Cert.QueRefIdeal.main_arg1)
          ∧ r.2.mem ((c.tc : Thread Cert.QueRefIdeal.nD Cert.QueRefIdeal.τ).loc Cert.QueRefIdeal.main_arg2) = m' ((c.tc : Thread Cert.QueRefIdeal.nD Cert.QueRefIdeal.τ).loc Cert.QueRefIdeal.main_arg2))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hUp : Cert.Up.Facts) (hUpIdeal : Cert.UpIdeal.Facts) (hUpRefIdeal : Cert.UpRefIdeal.Facts) (hInp : Cert.Inp.Facts) (hInpIdeal : Cert.InpIdeal.Facts) (hInpRefIdeal : Cert.InpRefIdeal.Facts) (hQue : Cert.Que.Facts) (hQueIdeal : Cert.QueIdeal.Facts) (hQueRefIdeal : Cert.QueRefIdeal.Facts) (hPre_finite_scores : Cert.Pre_finite_scores.Facts) (hPre_finite_key : Cert.Pre_finite_key.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Down (hDown := hDown)
    ∧ quiescent_DownIdeal (hDownIdeal := hDownIdeal)
    ∧ quiescent_DownRefIdeal (hDownRefIdeal := hDownRefIdeal)
    ∧ quiescent_Mix (hMix := hMix)
    ∧ quiescent_MixIdeal (hMixIdeal := hMixIdeal)
    ∧ quiescent_MixRefIdeal (hMixRefIdeal := hMixRefIdeal)
    ∧ quiescent_Up (hUp := hUp)
    ∧ quiescent_UpIdeal (hUpIdeal := hUpIdeal)
    ∧ quiescent_UpRefIdeal (hUpRefIdeal := hUpRefIdeal)
    ∧ quiescent_Inp (hInp := hInp)
    ∧ quiescent_InpIdeal (hInpIdeal := hInpIdeal)
    ∧ quiescent_InpIdeal_pre_finite_key (hInpIdeal := hInpIdeal) (hPre_finite_key := hPre_finite_key)
    ∧ quiescent_InpRefIdeal (hInpRefIdeal := hInpRefIdeal)
    ∧ quiescent_InpRefIdeal_pre_finite_key (hInpRefIdeal := hInpRefIdeal) (hPre_finite_key := hPre_finite_key)
    ∧ quiescent_Que (hQue := hQue)
    ∧ quiescent_QueIdeal (hQueIdeal := hQueIdeal)
    ∧ quiescent_QueRefIdeal (hQueRefIdeal := hQueRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Down_DownIdeal
    ∧ algebraic_DownIdeal_DownRefIdeal (hDownIdeal := hDownIdeal) (hDownRefIdeal := hDownRefIdeal)
    ∧ preserves_Mix_MixIdeal
    ∧ algebraic_MixIdeal_MixRefIdeal (hMixIdeal := hMixIdeal) (hMixRefIdeal := hMixRefIdeal)
    ∧ preserves_Up_UpIdeal
    ∧ algebraic_UpIdeal_UpRefIdeal (hUpIdeal := hUpIdeal) (hUpRefIdeal := hUpRefIdeal)
    ∧ preserves_Inp_InpIdeal
    ∧ algebraic_InpIdeal_InpRefIdeal_pre_finite_key (hInpIdeal := hInpIdeal) (hInpRefIdeal := hInpRefIdeal) (hPre_finite_key := hPre_finite_key)
    ∧ preserves_Que_QueIdeal
    ∧ algebraic_QueIdeal_QueRefIdeal (hQueIdeal := hQueIdeal) (hQueRefIdeal := hQueRefIdeal)
-- ==== Pre_finite_key.lean ====
abbrev S16384x2048 : Shape := ⟨2, ![16384, 2048]⟩
abbrev S2048x8000 : Shape := ⟨2, ![2048, 8000]⟩
abbrev S_ : Shape := ⟨0, ![]⟩
abbrev S2048x64 : Shape := ⟨2, ![2048, 64]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  slices_S2048x8000_S2048x64_0_1280 : S2048x8000.Slices ![0, 1280] S2048x64
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S16384x2048 .bf16) (main_arg1 : FVec F S2048x8000 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S2048x64 .f32 := (extractStridedSlice S2048x64 ![0, 1280] · slices_S2048x8000_S2048x64_0_1280) main_arg1
  let main_v6 : FVec F S2048x64 .f32 := Host.absf main_v5
  let main_cst_0 : FVec F S_ .f32 := constant S_ .f32 0x7F800000#32
  let main_v7 : FVec F S2048x64 .f32 := broadcastInDim S2048x64 ![] bcast_S_S2048x64 main_cst_0
  let main_v8 : IVec S2048x64 1 := cmpf .olt main_v6 main_v7
  let main_c_1 : IVec S_ 1 := constantI S_ 1 1#1
  let main_v9 : IVec S_ 1 := (fun x v => Host.reduce IntOp.andi x v reducesTo_S2048x64_S_d0_1 h_S_) main_v8 main_c_1
  let main_v10 : IVec S_ 1 := andi main_v4 main_v9
  main_v10
-- ==== Pre_finite_scores.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S_ : Shape := ⟨0, ![]⟩

class Facts : Prop where
  bcast_S_S4x4096x16x128 : S_.BroadcastsInDim S4x4096x16x128 (![] : Fin 0 → Fin S4x4096x16x128.rank)
  reducesTo_S4x4096x16x128_S_d0_1_2_3 : S4x4096x16x128.ReducesTo [0, 1, 2, 3] S_
  h_S_ : 0 < S_.numel
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  bcast_S_S4x4096x64 : S_.BroadcastsInDim S4x4096x64 (![] : Fin 0 → Fin S4x4096x64.rank)
  reducesTo_S4x4096x64_S_d0_1_2 : S4x4096x64.ReducesTo [0, 1, 2] S_

variable [Facts]

def fn_part1 {F : FTy → Type} [FloatOps F] (main_v13 : IVec S_ 1) (main_v16 : IVec S4x4096x64 1) : IVec S_ 1 :=
  let main_c_5 : IVec S_ 1 := constantI S_ 1 1#1
  let main_v17 : IVec S_ 1 := (fun x v => Host.reduce IntOp.andi x v reducesTo_S4x4096x64_S_d0_1_2 h_S_) main_v16 main_c_5
  let main_v18 : IVec S_ 1 := andi main_v13 main_v17
  main_v18

def fn {F : FTy → Type} [FloatOps F] (main_arg0 : FVec F S4x4096x16x128 .f32) (main_arg1 : FVec F S4x4096x16x64 .f32) (main_arg2 : FVec F S4x4096x16x128 .f32) (main_arg3 : FVec F S4x4096x64 .f32) (main_arg4 : FVec F S4x4096x16x128 .f32) : IVec S_ 1 :=
  let main_v0 : FVec F S4x4096x16x128 .f32 := Host.absf main_arg0
  let main_cst : FVec F S_ .f32 := constant S_ .f32 0x7F800000#32
  let main_v1 : FVec F S4x4096x16x128 .f32 := broadcastInDim S4x4096x16x128 ![] bcast_S_S4x4096x16x128 main_cst
  let main_v2 : IVec S4x4096x16x128 1 := cmpf .olt main_v0 main_v1
  let main_c : IVec S_ 1 := constantI S_ 1 1#1
  let main_v3 : IVec S_ 1 := (fun x v => Host.reduce IntOp.andi x v reducesTo_S4x4096x16x128_S_d0_1_2_3 h_S_) main_v2 main_c
  let main_v4 : FVec F S4x4096x16x64 .f32 := Host.absf main_arg1
  let main_cst_0 : FVec F S_ .f32 := constant S_ .f32 0x7F800000#32
  let main_v5 : FVec F S4x4096x16x64 .f32 := broadcastInDim S4x4096x16x64 ![] bcast_S_S4x4096x16x64 main_cst_0
  let main_v6 : IVec S4x4096x16x64 1 := cmpf .olt main_v4 main_v5
  let main_c_1 : IVec S_ 1 := constantI S_ 1 1#1
  let main_v7 : IVec S_ 1 := (fun x v => Host.reduce IntOp.andi x v reducesTo_S4x4096x16x64_S_d0_1_2_3 h_S_) main_v6 main_c_1
  let main_v8 : IVec S_ 1 := andi main_v3 main_v7
  let main_v9 : FVec F S4x4096x16x128 .f32 := Host.absf main_arg2
  let main_cst_2 : FVec F S_ .f32 := constant S_ .f32 0x7F800000#32
  let main_v10 : FVec F S4x4096x16x128 .f32 := broadcastInDim S4x4096x16x128 ![] bcast_S_S4x4096x16x128 main_cst_2
  let main_v11 : IVec S4x4096x16x128 1 := cmpf .olt main_v9 main_v10
  let main_c_3 : IVec S_ 1 := constantI S_ 1 1#1
  let main_v12 : IVec S_ 1 := (fun x v => Host.reduce IntOp.andi x v reducesTo_S4x4096x16x128_S_d0_1_2_3 h_S_) main_v11 main_c_3
  let main_v13 : IVec S_ 1 := andi main_v8 main_v12
  let main_v14 : FVec F S4x4096x64 .f32 := Host.absf main_arg3
  let main_cst_4 : FVec F S_ .f32 := constant S_ .f32 0x7F800000#32
  let main_v15 : FVec F S4x4096x64 .f32 := broadcastInDim S4x4096x64 ![] bcast_S_S4x4096x64 main_cst_4
  let main_v16 : IVec S4x4096x64 1 := cmpf .olt main_v14 main_v15
  fn_part1 (F := F) main_v13 main_v16
-- ==== Kernel.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S_ : Shape := ⟨0, ![]⟩
abbrev S16384x2048 : Shape := ⟨2, ![16384, 2048]⟩
abbrev S16384x1024 : Shape := ⟨2, ![16384, 1024]⟩
abbrev S4x4096x128 : Shape := ⟨3, ![4, 4096, 128]⟩
abbrev S16384x128 : Shape := ⟨2, ![16384, 128]⟩
abbrev S4x8x512x16x128 : Shape := ⟨5, ![4, 8, 512, 16, 128]⟩
abbrev S4x16x8x128x512 : Shape := ⟨5, ![4, 16, 8, 128, 512]⟩
abbrev S4x16x8x16x512 : Shape := ⟨5, ![4, 16, 8, 16, 512]⟩
abbrev S4x16x8x144x512 : Shape := ⟨5, ![4, 16, 8, 144, 512]⟩
abbrev S4096x128 : Shape := ⟨2, ![4096, 128]⟩
abbrev S1x1x8x144x512 : Shape := ⟨5, ![1, 1, 8, 144, 512]⟩
abbrev S2x512x256 : Shape := ⟨3, ![2, 512, 256]⟩
abbrev S3x512x512 : Shape := ⟨3, ![3, 512, 512]⟩
abbrev S2x512x512 : Shape := ⟨3, ![2, 512, 512]⟩
abbrev S144x512 : Shape := ⟨2, ![144, 512]⟩
abbrev S512x128 : Shape := ⟨2, ![512, 128]⟩
abbrev S512x256 : Shape := ⟨2, ![512, 256]⟩
abbrev S1x512x256 : Shape := ⟨3, ![1, 512, 256]⟩
abbrev S256x256 : Shape := ⟨2, ![256, 256]⟩
abbrev S256x512 : Shape := ⟨2, ![256, 512]⟩
abbrev S1x256x512 : Shape := ⟨3, ![1, 256, 512]⟩
abbrev S1x256x256 : Shape := ⟨3, ![1, 256, 256]⟩
abbrev S512x512 : Shape := ⟨2, ![512, 512]⟩
abbrev S1x512x512 : Shape := ⟨3, ![1, 512, 512]⟩
abbrev S1x512 : Shape := ⟨2, ![1, 512]⟩
abbrev S1x256 : Shape := ⟨2, ![1, 256]⟩
abbrev S256 : Shape := ⟨1, ![256]⟩
abbrev S1x1x1x144x512 : Shape := ⟨5, ![1, 1, 1, 144, 512]⟩
abbrev S144x256 : Shape := ⟨2, ![144, 256]⟩
abbrev S128x256 : Shape := ⟨2, ![128, 256]⟩
abbrev S128x512 : Shape := ⟨2, ![128, 512]⟩
abbrev S512 : Shape := ⟨1, ![512]⟩

abbrev nBuf : Space → Nat
  | .hbm => 31
  | .vmem => 16
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x64, .f32⟩
  | .hbm, ⟨2, _⟩ => ⟨S4x4096x16x128, .f32⟩
  | .hbm, ⟨3, _⟩ => ⟨S4x4096x64, .f32⟩
  | .hbm, ⟨4, _⟩ => ⟨S4x4096x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x16x128, .f32⟩
  | .hbm, ⟨11, _⟩ => ⟨S4x4096x16x128, .f32⟩
  | .hbm, ⟨12, _⟩ => ⟨S16384x2048, .f32⟩
  | .hbm, ⟨13, _⟩ => ⟨S16384x2048, .bf16⟩
  | .hbm, ⟨14, _⟩ => ⟨S_, .f32⟩
  | .hbm, ⟨15, _⟩ => ⟨S4x4096x16x64, .f32⟩
  | .hbm, ⟨16, _⟩ => ⟨S4x4096x16x64, .f32⟩
  | .hbm, ⟨17, _⟩ => ⟨S16384x1024, .f32⟩
  | .hbm, ⟨18, _⟩ => ⟨S16384x1024, .bf16⟩
  | .hbm, ⟨19, _⟩ => ⟨S16384x2048, .f32⟩
  | .hbm, ⟨20, _⟩ => ⟨S16384x2048, .bf16⟩
  | .hbm, ⟨21, _⟩ => ⟨S4x4096x128, .f32⟩
  | .hbm, ⟨22, _⟩ => ⟨S16384x128, .f32⟩
  | .hbm, ⟨23, _⟩ => ⟨S16384x128, .bf16⟩
  | .hbm, ⟨24, _⟩ => ⟨S4x8x512x16x128, .f32⟩
  | .hbm, ⟨25, _⟩ => ⟨S4x16x8x128x512, .f32⟩
  | .hbm, ⟨26, _⟩ => ⟨S_, .f32⟩
  | .hbm, ⟨27, _⟩ => ⟨S4x16x8x16x512, .f32⟩
  | .hbm, ⟨28, _⟩ => ⟨S4x16x8x144x512, .f32⟩
  | .hbm, ⟨29, _⟩ => ⟨S4x16x8x144x512, .bf16⟩
  | .hbm, ⟨30, _⟩ => ⟨S16384x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x1x8x144x512, .bf16⟩
  | .local _ .vmem, ⟨9, _⟩ => ⟨S1x1x8x144x512, .bf16⟩
  | .local _ .vmem, ⟨10, _⟩ => ⟨S4096x128, .bf16⟩
  | .local _ .vmem, ⟨11, _⟩ => ⟨S4096x128, .bf16⟩
  | .local _ .vmem, ⟨12, _⟩ => ⟨S2x512x256, .bf16⟩
  | .local _ .vmem, ⟨13, _⟩ => ⟨S3x512x512, .f32⟩
  | .local _ .vmem, ⟨14, _⟩ => ⟨S2x512x512, .bf16⟩
  | .local _ .vmem, ⟨15, _⟩ => ⟨S144x512, .f32⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S4x16x4096x4096 : Shape := ⟨4, ![4, 16, 4096, 4096]⟩
abbrev S4x4096x4096x16 : Shape := ⟨4, ![4, 4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x64, .f32⟩
  | .hbm, ⟨2, _⟩ => ⟨S4x4096x16x128, .f32⟩
  | .hbm, ⟨3, _⟩ => ⟨S4x4096x64, .f32⟩
  | .hbm, ⟨4, _⟩ => ⟨S4x4096x16x128, .f32⟩
  | .hbm, ⟨5, _⟩ => ⟨S4x16x4096x4096, .f32⟩
  | .hbm, ⟨6, _⟩ => ⟨S4x4096x4096x16, .f32⟩
  | .hbm, ⟨7, _⟩ => ⟨S4x16x4096x4096, .f32⟩
  | .hbm, ⟨8, _⟩ => ⟨S4x16x4096x4096, .f32⟩
  | .hbm, ⟨9, _⟩ => ⟨S_, .f32⟩
  | .hbm, ⟨10, _⟩ => ⟨S4x16x4096x4096, .f32⟩
  | .hbm, ⟨11, _⟩ => ⟨S4x16x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4x16x4096x4096, .i1⟩
  | .hbm, ⟨21, _⟩ => ⟨S4x16x4096x4096, .f32⟩
  | .hbm, ⟨22, _⟩ => ⟨S4x16x4096x4096, .f32⟩
  | .hbm, ⟨23, _⟩ => ⟨S_, .f32⟩
  | .hbm, ⟨24, _⟩ => ⟨S4x16x4096, .f32⟩
  | .hbm, ⟨25, _⟩ => ⟨S_, .f32⟩
  | .hbm, ⟨26, _⟩ => ⟨S4x16x4096, .f32⟩
  | .hbm, ⟨27, _⟩ => ⟨S4x16x4096, .f32⟩
  | .hbm, ⟨28, _⟩ => ⟨S4x16x4096x1, .f32⟩
  | .hbm, ⟨29, _⟩ => ⟨S4x16x4096x4096, .f32⟩
  | .hbm, ⟨30, _⟩ => ⟨S4x16x4096x4096, .f32⟩
  | .hbm, ⟨31, _⟩ => ⟨S4x16x4096x4096, .f32⟩
  | .hbm, ⟨32, _⟩ => ⟨S_, .f32⟩
  | .hbm, ⟨33, _⟩ => ⟨S4x16x4096, .f32⟩
  | .hbm, ⟨34, _⟩ => ⟨S4x16x4096x1, .f32⟩
  | .hbm, ⟨35, _⟩ => ⟨S4x16x4096x4096, .f32⟩
  | .hbm, ⟨36, _⟩ => ⟨S4x16x4096x4096, .f32⟩
  | .hbm, ⟨37, _⟩ => ⟨S4x16x128x4096, .f32⟩
  | .hbm, ⟨38, _⟩ => ⟨S4x4096x16x128, .f32⟩
  | .hbm, ⟨39, _⟩ => ⟨S16384x2048, .f32⟩
  | .hbm, ⟨40, _⟩ => ⟨S16384x2048, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Down.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S4x6x2048 : Shape := ⟨3, ![4, 6, 2048]⟩
abbrev S1x2048 : Shape := ⟨2, ![1, 2048]⟩
abbrev S256x5632 : Shape := ⟨2, ![256, 5632]⟩
abbrev S256x2048 : Shape := ⟨2, ![256, 2048]⟩
abbrev S1x6x2048 : Shape := ⟨3, ![1, 6, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S4x6x2048, .f32⟩
  | .hbm, ⟨5, _⟩ => ⟨S5632x2048, .bf16⟩
  | .hbm, ⟨6, _⟩ => ⟨S1x2048, .f32⟩
  | .hbm, ⟨7, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x6x2048, .f32⟩
  | .local _ .vmem, ⟨7, _⟩ => ⟨S1x6x2048, .f32⟩
  | .local _ .vmem, ⟨8, _⟩ => ⟨S256x2048, .f32⟩
  | .local _ .vmem, ⟨9, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S4x6x2048 : Shape := ⟨3, ![4, 6, 2048]⟩
abbrev S4x1x2048 : Shape := ⟨3, ![4, 1, 2048]⟩
abbrev S4x2048 : Shape := ⟨2, ![4, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S4x6x2048, .f32⟩
  | .hbm, ⟨5, _⟩ => ⟨S4x1x2048, .f32⟩
  | .hbm, ⟨6, _⟩ => ⟨S4x2048, .f32⟩
  | .hbm, ⟨7, _⟩ => ⟨S4x1x2048, .f32⟩
  | .hbm, ⟨8, _⟩ => ⟨S16384x5632, .f32⟩
  | .hbm, ⟨9, _⟩ => ⟨S16384x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Mix.lean ====
abbrev S16384x2048 : Shape := ⟨2, ![16384, 2048]⟩
abbrev S16384x8192 : Shape := ⟨2, ![16384, 8192]⟩
abbrev S2048x2048 : Shape := ⟨2, ![2048, 2048]⟩
abbrev S2048 : Shape := ⟨1, ![2048]⟩
abbrev S4x6x2048 : Shape := ⟨3, ![4, 6, 2048]⟩
abbrev S1x2048 : Shape := ⟨2, ![1, 2048]⟩
abbrev S512x2048 : Shape := ⟨2, ![512, 2048]⟩
abbrev S1x6x2048 : Shape := ⟨3, ![1, 6, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 13
  | .vmem => 19
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .bf16⟩
  | .hbm, ⟨3, _⟩ => ⟨S2048x2048, .f32⟩
  | .hbm, ⟨4, _⟩ => ⟨S16384x2048, .f32⟩
  | .hbm, ⟨5, _⟩ => ⟨S2048, .f32⟩
  | .hbm, ⟨6, _⟩ => ⟨S2048, .f32⟩
  | .hbm, ⟨7, _⟩ => ⟨S4x6x2048, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S1x6x2048, .f32⟩
  | .local _ .vmem, ⟨14, _⟩ => ⟨S1x6x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x6x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S16384x2048 : Shape := ⟨2, ![16384, 2048]⟩
abbrev S16384x8192 : Shape := ⟨2, ![16384, 8192]⟩
abbrev S2048x2048 : Shape := ⟨2, ![2048, 2048]⟩
abbrev S2048 : Shape := ⟨1, ![2048]⟩
abbrev S4x6x2048 : Shape := ⟨3, ![4, 6, 2048]⟩
abbrev S16384x4096 : Shape := ⟨2, ![16384, 4096]⟩
abbrev S_ : Shape := ⟨0, ![]⟩
abbrev S4x4096x2048 : Shape := ⟨3, ![4, 4096, 2048]⟩
abbrev S4x1x2048 : Shape := ⟨3, ![4, 1, 2048]⟩
abbrev S4x2048 : Shape := ⟨2, ![4, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .bf16⟩
  | .hbm, ⟨3, _⟩ => ⟨S2048x2048, .f32⟩
  | .hbm, ⟨4, _⟩ => ⟨S16384x2048, .f32⟩
  | .hbm, ⟨5, _⟩ => ⟨S2048, .f32⟩
  | .hbm, ⟨6, _⟩ => ⟨S2048, .f32⟩
  | .hbm, ⟨7, _⟩ => ⟨S4x6x2048, .f32⟩
  | .hbm, ⟨8, _⟩ => ⟨S16384x4096, .bf16⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S4x4096x2048, .f32⟩
  | .hbm, ⟨27, _⟩ => ⟨S4x4096x2048, .f32⟩
  | .hbm, ⟨28, _⟩ => ⟨S4x1x2048, .f32⟩
  | .hbm, ⟨29, _⟩ => ⟨S4x2048, .f32⟩
  | .hbm, ⟨30, _⟩ => ⟨S4x1x2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x2048, .f32⟩
  | .hbm, ⟨62, _⟩ => ⟨S4x4096x2048, .f32⟩
  | .hbm, ⟨63, _⟩ => ⟨S1x1x2048, .f32⟩
  | .hbm, ⟨64, _⟩ => ⟨S4x4096x2048, .f32⟩
  | .hbm, ⟨65, _⟩ => ⟨S4x4096x2048, .f32⟩
  | .hbm, ⟨66, _⟩ => ⟨S4x1x2048, .f32⟩
  | .hbm, ⟨67, _⟩ => ⟨S4x2048, .f32⟩
  | .hbm, ⟨68, _⟩ => ⟨S4x1x2048, .f32⟩
  | .hbm, ⟨69, _⟩ => ⟨S_, .f32⟩
  | .hbm, ⟨70, _⟩ => ⟨S4x1x2048, .f32⟩
  | .hbm, ⟨71, _⟩ => ⟨S4x1x2048, .f32⟩
  | .hbm, ⟨72, _⟩ => ⟨S4x4096x2048, .f32⟩
  | .hbm, ⟨73, _⟩ => ⟨S4x4096x2048, .f32⟩
  | .hbm, ⟨74, _⟩ => ⟨S4x1x2048, .f32⟩
  | .hbm, ⟨75, _⟩ => ⟨S4x2048, .f32⟩
  | .hbm, ⟨76, _⟩ => ⟨S4x1x2048, .f32⟩
  | .hbm, ⟨77, _⟩ => ⟨S4x4096x2048, .f32⟩
  | .hbm, ⟨78, _⟩ => ⟨S4x4096x2048, .f32⟩
  | .hbm, ⟨79, _⟩ => ⟨S16384x2048, .f32⟩
  | .hbm, ⟨80, _⟩ => ⟨S16384x2048, .f32⟩
  | .hbm, ⟨81, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Up.lean ====
abbrev S16384x2048 : Shape := ⟨2, ![16384, 2048]⟩
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S16384x5632 : Shape := ⟨2, ![16384, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S2x8x256 : Shape := ⟨3, ![2, 8, 256]⟩
abbrev S2048x256 : Shape := ⟨2, ![2048, 256]⟩
abbrev S1024x256 : Shape := ⟨2, ![1024, 256]⟩
abbrev S8x256 : Shape := ⟨2, ![8, 256]⟩
abbrev S1x8x256 : Shape := ⟨3, ![1, 8, 256]⟩
abbrev S1032x256 : Shape := ⟨2, ![1032, 256]⟩
abbrev S2064x256 : Shape := ⟨2, ![2064, 256]⟩
abbrev S129x16x256 : Shape := ⟨3, ![129, 16, 256]⟩
abbrev S1x256 : Shape := ⟨2, ![1, 256]⟩
abbrev S16x256 : Shape := ⟨2, ![16, 256]⟩
abbrev S1x16x256 : Shape := ⟨3, ![1, 16, 256]⟩

abbrev nBuf : Space → Nat
  | .hbm => 6
  | .vmem => 19
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S1x11264, .f32⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S2048x512, .bf16⟩
  | .local _ .vmem, ⟨17, _⟩ => ⟨S2048x512, .bf16⟩
  | .local _ .vmem, ⟨18, _⟩ => ⟨S2x8x256, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpIdeal.lean ====
abbrev S2x8x2x256 : Shape := ⟨4, ![2, 8, 2, 256]⟩
abbrev S2x8x1x256 : Shape := ⟨4, ![2, 8, 1, 256]⟩
abbrev S1x8x2x256 : Shape := ⟨4, ![1, 8, 2, 256]⟩
abbrev S1x8x1x256 : Shape := ⟨4, ![1, 8, 1, 256]⟩
  | .local _ .vmem, ⟨18, _⟩ => ⟨S2x8x2x256, .bf16⟩
variable {F : FTy → Type} [FloatOps F] [Named F]
def κ : String → Option EReal := fun
  | "nlog2e" => some ((-((Real.log 2)⁻¹) : ℝ) : EReal)
  | _ => none
-- ==== UpRefIdeal.lean ====
abbrev S16384x2048 : Shape := ⟨2, ![16384, 2048]⟩
abbrev S2048x11264 : Shape := ⟨2, ![2048, 11264]⟩
abbrev S3x11264 : Shape := ⟨2, ![3, 11264]⟩
abbrev S11264 : Shape := ⟨1, ![11264]⟩
abbrev S16384x11264 : Shape := ⟨2, ![16384, 11264]⟩
abbrev S4x4096x11264 : Shape := ⟨3, ![4, 4096, 11264]⟩
abbrev S_ : Shape := ⟨0, ![]⟩
abbrev S4x4098x11264 : Shape := ⟨3, ![4, 4098, 11264]⟩
abbrev S1x11264 : Shape := ⟨2, ![1, 11264]⟩
abbrev S1x1x11264 : Shape := ⟨3, ![1, 1, 11264]⟩
abbrev S4x4096x5632 : Shape := ⟨3, ![4, 4096, 5632]⟩
abbrev S16384x5632 : Shape := ⟨2, ![16384, 5632]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S16384x2048, .f32⟩
  | .hbm, ⟨5, _⟩ => ⟨S16384x11264, .f32⟩
  | .hbm, ⟨6, _⟩ => ⟨S4x4096x11264, .f32⟩
  | .hbm, ⟨7, _⟩ => ⟨S_, .i32⟩
  | .hbm, ⟨8, _⟩ => ⟨S_, .f32⟩
  | .hbm, ⟨9, _⟩ => ⟨S4x4098x11264, .f32⟩
  | .hbm, ⟨10, _⟩ => ⟨S1x11264, .f32⟩
  | .hbm, ⟨11, _⟩ => ⟨S11264, .f32⟩
  | .hbm, ⟨12, _⟩ => ⟨S4x4096x11264, .f32⟩
  | .hbm, ⟨13, _⟩ => ⟨S1x1x11264, .f32⟩
  | .hbm, ⟨14, _⟩ => ⟨S4x4096x11264, .f32⟩
  | .hbm, ⟨15, _⟩ => ⟨S4x4096x11264, .f32⟩
  | .hbm, ⟨16, _⟩ => ⟨S1x1x11264, .f32⟩
  | .hbm, ⟨17, _⟩ => ⟨S4x4096x11264, .f32⟩
  | .hbm, ⟨18, _⟩ => ⟨S4x4096x11264, .f32⟩
  | .hbm, ⟨19, _⟩ => ⟨S1x11264, .f32⟩
  | .hbm, ⟨20, _⟩ => ⟨S11264, .f32⟩
  | .hbm, ⟨21, _⟩ => ⟨S4x4096x11264, .f32⟩
  | .hbm, ⟨22, _⟩ => ⟨S1x1x11264, .f32⟩
  | .hbm, ⟨23, _⟩ => ⟨S4x4096x11264, .f32⟩
  | .hbm, ⟨24, _⟩ => ⟨S4x4096x11264, .f32⟩
  | .hbm, ⟨25, _⟩ => ⟨S4x4096x11264, .f32⟩
  | .hbm, ⟨26, _⟩ => ⟨S1x11264, .f32⟩
  | .hbm, ⟨27, _⟩ => ⟨S11264, .f32⟩
  | .hbm, ⟨28, _⟩ => ⟨S4x4096x11264, .f32⟩
  | .hbm, ⟨29, _⟩ => ⟨S1x1x11264, .f32⟩
  | .hbm, ⟨30, _⟩ => ⟨S4x4096x11264, .f32⟩
  | .hbm, ⟨31, _⟩ => ⟨S4x4096x11264, .f32⟩
  | .hbm, ⟨32, _⟩ => ⟨S4x4096x11264, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S_, .f32⟩
  | .hbm, ⟨37, _⟩ => ⟨S4x4096x5632, .f32⟩
  | .hbm, ⟨38, _⟩ => ⟨S4x4096x5632, .f32⟩
  | .hbm, ⟨39, _⟩ => ⟨S_, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S16384x5632, .f32⟩
  | .hbm, ⟨46, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Inp.lean ====
abbrev S16384x2048 : Shape := ⟨2, ![16384, 2048]⟩
abbrev S2048x8000 : Shape := ⟨2, ![2048, 8000]⟩
abbrev S8000x2048 : Shape := ⟨2, ![8000, 2048]⟩
abbrev S16384x8192 : Shape := ⟨2, ![16384, 8192]⟩
abbrev S1024x2048 : Shape := ⟨2, ![1024, 2048]⟩
abbrev S512x2048 : Shape := ⟨2, ![512, 2048]⟩
abbrev S1024x1024 : Shape := ⟨2, ![1024, 1024]⟩
abbrev S64x2048 : Shape := ⟨2, ![64, 2048]⟩
abbrev S32x2048 : Shape := ⟨2, ![32, 2048]⟩
abbrev S256x2048 : Shape := ⟨2, ![256, 2048]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x8000, .f32⟩
  | .hbm, ⟨2, _⟩ => ⟨S8000x2048, .f32⟩
  | .hbm, ⟨3, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c2_i32_0 : BitVec 32 := 2#32
  let v2 : BitVec 1 := Scalar.cmpi .sle v1 c2_i32_0
  let c8_i32 : BitVec 32 := 8#32
  let v3 : BitVec 32 := Scalar.muli v1 c8_i32
  let c2_i32_1 : BitVec 32 := 2#32
  let v4 : BitVec 32 := Scalar.subi v1 c2_i32_1
  let c1_i32 : BitVec 32 := 1#32
  let v5 : BitVec 32 := Scalar.subi v4 c1_i32
  let c8_i32_2 : BitVec 32 := 8#32
  let v6 : BitVec 32 := Scalar.muli v5 c8_i32_2
  let c21_i32 : BitVec 32 := 21#32
  let v7 : BitVec 32 := Scalar.addi c21_i32 v6
  let v8 : BitVec 32 := Scalar.select v2 v3 v7
  let c64_i32 : BitVec 32 := 64#32
  let v9 : BitVec 32 := Scalar.muli v8 c64_i32
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c2_i32_0 : BitVec 32 := 2#32
  let v2 : BitVec 1 := Scalar.cmpi .sle v1 c2_i32_0
  let c8_i32 : BitVec 32 := 8#32
  let v3 : BitVec 32 := Scalar.muli v1 c8_i32
  let c2_i32_1 : BitVec 32 := 2#32
  let v4 : BitVec 32 := Scalar.subi v1 c2_i32_1
  let c1_i32_2 : BitVec 32 := 1#32
  let v5 : BitVec 32 := Scalar.subi v4 c1_i32_2
  let c8_i32_3 : BitVec 32 := 8#32
  let v6 : BitVec 32 := Scalar.muli v5 c8_i32_3
  let c21_i32 : BitVec 32 := 21#32
  let v7 : BitVec 32 := Scalar.addi c21_i32 v6
  let v8 : BitVec 32 := Scalar.select v2 v3 v7
  let c64_i32 : BitVec 32 := 64#32
  let v9 : BitVec 32 := Scalar.muli v8 c64_i32
  let c0_i32 : BitVec 32 := 0#32
  let c0_i32_4 : BitVec 32 := 0#32
  ![v9.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InpIdeal.lean ====
variable {F : FTy → Type} [FloatOps F] [Named F]
def κ : String → Option EReal := fun
  | "qscale" => some (((8 * (Real.log 2))⁻¹ : ℝ) : EReal)
  | _ => none
-- ==== InpRefIdeal.lean ====
abbrev S16384x2048 : Shape := ⟨2, ![16384, 2048]⟩
abbrev S2048x8000 : Shape := ⟨2, ![2048, 8000]⟩
abbrev S16384x8000 : Shape := ⟨2, ![16384, 8000]⟩
abbrev S16384x64 : Shape := ⟨2, ![16384, 64]⟩
abbrev S16384x32 : Shape := ⟨2, ![16384, 32]⟩
abbrev S_ : Shape := ⟨0, ![]⟩
abbrev S16384x1344 : Shape := ⟨2, ![16384, 1344]⟩
abbrev S16384x4608 : Shape := ⟨2, ![16384, 4608]⟩
abbrev S16384x8192 : Shape := ⟨2, ![16384, 8192]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8000, .f32⟩
  | .hbm, ⟨2, _⟩ => ⟨S16384x2048, .f32⟩
  | .hbm, ⟨3, _⟩ => ⟨S16384x8000, .f32⟩
  | .hbm, ⟨4, _⟩ => ⟨S16384x64, .f32⟩
  | .hbm, ⟨5, _⟩ => ⟨S16384x32, .f32⟩
  | .hbm, ⟨6, _⟩ => ⟨S16384x32, .f32⟩
  | .hbm, ⟨7, _⟩ => ⟨S16384x32, .f32⟩
  | .hbm, ⟨8, _⟩ => ⟨S16384x64, .f32⟩
  | .hbm, ⟨9, _⟩ => ⟨S16384x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x1344, .f32⟩
  | .hbm, ⟨18, _⟩ => ⟨S16384x4608, .f32⟩
  | .hbm, ⟨19, _⟩ => ⟨S16384x8192, .f32⟩
  | .hbm, ⟨20, _⟩ => ⟨S16384x8192, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Que.lean ====
abbrev S16384x8192 : Shape := ⟨2, ![16384, 8192]⟩
abbrev S768 : Shape := ⟨1, ![768]⟩
abbrev S768x3072 : Shape := ⟨2, ![768, 3072]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S3072x768 : Shape := ⟨2, ![3072, 768]⟩
abbrev S16x192x768 : Shape := ⟨3, ![16, 192, 768]⟩
abbrev S16x128x768 : Shape := ⟨3, ![16, 128, 768]⟩
abbrev S2048x768 : Shape := ⟨2, ![2048, 768]⟩
abbrev S16x64x768 : Shape := ⟨3, ![16, 64, 768]⟩
abbrev S1024x768 : Shape := ⟨2, ![1024, 768]⟩
abbrev S1x768 : Shape := ⟨2, ![1, 768]⟩
abbrev S16384x2048 : Shape := ⟨2, ![16384, 2048]⟩
abbrev S16384x1024 : Shape := ⟨2, ![16384, 1024]⟩
abbrev S1024x128 : Shape := ⟨2, ![1024, 128]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 37
  | .vmem => 13
  | .smem => 0
  | _ => 0

abbrev bufTy : (tb : Table) → Fin (tcTables nBuf tb) → BufTy
  | .hbm, ⟨0, _⟩ => ⟨S16384x8192, .bf16⟩
  | .hbm, ⟨1, _⟩ => ⟨S768, .f32⟩
  | .hbm, ⟨2, _⟩ => ⟨S768x3072, .f32⟩
  | .hbm, ⟨3, _⟩ => ⟨S4096, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S3072x768, .f32⟩
  | .hbm, ⟨27, _⟩ => ⟨S16x192x768, .f32⟩
  | .hbm, ⟨28, _⟩ => ⟨S16x128x768, .f32⟩
  | .hbm, ⟨29, _⟩ => ⟨S2048x768, .f32⟩
  | .hbm, ⟨30, _⟩ => ⟨S16x64x768, .f32⟩
  | .hbm, ⟨31, _⟩ => ⟨S1024x768, .f32⟩
  | .hbm, ⟨32, _⟩ => ⟨S2048x768, .bf16⟩
  | .hbm, ⟨33, _⟩ => ⟨S1024x768, .bf16⟩
  | .hbm, ⟨34, _⟩ => ⟨S1x768, .f32⟩
  | .hbm, ⟨35, _⟩ => ⟨S16384x2048, .bf16⟩
  | .hbm, ⟨36, _⟩ => ⟨S16384x1024, .bf16⟩
  | .local _ .vmem, ⟨0, _⟩ => ⟨S1024x768, .bf16⟩
  | .local _ .vmem, ⟨1, _⟩ => ⟨S1024x768, .bf16⟩
  | .local _ .vmem, ⟨2, _⟩ => ⟨S1x768, .f32⟩
  | .local _ .vmem, ⟨3, _⟩ => ⟨S2048x768, .bf16⟩
  | .local _ .vmem, ⟨4, _⟩ => ⟨S1024x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x2048, .bf16⟩
  | .local _ .vmem, ⟨10, _⟩ => ⟨S1024x2048, .bf16⟩
  | .local _ .vmem, ⟨11, _⟩ => ⟨S1024x1024, .bf16⟩
  | .local _ .vmem, ⟨12, _⟩ => ⟨S1024x1024, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QueRefIdeal.lean ====
abbrev S16384x8192 : Shape := ⟨2, ![16384, 8192]⟩
abbrev S768 : Shape := ⟨1, ![768]⟩
abbrev S768x3072 : Shape := ⟨2, ![768, 3072]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S16384x768 : Shape := ⟨2, ![16384, 768]⟩
abbrev S16384 : Shape := ⟨1, ![16384]⟩
abbrev S16384x1 : Shape := ⟨2, ![16384, 1]⟩
abbrev S1x768 : Shape := ⟨2, ![1, 768]⟩
abbrev S16384x3072 : Shape := ⟨2, ![16384, 3072]⟩
abbrev S4x4096x16x192 : Shape := ⟨4, ![4, 4096, 16, 192]⟩
abbrev S4x4096x16x64 : Shape := ⟨4, ![4, 4096, 16, 64]⟩
abbrev S4096x1x64 : Shape := ⟨3, ![4096, 1, 64]⟩
abbrev S4x4096x16x32 : Shape := ⟨4, ![4, 4096, 16, 32]⟩
abbrev S1x4096x1x64 : Shape := ⟨4, ![1, 4096, 1, 64]⟩
abbrev S4x4096x16x128 : Shape := ⟨4, ![4, 4096, 16, 128]⟩
abbrev S16384x2048 : Shape := ⟨2, ![16384, 2048]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S768, .f32⟩
  | .hbm, ⟨2, _⟩ => ⟨S768x3072, .f32⟩
  | .hbm, ⟨3, _⟩ => ⟨S4096, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S16384x768, .bf16⟩
  | .hbm, ⟨27, _⟩ => ⟨S16384x768, .f32⟩
  | .hbm, ⟨28, _⟩ => ⟨S16384x768, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x768, .f32⟩
  | .hbm, ⟨40, _⟩ => ⟨S16384x768, .f32⟩
  | .hbm, ⟨41, _⟩ => ⟨S1x768, .f32⟩
  | .hbm, ⟨42, _⟩ => ⟨S16384x768, .f32⟩
  | .hbm, ⟨43, _⟩ => ⟨S16384x768, .f32⟩
  | .hbm, ⟨44, _⟩ => ⟨S16384x3072, .f32⟩
  | .hbm, ⟨45, _⟩ => ⟨S4x4096x16x192, .f32⟩
  | .hbm, ⟨46, _⟩ => ⟨S4x4096x16x64, .f32⟩
  | .hbm, ⟨47, _⟩ => ⟨S4096x1x64, .f32⟩
  | .hbm, ⟨48, _⟩ => ⟨S4096x1x64, .f32⟩
  | .hbm, ⟨49, _⟩ => ⟨S4x4096x16x32, .f32⟩
  | .hbm, ⟨50, _⟩ => ⟨S4x4096x16x32, .f32⟩
  | .hbm, ⟨51, _⟩ => ⟨S4x4096x16x32, .f32⟩
  | .hbm, ⟨52, _⟩ => ⟨S4x4096x16x64, .f32⟩
  | .hbm, ⟨53, _⟩ => ⟨S1x4096x1x64, .f32⟩
  | .hbm, ⟨54, _⟩ => ⟨S4x4096x16x64, .f32⟩
  | .hbm, ⟨55, _⟩ => ⟨S4x4096x16x64, .f32⟩
  | .hbm, ⟨56, _⟩ => ⟨S1x4096x1x64, .f32⟩
  | .hbm, ⟨57, _⟩ => ⟨S4x4096x16x64, .f32⟩
  | .hbm, ⟨58, _⟩ => ⟨S4x4096x16x64, .f32⟩
  | .hbm, ⟨59, _⟩ => ⟨S4x4096x16x64, .f32⟩
  | .hbm, ⟨60, _⟩ => ⟨S4x4096x16x128, .f32⟩
  | .hbm, ⟨61, _⟩ => ⟨S16384x2048, .f32⟩
  | .hbm, ⟨62, _⟩ => ⟨S16384x2048, .bf16⟩
  | .hbm, ⟨63, _⟩ => ⟨S16384x1024, .f32⟩
  | .hbm, ⟨64, _⟩ => ⟨S16384x1024, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩

abbrev nD : Nat := 1
abbrev τ : Topo := Topo.v7x

variable {F : FTy → Type} [FloatOps F]
-- ==== Proof.Frames.lean ====
/- The frames: each program ends without fault, with its arguments and its semaphore counters unchanged. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Mix.Frame
public import proofs.«01_k».proof.Proof.Gen.MixIdeal.Frame
public import proofs.«01_k».proof.Proof.Gen.MixRefIdeal.Run
public import proofs.«01_k».proof.Proof.Gen.Up.Frame
public import proofs.«01_k».proof.Proof.Gen.UpIdeal.Frame
public import proofs.«01_k».proof.Proof.Gen.UpRefIdeal.Run
public import proofs.«01_k».proof.Proof.Gen.Inp.Frame
public import proofs.«01_k».proof.Proof.Gen.InpIdeal.Frame
public import proofs.«01_k».proof.Proof.Gen.InpRefIdeal.Run
public import proofs.«01_k».proof.Proof.Gen.Que.Frame
public import proofs.«01_k».proof.Proof.Gen.QueIdeal.Frame
public import proofs.«01_k».proof.Proof.Gen.QueRefIdeal.Run

@[expose] public section

noncomputable section

namespace Cert.Proof

open Idealize.ShloMosaic Idealize.SL.Sem

/-- The kernel ends without fault and leaves its arguments and counters alone. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference, which has no semaphore at all. -/
theorem frame_referenceIdeal : Cert.quiescent_ReferenceIdeal := fun m ρ _ =>
  (θ_run Cert.ReferenceIdeal.defs _ _).mono (fun r h => ⟨fun c => (h c).2, by
    funext s
    rcases s with ⟨t, sm⟩
    cases sm
    all_goals (rename_i x; exact x.elim0)⟩) (Cert.ReferenceIdeal.Value.run m ρ)

/-- The same for the second product of the feed-forward part. -/
theorem frame_down : Cert.quiescent_Down := fun m ρ _ => Cert.Down.Gen.frame m ρ

/-- The same for the second product of the feed-forward part over the extended reals. -/
theorem frame_downIdeal : Cert.quiescent_DownIdeal := fun m ρ _ => Cert.DownIdeal.Gen.frame m ρ

/-- The same for its reference. -/
theorem frame_downRefIdeal : Cert.quiescent_DownRefIdeal := fun m ρ _ =>
  (θ_run Cert.DownRefIdeal.defs _ _).mono (fun r h => ⟨fun c => (h c).2, by
    funext s
    rcases s with ⟨t, sm⟩
    cases sm
    all_goals (rename_i x; exact x.elim0)⟩) (Cert.DownRefIdeal.Value.run m ρ)

/-- The same for the mixing of the attentions. -/
theorem frame_mix : Cert.quiescent_Mix := fun m ρ _ => Cert.Mix.Gen.frame m ρ

/-- The same for the mixing of the attentions over the extended reals. -/
theorem frame_mixIdeal : Cert.quiescent_MixIdeal := fun m ρ _ => Cert.MixIdeal.Gen.frame m ρ

/-- The same for its reference. -/
theorem frame_mixRefIdeal : Cert.quiescent_MixRefIdeal := fun m ρ _ =>
  (θ_run Cert.MixRefIdeal.defs _ _).mono (fun r h => ⟨fun c => (h c).2.2, by
    funext s
    rcases s with ⟨t, sm⟩
    cases sm
    all_goals (rename_i x; exact x.elim0)⟩) (Cert.MixRefIdeal.Value.run m ρ)

/-- The same for the first product of the feed-forward part. -/
theorem frame_up : Cert.quiescent_Up := fun m ρ _ => Cert.Up.Gen.frame m ρ

/-- The same for the first product of the feed-forward part over the extended reals. -/
theorem frame_upIdeal : Cert.quiescent_UpIdeal := fun m ρ _ => Cert.UpIdeal.Gen.frame m ρ

/-- The same for its reference. -/
theorem frame_upRefIdeal : Cert.quiescent_UpRefIdeal := fun m ρ _ =>
  (θ_run Cert.UpRefIdeal.defs _ _).mono (fun r h => ⟨fun c => (h c).2, by
    funext s
    rcases s with ⟨t, sm⟩
    cases sm
    all_goals (rename_i x; exact x.elim0)⟩) (Cert.UpRefIdeal.Value.run m ρ)

/-- The same for the first projection. -/
theorem frame_in : Cert.quiescent_Inp := fun m ρ _ => Cert.Inp.Gen.frame m ρ

/-- The same for the first projection over the extended reals. -/
theorem frame_inIdeal : Cert.quiescent_InpIdeal := fun m ρ _ => Cert.InpIdeal.Gen.frame m ρ

/-- The same for its reference. -/
theorem frame_inRefIdeal : Cert.quiescent_InpRefIdeal := fun m ρ _ =>
  (θ_run Cert.InpRefIdeal.defs _ _).mono (fun r h => ⟨fun c => (h c).2, by
    funext s
    rcases s with ⟨t, sm⟩
    cases sm
    all_goals (rename_i x; exact x.elim0)⟩) (Cert.InpRefIdeal.Value.run m ρ)

/-- The same for the projection of the queries. -/
theorem frame_q : Cert.quiescent_Que := fun m ρ _ => Cert.Que.Gen.frame m ρ

/-- The same for the projection of the queries over the extended reals. -/
theorem frame_qIdeal : Cert.quiescent_QueIdeal := fun m ρ _ => Cert.QueIdeal.Gen.frame m ρ

/-- The same for its reference. -/
theorem frame_qRefIdeal : Cert.quiescent_QueRefIdeal := fun m ρ _ =>
  (θ_run Cert.QueRefIdeal.defs _ _).mono (fun r h => ⟨fun c => (h c).2.2, by
    funext s
    rcases s with ⟨t, sm⟩
    cases sm
    all_goals (rename_i x; exact x.elim0)⟩) (Cert.QueRefIdeal.Value.run m ρ)

end Cert.Proof

end
-- ==== Proof.Pre.lean ====
/- The precondition says that the queries and the keys are reals. -/
module

public import proofs.«01_k».proof.Proof.Gen.Pre_finite_scores
public import Idealize.ShloMosaic.Lib.ReduceAll
public import Idealize.ShloMosaic.Lib.Pointwise

@[expose] public section

noncomputable section

namespace Cert.Att

open Idealize Idealize.ShloMosaic Cert.Pre_finite_scores

/-- An extended real of magnitude less than the word of infinity is a real. -/
theorem real_of_lt (x : EReal) (h : Ideal.cmp .olt (max x (-x)) (Ideal.ofBits .f32 0x7F800000#32) = 1#1) : x = ((x.toReal : ℝ) : EReal) := by
  have ht : (Ideal.ofBits .f32 0x7F800000#32 : EReal) = ⊤ := by simp [Ideal.ofBits, Ideal.ieee]
  rw [ht] at h
  induction x with
  | bot => exact absurd h (by simp [Ideal.cmp])
  | top => exact absurd h (by simp [Ideal.cmp])
  | coe r => rfl

/-- A conjunction of truth words that is one has both of them one. -/
theorem and_one : ∀ x y : BitVec 1, IntOp.andi x y = 1#1 → x = 1#1 ∧ y = 1#1 := by decide

/-- Under the precondition every query and every key is a real. -/
theorem pre_real (a0 : FVec Ideal S4x4096x16x128 .f32) (a1 : FVec Ideal S4x4096x16x64 .f32) (a2 : FVec Ideal S4x4096x16x128 .f32)
    (a3 : FVec Ideal S4x4096x64 .f32) (a4 : FVec Ideal S4x4096x16x128 .f32) (h : fn a0 a1 a2 a3 a4 = fun _ => 1#1) :
    (∀ i, (a0 i : EReal) = ((EReal.toReal (a0 i) : ℝ) : EReal)) ∧ (∀ i, (a1 i : EReal) = ((EReal.toReal (a1 i) : ℝ) : EReal))
      ∧ (∀ i, (a2 i : EReal) = ((EReal.toReal (a2 i) : ℝ) : EReal)) ∧ (∀ i, (a3 i : EReal) = ((EReal.toReal (a3 i) : ℝ) : EReal)) := by
  have hs : Subsingleton S_.Idx := ⟨fun x y => funext fun a => a.elim0⟩
  have h' := congrFun h (fun a => a.elim0)
  obtain ⟨h', e3⟩ := and_one _ _ h'
  obtain ⟨h', e2⟩ := and_one _ _ h'
  obtain ⟨e0, e1⟩ := and_one _ _ h'
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

end Cert.Att
-- ==== Proof.Tiles.lean ====
/- The values that travel through the kernel body, as functions of the five input blocks of one grid point: the tile of
   queries, the tiles of scores, the running maxima, the tiles of weights, the running sums, and the tile of results. The
   definitions hold for any arithmetic; nothing here computes. -/
module

public import proofs.«01_k».proof.Proof.Gen.KernelIdeal.Value
public import Idealize.ShloMosaic.Lib.Pipeline.ReadBack
public import Idealize.ShloMosaic.Lib.ValueIdx
public import Idealize.ShloMosaic.Lib.Tactic.Stretches

@[expose] public section

set_option maxRecDepth 16384

noncomputable section

namespace Cert.Att

open Idealize.ShloMosaic Idealize.ShloMosaic.ValueIdx Cert.KernelIdeal Cert.KernelIdeal.Gen

variable {F : FTy → Type} [FloatOps F] [Named F]

/-- The 512 rows of a block of tokens that start at row `o`. -/
def rowsAt (o : ℕ) (x : Vec F S4096x128 .bf16) : Vec F S512x128 .bf16 :=
  fun j => x (ix2 (Fin.ofNat 4096 (o + (j 0).val)) (j 1))

/-- Tile `k` of the transposed values of one head. -/
def valsAt (k : ℕ) (x : Vec F S1x1x8x144x512 .bf16) : Vec F S1x1x1x144x512 .bf16 :=
  fun j => x (ix5 0 0 (Fin.ofNat 8 k) (j 3) (j 4))

/-- The queries of tile `g`: the plain part beside the rotated part, the other head's lanes set to zero. -/
def qT (i : grid0.Coords) (x0 x1 : Vec F S4096x128 .bf16) (g : ℕ) : FVec F S1x512x256 .bf16 :=
  k0_pay8 (kernelRun0_A.sl.v10 i) (rowsAt (512 * g) x1) (rowsAt (512 * g) x0)

section
variable (q : FVec F S1x512x256 .bf16) (x2 x3 : Vec F S4096x128 .bf16) (x4 : Vec F S1x1x8x144x512 .bf16)

/-- The scores of key tile `k` against the queries `q`. -/
def sT (k : ℕ) : FVec F S1x512x512 .f32 := k0_pay29 q (rowsAt (512 * k) x2) (rowsAt (512 * k) x3)

/-- The running maxima after `k` key tiles. -/
def mT : ℕ → FVec F S1x512 .f32
  | 0 => k0_pay12
  | k + 1 => k0_pay75 (mT k) (sT q x2 x3 k)

/-- The weights of key tile `k` against the maxima so far. -/
def pT (k : ℕ) : FVec F S1x512x512 .bf16 := k0_pay77 (mT q x2 x3 k) (sT q x2 x3 k)

/-- The running sums after key tile `k`. -/
def aT : ℕ → FVec F S144x512 .f32
  | 0 => k0_pay25 (pT q x2 x3 0) (valsAt 0 x4)
  | k + 1 => k0_pay129 (mT q x2 x3 (k + 1)) (sT q x2 x3 (k + 1)) (pT q x2 x3 (k + 1)) (valsAt (k + 1) x4) (aT k)

/-- The scores of the diagonal tile `g`: the upper left quarter. -/
def dTL (g : ℕ) : FVec F S1x256x256 .f32 :=
  fun j => k0_pay48 q (rowsAt (512 * g) x2) (rowsAt (512 * g) x3) (ix3 0 (j 1) (Fin.castLE (by decide) (j 2)))

/-- The upper right quarter. -/
def dTR (g : ℕ) : FVec F S1x256x256 .f32 :=
  fun j => k0_pay48 q (rowsAt (512 * g) x2) (rowsAt (512 * g) x3) (ix3 0 (j 1) (Fin.natAdd 256 (j 2)))

/-- The lower right quarter. -/
def dBR (g : ℕ) : FVec F S1x256x256 .f32 := k0_pay49 q (rowsAt (512 * g) x2) (rowsAt (512 * g) x3)

/-- The results of the first query tile, which has its diagonal tile alone. -/
def oT0 : FVec F S512x128 .bf16 :=
  k0_pay17 (k0_pay14 (dBR q x2 x3 0)) (k0_pay15 (dTR q x2 x3 0) (dBR q x2 x3 0))
    (k0_pay16 (dTL q x2 x3 0) (dTR q x2 x3 0) (dBR q x2 x3 0)) (valsAt 0 x4)

/-- The results of query tile `g + 1`, with `g + 1` whole key tiles before the diagonal one. -/
def oT (g : ℕ) : FVec F S512x128 .bf16 :=
  k0_pay65 (mT q x2 x3 (g + 1)) (k0_pay60 (dTL q x2 x3 (g + 1))) (k0_pay61 (dTR q x2 x3 (g + 1)))
    (k0_pay62 (dBR q x2 x3 (g + 1))) (k0_pay63 (mT q x2 x3 (g + 1))) (k0_pay64 (dTL q x2 x3 (g + 1)))
    (valsAt (g + 1) x4) (aT q x2 x3 x4 g)

/-- One step of the maxima. -/
theorem mT_step (k : ℕ) : mT q x2 x3 (k + 1) = k0_pay75 (mT q x2 x3 k) (sT q x2 x3 k) := rfl

/-- The first running sum. -/
theorem aT_first : aT q x2 x3 x4 0 = k0_pay25 (pT q x2 x3 0) (valsAt 0 x4) := rfl

/-- One step of the running sums. -/
theorem aT_step (k : ℕ) : aT q x2 x3 x4 (k + 1)
    = k0_pay129 (mT q x2 x3 (k + 1)) (sT q x2 x3 (k + 1)) (pT q x2 x3 (k + 1)) (valsAt (k + 1) x4) (aT q x2 x3 x4 k) := rfl
end

section
variable {sp : Space}

/-- A load of 512 rows from a block of tokens that the argument holds. -/
theorem readRows {arg : Memref sig .tc .vmem S4096x128 .bf16} (h : arg.IsWhole) (o : ℕ)
    (inb : ∀ a, (![o, 0] : Fin 2 → ℕ) a + S512x128.size a ≤ S4096x128.size a) (x : Vec F S4096x128 .bf16) :
    View.readAt (Elt F) arg.view (Rect.unit (s := S4096x128) ![o, 0] (no_index S512x128.size) inb).toLoadRect (h.unread x) = rowsAt o x := by
  rw [View.readAt_eq_ld, h.read_unread]
  funext j
  refine congrArg x ?_
  have h0 : o + 512 ≤ 4096 := inb 0
  have hj : (j 0).val < 512 := (j 0).isLt
  funext a
  match a with
  | ⟨0, _⟩ =>
    apply Fin.ext
    show o + 1 * (j 0).val = (o + (j 0).val) % 4096
    omega
  | ⟨1, _⟩ =>
    apply Fin.ext
    show 0 + 1 * (j 1).val = (j 1).val
    omega

/-- A load of one tile of the transposed values. -/
theorem readVals {arg : Memref sig .tc .vmem S1x1x8x144x512 .bf16} (h : arg.IsWhole) (k : ℕ)
    (inb : ∀ a, (![0, 0, k, 0, 0] : Fin 5 → ℕ) a + S1x1x1x144x512.size a ≤ S1x1x8x144x512.size a)
    (x : Vec F S1x1x8x144x512 .bf16) :
    View.readAt (Elt F) arg.view (Rect.unit (s := S1x1x8x144x512) ![0, 0, k, 0, 0] (no_index S1x1x1x144x512.size) inb).toLoadRect (h.unread x)
      = valsAt k x := by
  rw [View.readAt_eq_ld, h.read_unread]
  funext j
  refine congrArg x ?_
  have h0 : k + 1 ≤ 8 := inb 2
  have hj0 : (j 0).val < 1 := (j 0).isLt
  have hj1 : (j 1).val < 1 := (j 1).isLt
  have hj : (j 2).val < 1 := (j 2).isLt
  funext a
  match a with
  | ⟨0, _⟩ => apply Fin.ext; show 0 + 1 * (j 0).val = 0; omega
  | ⟨1, _⟩ => apply Fin.ext; show 0 + 1 * (j 1).val = 0; omega
  | ⟨2, _⟩ => apply Fin.ext; show k + 1 * (j 2).val = k % 8; omega
  | ⟨3, _⟩ => apply Fin.ext; show 0 + 1 * (j 3).val = (j 3).val; omega
  | ⟨4, _⟩ => apply Fin.ext; show 0 + 1 * (j 4).val = (j 4).val; omega

/-- A load inside the rectangle of the last store reads that store. -/
theorem readWithin {Val : EltTy → Type} [∀ e, Nonempty (Val e)] {sg : RefSig} {κ : Kind} {s : Shape} {e : EltTy}
    (v : View sg κ sp s e) (r : Rect s) (w : r.shape.Idx → Val e) (L : List (View.Piece Val s e)) (B : LoadRect s)
    (f : B.shape.Idx → r.shape.Idx) (hf : ∀ j, B.idx j = r.emb (f j)) : v.readCov (⟨r, w⟩ :: L) B = fun j => w (f j) := by
  rw [View.readCov_eq_canon']
  funext j
  rw [hf j]
  exact View.canon_cons_emb r w L (f j)

/-- A load of the left half of a stored upper half tile of scores. -/
theorem readLeft (v : View sig .tc .vmem S3x512x512 .f32) (n : ℕ)
    (inb : ∀ a, (![n, 0, 0] : Fin 3 → ℕ) a + S1x256x512.size a ≤ S3x512x512.size a)
    (inb' : ∀ a, (![n, 0, 0] : Fin 3 → ℕ) a + S1x256x256.size a ≤ S3x512x512.size a)
    (w : S1x256x512.Idx → Elt F .f32) (L : List (View.Piece (Elt F) S3x512x512 .f32)) :
    v.readCov (⟨Rect.unit (s := S3x512x512) ![n, 0, 0] (no_index S1x256x512.size) inb, w⟩ :: L)
        (Rect.unit (s := S3x512x512) ![n, 0, 0] (no_index S1x256x256.size) inb').toLoadRect
      = fun j : S1x256x256.Idx => w (ix3 0 (j 1) (Fin.castLE (by decide) (j 2))) := by
  refine readWithin v (Rect.unit (s := S3x512x512) ![n, 0, 0] S1x256x512.size inb) w L
    (Rect.unit (s := S3x512x512) ![n, 0, 0] (no_index S1x256x256.size) inb').toLoadRect
    (fun j : S1x256x256.Idx => (ix3 0 (j 1) (Fin.castLE (by decide) (j 2)) : S1x256x512.Idx)) fun j => ?_
  have hj : (j 0).val < 1 := (j 0).isLt
  funext a
  match a with
  | ⟨0, _⟩ => apply Fin.ext; show n + 1 * (j 0).val = n + 1 * 0; omega
  | ⟨1, _⟩ => apply Fin.ext; show 0 + 1 * (j 1).val = 0 + 1 * (j 1).val; rfl
  | ⟨2, _⟩ => apply Fin.ext; show 0 + 1 * (j 2).val = 0 + 1 * (j 2).val; rfl

/-- A load of the right half of a stored upper half tile of scores. -/
theorem readRight (v : View sig .tc .vmem S3x512x512 .f32) (n : ℕ)
    (inb : ∀ a, (![n, 0, 0] : Fin 3 → ℕ) a + S1x256x512.size a ≤ S3x512x512.size a)
    (inb' : ∀ a, (![n, 0, 256] : Fin 3 → ℕ) a + S1x256x256.size a ≤ S3x512x512.size a)
    (w : S1x256x512.Idx → Elt F .f32) (L : List (View.Piece (Elt F) S3x512x512 .f32)) :
    v.readCov (⟨Rect.unit (s := S3x512x512) ![n, 0, 0] (no_index S1x256x512.size) inb, w⟩ :: L)
        (Rect.unit (s := S3x512x512) ![n, 0, 256] (no_index S1x256x256.size) inb').toLoadRect
      = fun j : S1x256x256.Idx => w (ix3 0 (j 1) (Fin.natAdd 256 (j 2))) := by
  refine readWithin v (Rect.unit (s := S3x512x512) ![n, 0, 0] S1x256x512.size inb) w L
    (Rect.unit (s := S3x512x512) ![n, 0, 256] (no_index S1x256x256.size) inb').toLoadRect
    (fun j : S1x256x256.Idx => (ix3 0 (j 1) (Fin.natAdd 256 (j 2)) : S1x256x512.Idx)) fun j => ?_
  have hj : (j 0).val < 1 := (j 0).isLt
  funext a
  match a with
  | ⟨0, _⟩ => apply Fin.ext; show n + 1 * (j 0).val = n + 1 * 0; omega
  | ⟨1, _⟩ => apply Fin.ext; show 0 + 1 * (j 1).val = 0 + 1 * (j 1).val; rfl
  | ⟨2, _⟩ => apply Fin.ext; show 256 + 1 * (j 2).val = 0 + 1 * (256 + (j 2).val); omega
end

end Cert.Att
-- ==== Proof.Math.lean ====
/- The arithmetic of a softmax taken tile by tile, over the extended reals: weights against one maximum are those against
   another times a factor, a factor that is a nonnegative real goes through a sum whatever the terms are, and the quotient
   of the two sums does not depend on the maximum. -/
module

public import Idealize.ShloMosaic.Lib.Pointwise

@[expose] public section

noncomputable section

namespace Cert.Att

open Idealize.ShloMosaic Finset

/-- A nonnegative real factor goes into a sum of extended reals. -/
theorem mul_sum_real {ι : Type*} (c : ℝ) (hc : 0 ≤ c) (s : Finset ι) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of reals, in the extended reals. -/
theorem coe_sum_real {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The maximum of finitely many reals, at least one of them, is a real. -/
theorem sup_real {ι : Type*} (t : Finset ι) (ht : t.Nonempty) (s : ι → ℝ) :
    ∃ M : ℝ, t.sup (fun j => (s j : EReal)) = M := by
  obtain ⟨j, _, hj⟩ := Finset.exists_mem_eq_sup t ht (fun j => (s j : EReal))
  exact ⟨s j, hj⟩

/-- The weights against one maximum, times the factor between two maxima, are the weights against the other. -/
theorem rescale {ι : Type*} (t : Finset ι) (s : ι → ℝ) (V : ι → EReal) (M M' : ℝ) :
    Ideal.exp2 ((M : EReal) - M') * ∑ j ∈ t, V j * Ideal.exp2 ((s j : EReal) - M)
      = ∑ j ∈ t, V j * Ideal.exp2 ((s j : EReal) - M') := by
  have h2 : ∀ x : ℝ, (0 : ℝ) ≤ Real.rpow 2 x := fun x => Real.rpow_nonneg (by norm_num) x
  rw [← EReal.coe_sub, Ideal.exp2_coe, mul_sum_real _ (h2 _)]
  refine Finset.sum_congr rfl fun j _ => ?_
  rw [← EReal.coe_sub, ← EReal.coe_sub, Ideal.exp2_coe, Ideal.exp2_coe, mul_left_comm, ← EReal.coe_mul]
  congr 2
  have h := Real.rpow_add (show (0 : ℝ) < 2 by norm_num) (M - M') (s j - M)
  rw [show M - M' + (s j - M) = s j - M' by ring] at h
  exact h.symm

/-- The quotient of the weighted sum by the sum of the weights, with weights that are powers of two of scores divided by
    `log 2`, is the sum of the values times the softmax of the scores: whatever real the maximum is. -/
theorem ratio {ι : Type*} (t : Finset ι) (ht : t.Nonempty) (s : ι → ℝ) (V : ι → EReal) (M : ℝ) :
    Ideal.div (∑ j ∈ t, V j * Ideal.exp2 (((s j / Real.log 2 : ℝ) : EReal) - M))
        (∑ j ∈ t, Ideal.exp2 (((s j / Real.log 2 : ℝ) : EReal) - M))
      = ∑ j ∈ t, V j * ((Real.exp (s j) / ∑ k ∈ t, Real.exp (s k) : ℝ) : EReal) := by
  have hl : Real.log 2 ≠ 0 := (Real.log_pos (by norm_num)).ne'
  have he : ∀ j, Ideal.exp2 (((s j / Real.log 2 : ℝ) : EReal) - M)
      = ((Real.exp (s j) * Real.exp (-(M * Real.log 2)) : ℝ) : EReal) := fun j => by
    rw [← EReal.coe_sub, Ideal.exp2_coe]
    congr 1
    show (2 : ℝ) ^ (s j / Real.log 2 - M) = _
    rw [Real.rpow_def_of_pos (by norm_num), ← Real.exp_add]
    congr 1
    field_simp
    ring
  simp only [he]
  have hs : 0 < ∑ k ∈ t, Real.exp (s k) := Finset.sum_pos (fun k _ => Real.exp_pos _) ht
  have hd : (∑ j ∈ t, Real.exp (s j) * Real.exp (-(M * Real.log 2))) ≠ 0 := by
    rw [← Finset.sum_mul]; exact (mul_pos hs (Real.exp_pos _)).ne'
  rw [← coe_sum_real, Ideal.div_coe hd, mul_comm, mul_sum_real]
  · refine Finset.sum_congr rfl fun j _ => ?_
    rw [mul_left_comm, ← EReal.coe_mul]
    congr 2
    rw [← Finset.sum_mul]
    have := (Real.exp_pos (-(M * Real.log 2))).ne'
    field_simp
  · rw [← Finset.sum_mul]; exact one_div_nonneg.mpr (mul_pos hs (Real.exp_pos _)).le

/-- The softmax of scores shifted by a real is the softmax of the scores. -/
theorem shift {ι : Type*} (t : Finset ι) (s : ι → ℝ) (M : ℝ) (j : ι) :
    Real.exp (s j - M) / ∑ k ∈ t, Real.exp (s k - M) = Real.exp (s j) / ∑ k ∈ t, Real.exp (s k) := by
  simp only [sub_eq_add_neg, Real.exp_add, ← Finset.sum_mul]
  rw [mul_div_mul_right _ _ (Real.exp_pos _).ne']

/-- A fold of maxima from the least element is a supremum. -/
theorem fold_max_sup {ι : Type*} (t : Finset ι) (f : ι → EReal) : Finset.fold max ⊥ f t = t.sup f := rfl

/-- A supremum over the first `n + m` numbers, in two parts. -/
theorem sup_range_add (n m : ℕ) (f : ℕ → EReal) :
    (range (n + m)).sup f = max ((range n).sup f) ((univ : Finset (Fin m)).sup fun a => f (n + a.val)) := by
  apply le_antisymm
  · refine Finset.sup_le fun j hj => ?_
    rw [Finset.mem_range] at hj
    by_cases h : j < n
    · exact le_max_of_le_left (Finset.le_sup (f := f) (Finset.mem_range.mpr h))
    · refine le_max_of_le_right ?_
      have := Finset.le_sup (f := fun a : Fin m => f (n + a.val)) (Finset.mem_univ ⟨j - n, by omega⟩)
      simpa [show n + (j - n) = j by omega] using this
  · refine max_le (Finset.sup_mono (by intro j; simp; omega)) (Finset.sup_le fun a _ => ?_)
    exact Finset.le_sup (f := f) (Finset.mem_range.mpr (by omega))

/-- A sum over the first `n + m` numbers, in two parts. -/
theorem sum_range_add {M : Type*} [AddCommMonoid M] (n m : ℕ) (f : ℕ → M) :
    ∑ j ∈ range (n + m), f j = ∑ j ∈ range n, f j + ∑ a : Fin m, f (n + a.val) := by
  rw [Finset.sum_range_add, Finset.sum_range (n := m)]

/-- Terms that are the least element do not count in a supremum. -/
theorem sup_masked (n R : ℕ) (h : R ≤ n) (f : ℕ → EReal) :
    (range n).sup (fun j => if j < R then f j else ⊥) = (range R).sup f := by
  apply le_antisymm
  · refine Finset.sup_le fun j _ => ?_
    by_cases hj : j < R
    · rw [if_pos hj]; exact Finset.le_sup (f := f) (Finset.mem_range.mpr hj)
    · rw [if_neg hj]; exact bot_le
  · refine Finset.sup_le fun j hj => ?_
    rw [Finset.mem_range] at hj
    have := Finset.le_sup (f := fun j => if j < R then f j else ⊥) (Finset.mem_range.mpr (lt_of_lt_of_le hj h))
    simpa [hj] using this

/-- Terms that are zero do not count in a sum. -/
theorem sum_masked {M : Type*} [AddCommMonoid M] (n R : ℕ) (h : R ≤ n) (f : ℕ → M) :
    ∑ j ∈ range n, (if j < R then f j else 0) = ∑ j ∈ range R, f j := by
  rw [← Finset.sum_filter]
  congr 1
  ext j
  simp only [Finset.mem_filter, Finset.mem_range]
  omega

/-- The weight of a masked key is zero. -/
theorem masked_weight (M : ℝ) (s V : EReal) (c : Prop) [Decidable c] :
    V * Ideal.exp2 ((if c then s else ⊥) - (M : EReal)) = if c then V * Ideal.exp2 (s - M) else 0 := by
  by_cases h : c
  · rw [if_pos h, if_pos h]
  · rw [if_neg h, if_neg h, EReal.bot_sub, Ideal.exp2_bot, mul_zero]

end Cert.Att
-- ==== Proof.Values.lean ====
/- The values of the body at the extended reals, read at an index: scores, running maxima, weights, running sums, and the
   quotient that a tile of results holds, each as a sum or a supremum over the keys so far. -/
module

public import proofs.«01_k».proof.Proof.Tiles
public import proofs.«01_k».proof.Proof.Math
public import Idealize.ShloMosaic.Lib.Pointwise

@[expose] public section

set_option maxRecDepth 16384

noncomputable section

namespace Cert.Att

open Idealize Idealize.ShloMosaic Cert.KernelIdeal Cert.KernelIdeal.Gen Finset

/-- Key `j`: its plain part beside its rotated part. -/
def keyAt (x2 x3 : Vec Ideal S4096x128 .bf16) (j : ℕ) (c : Fin 256) : EReal :=
  if h : c.val < 128 then x2 (ix2 (Fin.ofNat 4096 j) ⟨c.val, h⟩)
  else x3 (ix2 (Fin.ofNat 4096 j) ⟨c.val - 128, by omega⟩)

/-- Row `d` of the transposed values at key `j`. -/
def va (x4 : Vec Ideal S1x1x8x144x512 .bf16) (d : Fin 144) (j : ℕ) : EReal :=
  x4 (ix5 0 0 (Fin.ofNat 8 (j / 512)) d (Fin.ofNat 512 j))

/-- The score of key `j` against query `r` of a tile. -/
def sc (q : FVec Ideal S1x512x256 .bf16) (x2 x3 : Vec Ideal S4096x128 .bf16) (r : Fin 512) (j : ℕ) : EReal :=
  ∑ c : Fin 256, keyAt x2 x3 j c * q (ix3 0 r c)

/-- The mask constant is the least extended real. -/
theorem mask_bot : (Named.named κ "mask" 0xF149F2CA#32 : Ideal .f32) = ⊥ :=
  IdealRules.named_const.ideal_named_scalar _ _ _ _ rfl

/-- The starting value of a maximum is the least extended real. -/
theorem ofBits_bot : (Ideal.ofBits .f32 0xFF800000#32 : EReal) = ⊥ := by
  simp [Ideal.ofBits, Ideal.ieee]

variable (q : FVec Ideal S1x512x256 .bf16) (x2 x3 : Vec Ideal S4096x128 .bf16) (x4 : Vec Ideal S1x1x8x144x512 .bf16)

/-- A tile of scores at an index. -/
theorem sT_at (k : ℕ) (a r : Fin 512) : sT q x2 x3 k (ix3 0 a r) = sc q x2 x3 r (512 * k + a.val) := by
  pointwise [sT, k0_pay29, sc, keyAt, rowsAt]
  rfl

/-- The maxima start at the least extended real. -/
theorem mT_zero (r : Fin 512) : mT q x2 x3 0 (ix2 0 r) = ⊥ := by
  rw [show mT q x2 x3 0 = k0_pay12 from rfl]
  pointwise [k0_pay12]
  exact mask_bot

/-- The running maxima at an index. -/
theorem mT_at (r : Fin 512) : ∀ k : ℕ, mT q x2 x3 k (ix2 0 r) = (range (512 * k)).sup (sc q x2 x3 r)
  | 0 => by simp [mT_zero]
  | k + 1 => by
    rw [mT_step]
    pointwise [k0_pay75, k0_pay74]
    rw [ofBits_bot, fold_max_sup, mT_at r k, Nat.mul_succ, sup_range_add]
    simp only [sT_at]

/-- A tile of weights at an index. -/
theorem pT_at (k : ℕ) (a r : Fin 512) : pT q x2 x3 k (ix3 0 a r)
    = Ideal.exp2 (sc q x2 x3 r (512 * k + a.val) - (range (512 * (k + 1))).sup (sc q x2 x3 r)) := by
  have h := mT_at q x2 x3 r (k + 1)
  rw [mT_step] at h
  unfold pT
  pointwise [k0_pay77, k0_pay76, k0_pay74]
  rw [h, sT_at]
  rfl

/-- A tile of values at an index. -/
theorem valsAt_at (k : ℕ) (d : Fin 144) (a : Fin 512) : valsAt k x4 (ix5 0 0 0 d a) = va x4 d (512 * k + a.val) := by
  unfold valsAt va
  refine congrArg x4 ?_
  have ha := a.isLt
  funext b
  match b with
  | ⟨0, _⟩ => rfl
  | ⟨1, _⟩ => rfl
  | ⟨2, _⟩ => apply Fin.ext; show k % 8 = (512 * k + a.val) / 512 % 8; omega
  | ⟨3, _⟩ => rfl
  | ⟨4, _⟩ => apply Fin.ext; show a.val = (512 * k + a.val) % 512; omega

/-- The running sums at an index, where the scores of the query are reals. -/
theorem aT_at (r : Fin 512) (s : ℕ → ℝ) (hs : ∀ j, sc q x2 x3 r j = s j) (d : Fin 144) : ∀ k : ℕ, aT q x2 x3 x4 k (ix2 d r)
    = ∑ j ∈ range (512 * (k + 1)), va x4 d j * Ideal.exp2 ((s j : EReal) - (range (512 * (k + 1))).sup (sc q x2 x3 r))
  | 0 => by
    rw [aT_first]
    pointwise [k0_pay25]
    simp only [pT_at, valsAt_at, hs]
    rw [Finset.sum_range (n := 512 * (0 + 1))]
    simp
  | k + 1 => by
    have h := mT_at q x2 x3 r (k + 1 + 1)
    rw [mT_step] at h
    rw [aT_step]
    pointwise [k0_pay129]
    rw [show k0_pay127 (mT q x2 x3 (k + 1)) (sT q x2 x3 (k + 1)) = k0_pay75 (mT q x2 x3 (k + 1)) (sT q x2 x3 (k + 1)) from rfl,
      h, mT_at, aT_at r s hs d k]
    simp only [pT_at, valsAt_at, hs]
    obtain ⟨M, hM⟩ := sup_real (range (512 * (k + 1))) (by simp) s
    obtain ⟨M', hM'⟩ := sup_real (range (512 * (k + 1 + 1))) (by simp) s
    rw [show sc q x2 x3 r = fun j => (s j : EReal) from funext hs, hM, hM']
    erw [rescale]
    rw [show 512 * (k + 1 + 1) = 512 * (k + 1) + 512 by ring, sum_range_add]

end Cert.Att
-- ==== Proof.Diag.lean ====
/- The diagonal tile and the quotient: each query's row of results, as a quotient of two sums over the keys that come no
   later than the query. -/
module

public import proofs.«01_k».proof.Proof.Values
public import Idealize.ShloMosaic.Lib.WordCmp

@[expose] public section

set_option maxRecDepth 16384

noncomputable section

namespace Cert.Att

open Idealize Idealize.ShloMosaic Cert.KernelIdeal Cert.KernelIdeal.Gen Finset

/-- A comparison of two small numbers that selects is a comparison of the numbers. -/
theorem select_le (a b : Fin 256) (x y : EReal) :
    Scalar.select (IntOp.cmpi .sle (BitVec.ofNat 32 a.val) (BitVec.ofNat 32 b.val)) x y = if a.val ≤ b.val then x else y := by
  unfold Scalar.select
  have h : IntOp.cmpi .sle (BitVec.ofNat 32 a.val) (BitVec.ofNat 32 b.val) = 1 ↔ a.val ≤ b.val :=
    WordCmp.cmpi_sle_ofNat_eq_one_iff (by have := a.isLt; norm_num; omega) (by have := b.isLt; norm_num; omega)
  simp only [h]

set_option maxHeartbeats 4000000 in
/-- A diagonal step at a query of the left half. -/
theorem stepL (m : FVec Ideal S1x512 .f32) (tl tr br : FVec Ideal S256x256 .f32) (m' : FVec Ideal S1x256 .f32)
    (mx : FVec Ideal S256 .f32) (v : Vec Ideal S1x1x1x144x512 .bf16) (acc : Vec Ideal S144x512 .f32)
    (r : Fin 256) (d : Fin 128) :
    k0_pay65 m tl tr br m' mx v acc (ix2 ⟨r.val, by omega⟩ d)
      = Ideal.div
          (Ideal.exp2 (m (ix2 0 ⟨r.val, by omega⟩) - max (m' (ix2 0 r)) (mx (ix1 r))) * acc (ix2 ⟨d.val, by omega⟩ ⟨r.val, by omega⟩)
            + ∑ a : Fin 256, v (ix5 0 0 0 ⟨d.val, by omega⟩ ⟨a.val, by omega⟩) * Ideal.exp2 (tl (ix2 a r) - max (m' (ix2 0 r)) (mx (ix1 r))))
          (Ideal.exp2 (m (ix2 0 ⟨r.val, by omega⟩) - max (m' (ix2 0 r)) (mx (ix1 r))) * acc (ix2 128 ⟨r.val, by omega⟩)
            + ∑ a : Fin 256, v (ix5 0 0 0 128 ⟨a.val, by omega⟩) * Ideal.exp2 (tl (ix2 a r) - max (m' (ix2 0 r)) (mx (ix1 r)))) := by
  pointwise [k0_pay65]
  rfl

set_option maxHeartbeats 4000000 in
/-- A diagonal step at a query of the right half. -/
theorem stepR (m : FVec Ideal S1x512 .f32) (tl tr br : FVec Ideal S256x256 .f32) (m' : FVec Ideal S1x256 .f32)
    (mx : FVec Ideal S256 .f32) (v : Vec Ideal S1x1x1x144x512 .bf16) (acc : Vec Ideal S144x512 .f32)
    (r : Fin 256) (d : Fin 128) (M : EReal)
    (hM : max (max (m (ix2 0 ⟨256 + r.val, by omega⟩)) ((univ : Finset (Fin 256)).sup fun a => tr (ix2 a r)))
        ((univ : Finset (Fin 256)).sup fun a => br (ix2 a r)) = M) :
    k0_pay65 m tl tr br m' mx v acc (ix2 ⟨256 + r.val, by omega⟩ d)
      = Ideal.div
          (Ideal.exp2 (m (ix2 0 ⟨256 + r.val, by omega⟩) - M) * acc (ix2 ⟨d.val, by omega⟩ ⟨256 + r.val, by omega⟩)
            + ∑ a : Fin 256, v (ix5 0 0 0 ⟨d.val, by omega⟩ ⟨a.val, by omega⟩) * Ideal.exp2 (tr (ix2 a r) - M)
            + ∑ a : Fin 256, v (ix5 0 0 0 ⟨d.val, by omega⟩ ⟨256 + a.val, by omega⟩) * Ideal.exp2 (br (ix2 a r) - M))
          (Ideal.exp2 (m (ix2 0 ⟨256 + r.val, by omega⟩) - M) * acc (ix2 128 ⟨256 + r.val, by omega⟩)
            + ∑ a : Fin 256, v (ix5 0 0 0 128 ⟨a.val, by omega⟩) * Ideal.exp2 (tr (ix2 a r) - M)
            + ∑ a : Fin 256, v (ix5 0 0 0 128 ⟨256 + a.val, by omega⟩) * Ideal.exp2 (br (ix2 a r) - M)) := by
  subst hM
  have hr : ¬ (256 + r.val < 256) := by omega
  have he : 256 + r.val - 256 = r.val := by omega
  pointwise [k0_pay65]
  simp only [hr, dite_false, he, ofBits_bot, fold_max_sup]
  rfl

set_option maxHeartbeats 4000000 in
/-- The first diagonal tile at a query of the left half. -/
theorem firstL (tl tr br : FVec Ideal S1x256x256 .f32) (v : Vec Ideal S1x1x1x144x512 .bf16) (r : Fin 256) (d : Fin 128) (M : EReal)
    (hM : ((univ : Finset (Fin 256)).sup fun a => k0_pay60 (F := Ideal) tl (ix2 a r)) = M) :
    k0_pay17 (k0_pay14 br) (k0_pay15 tr br) (k0_pay16 tl tr br) v (ix2 ⟨r.val, by omega⟩ d)
      = Ideal.div (∑ a : Fin 256, v (ix5 0 0 0 ⟨d.val, by omega⟩ ⟨a.val, by omega⟩) * Ideal.exp2 (k0_pay60 (F := Ideal) tl (ix2 a r) - M))
          (∑ a : Fin 256, v (ix5 0 0 0 128 ⟨a.val, by omega⟩) * Ideal.exp2 (k0_pay60 (F := Ideal) tl (ix2 a r) - M)) := by
  subst hM
  have hr : r.val < 256 := r.isLt
  have hb : ∀ x : EReal, max ⊥ x = x := fun x => bot_sup_eq x
  pointwise [k0_pay17, k0_pay16, k0_pay12, k0_pay60]
  simp only [hr, dite_true, ofBits_bot, fold_max_sup, mask_bot, hb]
  rfl

set_option maxHeartbeats 4000000 in
/-- The first diagonal tile at a query of the right half. -/
theorem firstR (tl tr br : FVec Ideal S1x256x256 .f32) (v : Vec Ideal S1x1x1x144x512 .bf16) (r : Fin 256) (d : Fin 128) (M : EReal)
    (hM : max ((univ : Finset (Fin 256)).sup fun a => k0_pay61 (F := Ideal) tr (ix2 a r))
        ((univ : Finset (Fin 256)).sup fun a => k0_pay62 (F := Ideal) br (ix2 a r)) = M) :
    k0_pay17 (k0_pay14 br) (k0_pay15 tr br) (k0_pay16 tl tr br) v (ix2 ⟨256 + r.val, by omega⟩ d)
      = Ideal.div
          (∑ a : Fin 256, v (ix5 0 0 0 ⟨d.val, by omega⟩ ⟨a.val, by omega⟩) * Ideal.exp2 (k0_pay61 (F := Ideal) tr (ix2 a r) - M)
            + ∑ a : Fin 256, v (ix5 0 0 0 ⟨d.val, by omega⟩ ⟨256 + a.val, by omega⟩) * Ideal.exp2 (k0_pay62 (F := Ideal) br (ix2 a r) - M))
          (∑ a : Fin 256, v (ix5 0 0 0 128 ⟨a.val, by omega⟩) * Ideal.exp2 (k0_pay61 (F := Ideal) tr (ix2 a r) - M)
            + ∑ a : Fin 256, v (ix5 0 0 0 128 ⟨256 + a.val, by omega⟩) * Ideal.exp2 (k0_pay62 (F := Ideal) br (ix2 a r) - M)) := by
  subst hM
  have hr : ¬ (256 + r.val < 256) := by omega
  have he : 256 + r.val - 256 = r.val := by omega
  have hb : ∀ x : EReal, max ⊥ x = x := fun x => bot_sup_eq x
  pointwise [k0_pay17, k0_pay16, k0_pay15, k0_pay14, k0_pay13, k0_pay12, k0_pay61, k0_pay62]
  simp only [hr, dite_false, he, ofBits_bot, fold_max_sup, mask_bot, hb]
  rfl

/-- A supremum over whole tiles and a masked one is the supremum over the keys that are not masked. -/
theorem sup_tail (n m R : ℕ) (h1 : n ≤ R) (h2 : R ≤ n + m) (f : ℕ → EReal) :
    max ((range n).sup f) ((univ : Finset (Fin m)).sup fun a => if n + a.val < R then f (n + a.val) else ⊥) = (range R).sup f := by
  rw [← sup_masked (n + m) R h2 f, sup_range_add]
  congr 1
  refine Finset.sup_congr rfl fun j hj => ?_
  rw [Finset.mem_range] at hj
  rw [if_pos (by omega)]

/-- A sum over whole tiles and a masked one is the sum over the keys that are not masked. -/
theorem sum_tail (n m R : ℕ) (h1 : n ≤ R) (h2 : R ≤ n + m) (f V : ℕ → EReal) (M : ℝ) :
    ∑ j ∈ range n, V j * Ideal.exp2 (f j - M)
        + ∑ a : Fin m, V (n + a.val) * Ideal.exp2 ((if n + a.val < R then f (n + a.val) else ⊥) - M)
      = ∑ j ∈ range R, V j * Ideal.exp2 (f j - M) := by
  rw [← sum_masked (n + m) R h2, sum_range_add]
  congr 1
  · refine Finset.sum_congr rfl fun j hj => ?_
    rw [Finset.mem_range] at hj
    rw [if_pos (by omega)]
  · exact Finset.sum_congr rfl fun a _ => masked_weight M _ _ _

/-- The quotient of the weighted values of the first `R` keys by the weighted ones. -/
def quot (x4 : Vec Ideal S1x1x8x144x512 .bf16) (S : ℕ → EReal) (d : Fin 128) (R : ℕ) : EReal :=
  Ideal.div (∑ j ∈ range R, va x4 ⟨d.val, by omega⟩ j * Ideal.exp2 (S j - (range R).sup S))
    (∑ j ∈ range R, va x4 128 j * Ideal.exp2 (S j - (range R).sup S))

variable (q : FVec Ideal S1x512x256 .bf16) (x2 x3 : Vec Ideal S4096x128 .bf16) (x4 : Vec Ideal S1x1x8x144x512 .bf16)

/-- The masked upper left quarter of a diagonal tile at an index. -/
theorem tl_at (g : ℕ) (a r : Fin 256) : (k0_pay60 (F := Ideal) (dTL q x2 x3 g) (ix2 a r) : EReal)
    = if 512 * g + a.val < 512 * g + r.val + 1 then sc q x2 x3 ⟨r.val, by omega⟩ (512 * g + a.val) else ⊥ := by
  have h : ∀ x y : EReal, (if 512 * g + a.val < 512 * g + r.val + 1 then x else y) = if a.val ≤ r.val then x else y := fun x y => by
    congr 1; exact propext ⟨fun h => by omega, fun h => by omega⟩
  rw [h, ← select_le, ← mask_bot]
  pointwise [k0_pay60, dTL, k0_pay48, k0_pay47, k0_pay46, rowsAt, sc, keyAt]
  rfl

/-- The upper right quarter of a diagonal tile at an index. -/
theorem tr_at (g : ℕ) (a r : Fin 256) : (k0_pay61 (F := Ideal) (dTR q x2 x3 g) (ix2 a r) : EReal)
    = sc q x2 x3 ⟨256 + r.val, by omega⟩ (512 * g + a.val) := by
  pointwise [k0_pay61, dTR, k0_pay48, k0_pay47, k0_pay46, rowsAt, sc, keyAt]
  rfl

/-- The masked lower right quarter of a diagonal tile at an index. -/
theorem br_at (g : ℕ) (a r : Fin 256) : (k0_pay62 (F := Ideal) (dBR q x2 x3 g) (ix2 a r) : EReal)
    = if 512 * g + 256 + a.val < 512 * g + (256 + r.val) + 1 then sc q x2 x3 ⟨256 + r.val, by omega⟩ (512 * g + 256 + a.val) else ⊥ := by
  have h : ∀ x y : EReal, (if 512 * g + 256 + a.val < 512 * g + (256 + r.val) + 1 then x else y) = if a.val ≤ r.val then x else y := fun x y => by
    congr 1; exact propext ⟨fun h => by omega, fun h => by omega⟩
  rw [h, ← select_le, ← mask_bot, Nat.add_assoc]
  pointwise [k0_pay62, dBR, k0_pay49, k0_pay47, k0_pay46, rowsAt, sc, keyAt]
  rfl

/-- The maxima of the masked upper left quarter. -/
theorem mx_at (tl : FVec Ideal S1x256x256 .f32) (r : Fin 256) : (k0_pay64 (F := Ideal) tl (ix1 r) : EReal)
    = (univ : Finset (Fin 256)).sup fun a => k0_pay60 (F := Ideal) tl (ix2 a r) := by
  pointwise [k0_pay64]
  rw [ofBits_bot, fold_max_sup]

/-- The left half of the maxima. -/
theorem ml_at (m : FVec Ideal S1x512 .f32) (r : Fin 256) : (k0_pay63 (F := Ideal) m (ix2 0 r) : EReal) = m (ix2 0 ⟨r.val, by omega⟩) := by
  pointwise [k0_pay63]

/-- A tile of values at a key of its left half. -/
theorem valsL (k : ℕ) (d : Fin 144) (a : Fin 256) :
    (valsAt k x4 (ix5 0 0 0 d ⟨a.val, by omega⟩) : EReal) = va x4 d (512 * k + a.val) := valsAt_at x4 k d _

/-- A tile of values at a key of its right half. -/
theorem valsR (k : ℕ) (d : Fin 144) (a : Fin 256) :
    (valsAt k x4 (ix5 0 0 0 d ⟨256 + a.val, by omega⟩) : EReal) = va x4 d (512 * k + 256 + a.val) := by
  rw [Nat.add_assoc]; exact valsAt_at x4 k d _

/-- A row of a tile after the first, left half. -/
theorem oT_left (g : ℕ) (r : Fin 256) (d : Fin 128) (s : ℕ → ℝ) (hs : ∀ j, sc q x2 x3 ⟨r.val, by omega⟩ j = s j) :
    (oT q x2 x3 x4 g (ix2 ⟨r.val, by omega⟩ d) : EReal)
      = quot x4 (sc q x2 x3 ⟨r.val, by omega⟩) d (512 * (g + 1) + r.val + 1) := by
  have hr := r.isLt
  unfold oT quot
  have hM := sup_tail (512 * (g + 1)) 256 (512 * (g + 1) + r.val + 1) (by omega) (by omega) (sc q x2 x3 ⟨r.val, by omega⟩)
  rw [stepL]
  simp only [ml_at, mx_at, mT_at, tl_at, aT_at q x2 x3 x4 _ s hs, valsL, hM]
  obtain ⟨M, hM'⟩ := sup_real (range (512 * (g + 1) + r.val + 1)) (by simp) s
  obtain ⟨M0, hM0⟩ := sup_real (range (512 * (g + 1))) (by simp) s
  simp only [hs]
  rw [show sc q x2 x3 ⟨r.val, by omega⟩ = fun j => (s j : EReal) from funext hs, hM', hM0]
  rw [rescale, rescale, sum_tail (f := fun j => (s j : EReal)), sum_tail (f := fun j => (s j : EReal))] <;> omega

/-- A row of a tile after the first, right half. -/
theorem oT_right (g : ℕ) (r : Fin 256) (d : Fin 128) (s : ℕ → ℝ) (hs : ∀ j, sc q x2 x3 ⟨256 + r.val, by omega⟩ j = s j) :
    (oT q x2 x3 x4 g (ix2 ⟨256 + r.val, by omega⟩ d) : EReal)
      = quot x4 (sc q x2 x3 ⟨256 + r.val, by omega⟩) d (512 * (g + 1) + (256 + r.val) + 1) := by
  have hr := r.isLt
  unfold oT quot
  have hM := sup_tail (512 * (g + 1) + 256) 256 (512 * (g + 1) + (256 + r.val) + 1) (by omega) (by omega) (sc q x2 x3 ⟨256 + r.val, by omega⟩)
  rw [sup_range_add] at hM
  rw [stepR (M := (range (512 * (g + 1) + (256 + r.val) + 1)).sup (sc q x2 x3 ⟨256 + r.val, by omega⟩))
    (hM := by simp only [mT_at, tr_at, br_at]; exact hM)]
  simp only [mT_at, tr_at, br_at, aT_at q x2 x3 x4 _ s hs, valsL, valsR]
  obtain ⟨M, hM'⟩ := sup_real (range (512 * (g + 1) + (256 + r.val) + 1)) (by simp) s
  obtain ⟨M0, hM0⟩ := sup_real (range (512 * (g + 1))) (by simp) s
  simp only [hs]
  rw [show sc q x2 x3 ⟨256 + r.val, by omega⟩ = fun j => (s j : EReal) from funext hs, hM', hM0]
  have key : ∀ V : ℕ → EReal, ∑ j ∈ range (512 * (g + 1)), V j * Ideal.exp2 ((s j : EReal) - M)
      + ∑ a : Fin 256, V (512 * (g + 1) + a.val) * Ideal.exp2 ((s (512 * (g + 1) + a.val) : EReal) - M)
      = ∑ j ∈ range (512 * (g + 1) + 256), V j * Ideal.exp2 ((s j : EReal) - M) := fun V => (sum_range_add _ 256 _).symm
  rw [rescale, rescale, key, key, sum_tail (f := fun j => (s j : EReal)), sum_tail (f := fun j => (s j : EReal))] <;> omega

/-- A row of the first tile, left half. -/
theorem oT0_left (r : Fin 256) (d : Fin 128) (s : ℕ → ℝ) (hs : ∀ j, sc q x2 x3 ⟨r.val, by omega⟩ j = s j) :
    (oT0 q x2 x3 x4 (ix2 ⟨r.val, by omega⟩ d) : EReal) = quot x4 (sc q x2 x3 ⟨r.val, by omega⟩) d (r.val + 1) := by
  have hr := r.isLt
  unfold oT0 quot
  have hM := sup_tail 0 256 (r.val + 1) (by omega) (by omega) (sc q x2 x3 ⟨r.val, by omega⟩)
  simp only [Finset.range_zero, Finset.sup_empty, Nat.zero_add, bot_sup_eq] at hM
  rw [firstL (M := (range (r.val + 1)).sup (sc q x2 x3 ⟨r.val, by omega⟩)) (hM := by simpa only [tl_at, Nat.mul_zero, Nat.zero_add] using hM)]
  simp only [tl_at, valsL, Nat.mul_zero, Nat.zero_add]
  obtain ⟨M, hM'⟩ := sup_real (range (r.val + 1)) (by simp) s
  simp only [hs]
  rw [show sc q x2 x3 ⟨r.val, by omega⟩ = fun j => (s j : EReal) from funext hs, hM']
  have key : ∀ V : ℕ → EReal, ∑ a : Fin 256, V a.val * Ideal.exp2 ((if a.val < r.val + 1 then (s a.val : EReal) else ⊥) - M)
      = ∑ j ∈ range (r.val + 1), V j * Ideal.exp2 ((s j : EReal) - M) := fun V => by
    have h := sum_tail 0 256 (r.val + 1) (by omega) (by omega) (fun j => (s j : EReal)) V M
    simpa only [Finset.range_zero, Finset.sum_empty, Nat.zero_add, zero_add] using h
  rw [key, key]

/-- A row of the first tile, right half. -/
theorem oT0_right (r : Fin 256) (d : Fin 128) (s : ℕ → ℝ) (hs : ∀ j, sc q x2 x3 ⟨256 + r.val, by omega⟩ j = s j) :
    (oT0 q x2 x3 x4 (ix2 ⟨256 + r.val, by omega⟩ d) : EReal)
      = quot x4 (sc q x2 x3 ⟨256 + r.val, by omega⟩) d (256 + r.val + 1) := by
  have hr := r.isLt
  unfold oT0 quot
  have hM := sup_tail 256 256 (256 + r.val + 1) (by omega) (by omega) (sc q x2 x3 ⟨256 + r.val, by omega⟩)
  rw [show range 256 = range (0 + 256) from rfl, sup_range_add] at hM
  simp only [Finset.range_zero, Finset.sup_empty, Nat.zero_add, bot_sup_eq] at hM
  rw [firstR (M := (range (256 + r.val + 1)).sup (sc q x2 x3 ⟨256 + r.val, by omega⟩))
    (hM := by simpa only [tr_at, br_at, Nat.mul_zero, Nat.zero_add] using hM)]
  simp only [tr_at, br_at, valsL, valsR, Nat.mul_zero, Nat.zero_add]
  obtain ⟨M, hM'⟩ := sup_real (range (256 + r.val + 1)) (by simp) s
  simp only [hs]
  rw [show sc q x2 x3 ⟨256 + r.val, by omega⟩ = fun j => (s j : EReal) from funext hs, hM']
  have key : ∀ V : ℕ → EReal, ∑ a : Fin 256, V a.val * Ideal.exp2 ((s a.val : EReal) - M)
      = ∑ j ∈ range 256, V j * Ideal.exp2 ((s j : EReal) - M) := fun V => by rw [Finset.sum_range]
  rw [key, key, sum_tail (f := fun j => (s j : EReal)), sum_tail (f := fun j => (s j : EReal))] <;> omega

end Cert.Att
-- ==== Proof.Scores.lean ====
/- The tiles of queries and scores that the body reads back from its scratch buffers are those of `Tiles`. -/
module

public import proofs.«01_k».proof.Proof.Tiles

@[expose] public section

set_option maxRecDepth 16384

noncomputable section

namespace Cert.Att

open Idealize.ShloMosaic Cert.KernelIdeal Cert.KernelIdeal.Gen

variable {F : FTy → Type} [FloatOps F] [Named F]
variable (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S1x1x8x144x512 .bf16) (harg6 : arg6.IsWhole)
  (arg8 : Memref sig .tc .vmem S2x512x256 .bf16) (arg9 : Memref sig .tc .vmem S3x512x512 .f32)
  (arg10 : Memref sig .tc .vmem S2x512x512 .bf16) (arg11 : Memref sig .tc .vmem S144x512 .f32)
  (x0 x1 x2 x3 : Vec F S4096x128 .bf16) (x4 : Vec F S1x1x8x144x512 .bf16)

/-- The query tile read back. -/
theorem v28_eq : kernelRun0_A.sl.v28 c i arg2 harg2 arg3 harg3 arg8 x0 x1 = qT i x0 x1 0 := by
  unfold kernelRun0_A.sl.v28 kernelRun0_A.sl.HS0_1
  simp (disch := decide) only [↓View.readCov_cons_toLoadRect, ↓View.readCov_skip, readRows]
  rfl

/-- The query tile read back. -/
theorem v63_eq : kernelRun0_A.sl.v63 c i arg2 harg2 arg3 harg3 arg8 x0 x1 = qT i x0 x1 1 := by
  unfold kernelRun0_A.sl.v63 kernelRun0_A.sl.HS0_2
  simp (disch := decide) only [↓View.readCov_cons_toLoadRect, ↓View.readCov_skip, readRows]
  rfl

/-- The query tile read back. -/
theorem v189_eq : kernelRun0_A.sl.v189 c i arg2 harg2 arg3 harg3 arg8 x0 x1 = qT i x0 x1 2 := by
  unfold kernelRun0_A.sl.v189 kernelRun0_A.sl.HS0_3 kernelRun0_A.sl.r_11 kernelRun0_A.sl.v174 kernelRun0_A.sl.r_12
  simp (disch := decide) only [↓View.readCov_cons_toLoadRect, ↓View.readCov_skip, readRows]
  rfl

/-- The query tile read back. -/
theorem v358_eq : kernelRun0_A.sl.v358 c i arg2 harg2 arg3 harg3 arg8 x0 x1 = qT i x0 x1 3 := by
  unfold kernelRun0_A.sl.v358 kernelRun0_A.sl.HS0_4 kernelRun0_A.sl.r_22 kernelRun0_A.sl.r_23 kernelRun0_A.sl.r_24
  simp (disch := decide) only [↓View.readCov_cons_toLoadRect, ↓View.readCov_skip, readRows]
  rfl

/-- The query tile read back. -/
theorem v564_eq : kernelRun0_A.sl.v564 c i arg2 harg2 arg3 harg3 arg8 x0 x1 = qT i x0 x1 4 := by
  unfold kernelRun0_A.sl.v564 kernelRun0_A.sl.HS0_5 kernelRun0_A.sl.r_39 kernelRun0_A.sl.r_40 kernelRun0_A.sl.r_41
  simp (disch := decide) only [↓View.readCov_cons_toLoadRect, ↓View.readCov_skip, readRows]
  rfl

/-- The query tile read back. -/
theorem v807_eq : kernelRun0_A.sl.v807 c i arg2 harg2 arg3 harg3 arg8 x0 x1 = qT i x0 x1 5 := by
  unfold kernelRun0_A.sl.v807 kernelRun0_A.sl.HS0_6 kernelRun0_A.sl.r_59 kernelRun0_A.sl.v174 kernelRun0_A.sl.r_60
  simp (disch := decide) only [↓View.readCov_cons_toLoadRect, ↓View.readCov_skip, readRows]
  rfl

/-- The query tile read back. -/
theorem v1087_eq : kernelRun0_A.sl.v1087 c i arg2 harg2 arg3 harg3 arg8 x0 x1 = qT i x0 x1 6 := by
  unfold kernelRun0_A.sl.v1087 kernelRun0_A.sl.HS0_7
  simp (disch := decide) only [↓View.readCov_cons_toLoadRect, ↓View.readCov_skip, readRows]
  rfl

/-- The query tile read back. -/
theorem v1404_eq : kernelRun0_A.sl.v1404 c i arg2 harg2 arg3 harg3 arg8 x0 x1 = qT i x0 x1 7 := by
  unfold kernelRun0_A.sl.v1404 kernelRun0_A.sl.HS0_8 kernelRun0_A.sl.r_100 kernelRun0_A.sl.r_101
  simp (disch := decide) only [↓View.readCov_cons_toLoadRect, ↓View.readCov_skip, readRows]
  rfl

/-- The lower right quarter of a diagonal tile read back. -/
theorem v85_eq : kernelRun0_A.sl.v85 c i arg2 harg2 arg3 harg3 arg4 harg4 arg5 harg5 arg8 arg9 x0 x1 x2 x3 = dBR (qT i x0 x1 0) x2 x3 0 := by
  unfold kernelRun0_A.sl.v85 kernelRun0_A.sl.HS1_3 kernelRun0_A.sl.r_3 kernelRun0_A.sl.r_4 kernelRun0_A.sl.r kernelRun0_A.sl.r_1 kernelRun0_A.sl.r_2
  simp (disch := decide) only [↓View.readCov_cons_toLoadRect, ↓View.readCov_skip, readRows, v63_eq, v28_eq]
  rfl

/-- The upper left quarter of a diagonal tile read back. -/
theorem v78_eq : kernelRun0_A.sl.v78 c i arg2 harg2 arg3 harg3 arg4 harg4 arg5 harg5 arg8 arg9 x0 x1 x2 x3 = dTL (qT i x0 x1 0) x2 x3 0 := by
  unfold kernelRun0_A.sl.v78 kernelRun0_A.sl.HS1_3 kernelRun0_A.sl.r_3 kernelRun0_A.sl.r_4 kernelRun0_A.sl.r kernelRun0_A.sl.r_1 kernelRun0_A.sl.r_2
  simp (disch := decide) only [↓readLeft, ↓View.readCov_skip, readRows, v63_eq, v28_eq]
  rfl

/-- The upper right quarter of a diagonal tile read back. -/
theorem v82_eq : kernelRun0_A.sl.v82 c i arg2 harg2 arg3 harg3 arg4 harg4 arg5 harg5 arg8 arg9 x0 x1 x2 x3 = dTR (qT i x0 x1 0) x2 x3 0 := by
  unfold kernelRun0_A.sl.v82 kernelRun0_A.sl.HS1_3 kernelRun0_A.sl.r_3 kernelRun0_A.sl.r_4 kernelRun0_A.sl.r kernelRun0_A.sl.r_1 kernelRun0_A.sl.r_2
  simp (disch := decide) only [↓readRight, ↓View.readCov_skip, readRows, v63_eq, v28_eq]
  rfl

/-- The upper left quarter of a diagonal tile read back. -/
theorem v203_eq : kernelRun0_A.sl.v203 c i arg2 harg2 arg3 harg3 arg4 harg4 arg5 harg5 arg8 arg9 x0 x1 x2 x3 = dTL (qT i x0 x1 1) x2 x3 1 := by
  unfold kernelRun0_A.sl.v203 kernelRun0_A.sl.HS1_6 kernelRun0_A.sl.HS1_5 kernelRun0_A.sl.r_8 kernelRun0_A.sl.r_9
  simp (disch := decide) only [↓readLeft, ↓View.readCov_skip, readRows, v63_eq]
  rfl

/-- The lower right quarter of a diagonal tile read back. -/
theorem v210_eq : kernelRun0_A.sl.v210 c i arg2 harg2 arg3 harg3 arg4 harg4 arg5 harg5 arg8 arg9 x0 x1 x2 x3 = dBR (qT i x0 x1 1) x2 x3 1 := by
  unfold kernelRun0_A.sl.v210 kernelRun0_A.sl.HS1_6 kernelRun0_A.sl.HS1_5 kernelRun0_A.sl.r_8 kernelRun0_A.sl.r_9
  simp (disch := decide) only [↓View.readCov_cons_toLoadRect, ↓View.readCov_skip, readRows, v63_eq]
  rfl

/-- The upper right quarter of a diagonal tile read back. -/
theorem v207_eq : kernelRun0_A.sl.v207 c i arg2 harg2 arg3 harg3 arg4 harg4 arg5 harg5 arg8 arg9 x0 x1 x2 x3 = dTR (qT i x0 x1 1) x2 x3 1 := by
  unfold kernelRun0_A.sl.v207 kernelRun0_A.sl.HS1_6 kernelRun0_A.sl.HS1_5 kernelRun0_A.sl.r_8 kernelRun0_A.sl.r_9
  simp (disch := decide) only [↓readRight, ↓View.readCov_skip, readRows, v63_eq]
  rfl

/-- A tile of scores read back. -/
theorem v152_eq : kernelRun0_A.sl.v152 c i arg2 harg2 arg3 harg3 arg4 harg4 arg5 harg5 arg8 arg9 x0 x1 x2 x3 = sT (qT i x0 x1 1) x2 x3 0 := by
  unfold kernelRun0_A.sl.v152 kernelRun0_A.sl.HS1_5 kernelRun0_A.sl.HS1_3 kernelRun0_A.sl.r_3 kernelRun0_A.sl.r_4 kernelRun0_A.sl.r kernelRun0_A.sl.r_1 kernelRun0_A.sl.r_2
  simp (disch := decide) only [↓View.readCov_cons_toLoadRect, ↓View.readCov_skip, readRows, v63_eq, v28_eq]
  rfl

/-- The lower right quarter of a diagonal tile read back. -/
theorem v379_eq : kernelRun0_A.sl.v379 c i arg2 harg2 arg3 harg3 arg4 harg4 arg5 harg5 arg8 arg9 x0 x1 x2 x3 = dBR (qT i x0 x1 2) x2 x3 2 := by
  unfold kernelRun0_A.sl.v379 kernelRun0_A.sl.HS1_10 kernelRun0_A.sl.HS1_9
  simp (disch := decide) only [↓View.readCov_cons_toLoadRect, ↓View.readCov_skip, readRows, v189_eq]
  rfl

/-- The upper left quarter of a diagonal tile read back. -/
theorem v372_eq : kernelRun0_A.sl.v372 c i arg2 harg2 arg3 harg3 arg4 harg4 arg5 harg5 arg8 arg9 x0 x1 x2 x3 = dTL (qT i x0 x1 2) x2 x3 2 := by
  unfold kernelRun0_A.sl.v372 kernelRun0_A.sl.HS1_10 kernelRun0_A.sl.HS1_9
  simp (disch := decide) only [↓readLeft, ↓View.readCov_skip, readRows, v189_eq]
  rfl

/-- The upper right quarter of a diagonal tile read back. -/
theorem v376_eq : kernelRun0_A.sl.v376 c i arg2 harg2 arg3 harg3 arg4 harg4 arg5 harg5 arg8 arg9 x0 x1 x2 x3 = dTR (qT i x0 x1 2) x2 x3 2 := by
  unfold kernelRun0_A.sl.v376 kernelRun0_A.sl.HS1_10 kernelRun0_A.sl.HS1_9
  simp (disch := decide) only [↓readRight, ↓View.readCov_skip, readRows, v189_eq]
  rfl

/-- A tile of scores read back. -/
theorem v277_eq : kernelRun0_A.sl.v277 c i arg2 harg2 arg3 harg3 arg4 harg4 arg5 harg5 arg8 arg9 x0 x1 x2 x3 = sT (qT i x0 x1 2) x2 x3 0 := by
  unfold kernelRun0_A.sl.v277 kernelRun0_A.sl.HS1_7 kernelRun0_A.sl.HS1_6
  simp (disch := decide) only [↓View.readCov_cons_toLoadRect, ↓View.readCov_skip, readRows, v189_eq]
  rfl

/-- A tile of scores read back. -/
theorem v315_eq : kernelRun0_A.sl.v315 c i arg2 harg2 arg3 harg3 arg4 harg4 arg5 harg5 arg8 arg9 x0 x1 x2 x3 = sT (qT i x0 x1 2) x2 x3 1 := by
  unfold kernelRun0_A.sl.v315 kernelRun0_A.sl.HS1_9 kernelRun0_A.sl.HS1_7
  simp (disch := decide) only [↓View.readCov_cons_toLoadRect, ↓View.readCov_skip, readRows, v189_eq]
  rfl

/-- The upper left quarter of a diagonal tile read back. -/
theorem v578_eq : kernelRun0_A.sl.v578 c i arg2 harg2 arg3 harg3 arg4 harg4 arg5 harg5 arg8 arg9 x0 x1 x2 x3 = dTL (qT i x0 x1 3) x2 x3 3 := by
  unfold kernelRun0_A.sl.v578 kernelRun0_A.sl.HS1_15 kernelRun0_A.sl.HS1_14
  simp (disch := decide) only [↓readLeft, ↓View.readCov_skip, readRows, v358_eq]
  rfl

/-- The upper right quarter of a diagonal tile read back. -/
theorem v582_eq : kernelRun0_A.sl.v582 c i arg2 harg2 arg3 harg3 arg4 harg4 arg5 harg5 arg8 arg9 x0 x1 x2 x3 = dTR (qT i x0 x1 3) x2 x3 3 := by
  unfold kernelRun0_A.sl.v582 kernelRun0_A.sl.HS1_15 kernelRun0_A.sl.HS1_14
  simp (disch := decide) only [↓readRight, ↓View.readCov_skip, readRows, v358_eq]
  rfl

/-- The lower right quarter of a diagonal tile read back. -/
theorem v585_eq : kernelRun0_A.sl.v585 c i arg2 harg2 arg3 harg3 arg4 harg4 arg5 harg5 arg8 arg9 x0 x1 x2 x3 = dBR (qT i x0 x1 3) x2 x3 3 := by
  unfold kernelRun0_A.sl.v585 kernelRun0_A.sl.HS1_15 kernelRun0_A.sl.HS1_14
  simp (disch := decide) only [↓View.readCov_cons_toLoadRect, ↓View.readCov_skip, readRows, v358_eq]
  rfl

/-- A tile of scores read back. -/
theorem v446_eq : kernelRun0_A.sl.v446 c i arg2 harg2 arg3 harg3 arg4 harg4 arg5 harg5 arg8 arg9 x0 x1 x2 x3 = sT (qT i x0 x1 3) x2 x3 0 := by
  unfold kernelRun0_A.sl.v446 kernelRun0_A.sl.HS1_11 kernelRun0_A.sl.HS1_10
  simp (disch := decide) only [↓View.readCov_cons_toLoadRect, ↓View.readCov_skip, readRows, v358_eq]
  rfl

/-- A tile of scores read back. -/
theorem v477_eq : kernelRun0_A.sl.v477 c i arg2 harg2 arg3 harg3 arg4 harg4 arg5 harg5 arg8 arg9 x0 x1 x2 x3 = sT (qT i x0 x1 3) x2 x3 1 := by
  unfold kernelRun0_A.sl.v477 kernelRun0_A.sl.HS1_12 kernelRun0_A.sl.HS1_11
  simp (disch := decide) only [↓View.readCov_cons_toLoadRect, ↓View.readCov_skip, readRows, v358_eq]
  rfl

/-- A tile of scores read back. -/
theorem v521_eq : kernelRun0_A.sl.v521 c i arg2 harg2 arg3 harg3 arg4 harg4 arg5 harg5 arg8 arg9 x0 x1 x2 x3 = sT (qT i x0 x1 3) x2 x3 2 := by
  unfold kernelRun0_A.sl.v521 kernelRun0_A.sl.HS1_14 kernelRun0_A.sl.HS1_12
  simp (disch := decide) only [↓View.readCov_cons_toLoadRect, ↓View.readCov_skip, readRows, v358_eq]
  rfl

/-- The upper right quarter of a diagonal tile read back. -/
theorem v825_eq : kernelRun0_A.sl.v825 c i arg2 harg2 arg3 harg3 arg4 harg4 arg5 harg5 arg8 arg9 x0 x1 x2 x3 = dTR (qT i x0 x1 4) x2 x3 4 := by
  unfold kernelRun0_A.sl.v825 kernelRun0_A.sl.HS1_21 kernelRun0_A.sl.HS1_20 kernelRun0_A.sl.r_57
  simp (disch := decide) only [↓readRight, ↓View.readCov_skip, readRows, v564_eq]
  rfl

/-- The upper left quarter of a diagonal tile read back. -/
theorem v821_eq : kernelRun0_A.sl.v821 c i arg2 harg2 arg3 harg3 arg4 harg4 arg5 harg5 arg8 arg9 x0 x1 x2 x3 = dTL (qT i x0 x1 4) x2 x3 4 := by
  unfold kernelRun0_A.sl.v821 kernelRun0_A.sl.HS1_21 kernelRun0_A.sl.HS1_20 kernelRun0_A.sl.r_57
  simp (disch := decide) only [↓readLeft, ↓View.readCov_skip, readRows, v564_eq]
  rfl

/-- The lower right quarter of a diagonal tile read back. -/
theorem v828_eq : kernelRun0_A.sl.v828 c i arg2 harg2 arg3 harg3 arg4 harg4 arg5 harg5 arg8 arg9 x0 x1 x2 x3 = dBR (qT i x0 x1 4) x2 x3 4 := by
  unfold kernelRun0_A.sl.v828 kernelRun0_A.sl.HS1_21 kernelRun0_A.sl.HS1_20 kernelRun0_A.sl.r_57
  simp (disch := decide) only [↓View.readCov_cons_toLoadRect, ↓View.readCov_skip, readRows, v564_eq]
  rfl

/-- A tile of scores read back. -/
theorem v652_eq : kernelRun0_A.sl.v652 c i arg2 harg2 arg3 harg3 arg4 harg4 arg5 harg5 arg8 arg9 x0 x1 x2 x3 = sT (qT i x0 x1 4) x2 x3 0 := by
  unfold kernelRun0_A.sl.v652 kernelRun0_A.sl.HS1_16 kernelRun0_A.sl.HS1_15
  simp (disch := decide) only [↓View.readCov_cons_toLoadRect, ↓View.readCov_skip, readRows, v564_eq]
  rfl

/-- A tile of scores read back. -/
theorem v683_eq : kernelRun0_A.sl.v683 c i arg2 harg2 arg3 harg3 arg4 harg4 arg5 harg5 arg8 arg9 x0 x1 x2 x3 = sT (qT i x0 x1 4) x2 x3 1 := by
  unfold kernelRun0_A.sl.v683 kernelRun0_A.sl.HS1_17 kernelRun0_A.sl.HS1_16
  simp (disch := decide) only [↓View.readCov_cons_toLoadRect, ↓View.readCov_skip, readRows, v564_eq]
  rfl

/-- A tile of scores read back. -/
theorem v720_eq : kernelRun0_A.sl.v720 c i arg2 harg2 arg3 harg3 arg4 harg4 arg5 harg5 arg8 arg9 x0 x1 x2 x3 = sT (qT i x0 x1 4) x2 x3 2 := by
  unfold kernelRun0_A.sl.v720 kernelRun0_A.sl.HS1_18 kernelRun0_A.sl.HS1_17
  simp (disch := decide) only [↓View.readCov_cons_toLoadRect, ↓View.readCov_skip, readRows, v564_eq]
  rfl

/-- A tile of scores read back. -/
theorem v764_eq : kernelRun0_A.sl.v764 c i arg2 harg2 arg3 harg3 arg4 harg4 arg5 harg5 arg8 arg9 x0 x1 x2 x3 = sT (qT i x0 x1 4) x2 x3 3 := by
  unfold kernelRun0_A.sl.v764 kernelRun0_A.sl.HS1_20 kernelRun0_A.sl.HS1_18
  simp (disch := decide) only [↓View.readCov_cons_toLoadRect, ↓View.readCov_skip, readRows, v564_eq]
  rfl

/-- The upper right quarter of a diagonal tile read back. -/
theorem v1105_eq : kernelRun0_A.sl.v1105 c i arg2 harg2 arg3 harg3 arg4 harg4 arg5 harg5 arg8 arg9 x0 x1 x2 x3 = dTR (qT i x0 x1 5) x2 x3 5 := by
  unfold kernelRun0_A.sl.v1105 kernelRun0_A.sl.HS1_28 kernelRun0_A.sl.HS1_27 kernelRun0_A.sl.r_76 kernelRun0_A.sl.r_77
  simp (disch := decide) only [↓readRight, ↓View.readCov_skip, readRows, v807_eq]
  rfl

/-- The lower right quarter of a diagonal tile read back. -/
theorem v1108_eq : kernelRun0_A.sl.v1108 c i arg2 harg2 arg3 harg3 arg4 harg4 arg5 harg5 arg8 arg9 x0 x1 x2 x3 = dBR (qT i x0 x1 5) x2 x3 5 := by
  unfold kernelRun0_A.sl.v1108 kernelRun0_A.sl.HS1_28 kernelRun0_A.sl.HS1_27 kernelRun0_A.sl.r_76 kernelRun0_A.sl.r_77
  simp (disch := decide) only [↓View.readCov_cons_toLoadRect, ↓View.readCov_skip, readRows, v807_eq]
  rfl

/-- The upper left quarter of a diagonal tile read back. -/
theorem v1101_eq : kernelRun0_A.sl.v1101 c i arg2 harg2 arg3 harg3 arg4 harg4 arg5 harg5 arg8 arg9 x0 x1 x2 x3 = dTL (qT i x0 x1 5) x2 x3 5 := by
  unfold kernelRun0_A.sl.v1101 kernelRun0_A.sl.HS1_28 kernelRun0_A.sl.HS1_27 kernelRun0_A.sl.r_76 kernelRun0_A.sl.r_77
  simp (disch := decide) only [↓readLeft, ↓View.readCov_skip, readRows, v807_eq]
  rfl

/-- A tile of scores read back. -/
theorem v895_eq : kernelRun0_A.sl.v895 c i arg2 harg2 arg3 harg3 arg4 harg4 arg5 harg5 arg8 arg9 x0 x1 x2 x3 = sT (qT i x0 x1 5) x2 x3 0 := by
  unfold kernelRun0_A.sl.v895 kernelRun0_A.sl.HS1_22 kernelRun0_A.sl.HS1_21
  simp (disch := decide) only [↓View.readCov_cons_toLoadRect, ↓View.readCov_skip, readRows, v807_eq]
  rfl

/-- A tile of scores read back. -/
theorem v926_eq : kernelRun0_A.sl.v926 c i arg2 harg2 arg3 harg3 arg4 harg4 arg5 harg5 arg8 arg9 x0 x1 x2 x3 = sT (qT i x0 x1 5) x2 x3 1 := by
  unfold kernelRun0_A.sl.v926 kernelRun0_A.sl.HS1_23 kernelRun0_A.sl.HS1_22
  simp (disch := decide) only [↓View.readCov_cons_toLoadRect, ↓View.readCov_skip, readRows, v807_eq]
  rfl

/-- A tile of scores read back. -/
theorem v963_eq : kernelRun0_A.sl.v963 c i arg2 harg2 arg3 harg3 arg4 harg4 arg5 harg5 arg8 arg9 x0 x1 x2 x3 = sT (qT i x0 x1 5) x2 x3 2 := by
  unfold kernelRun0_A.sl.v963 kernelRun0_A.sl.HS1_24 kernelRun0_A.sl.HS1_23
  simp (disch := decide) only [↓View.readCov_cons_toLoadRect, ↓View.readCov_skip, readRows, v807_eq]
  rfl

/-- A tile of scores read back. -/
theorem v1000_eq : kernelRun0_A.sl.v1000 c i arg2 harg2 arg3 harg3 arg4 harg4 arg5 harg5 arg8 arg9 x0 x1 x2 x3 = sT (qT i x0 x1 5) x2 x3 3 := by
  unfold kernelRun0_A.sl.v1000 kernelRun0_A.sl.HS1_25 kernelRun0_A.sl.HS1_24
  simp (disch := decide) only [↓View.readCov_cons_toLoadRect, ↓View.readCov_skip, readRows, v807_eq]
  rfl

/-- A tile of scores read back. -/
theorem v1044_eq : kernelRun0_A.sl.v1044 c i arg2 harg2 arg3 harg3 arg4 harg4 arg5 harg5 arg8 arg9 x0 x1 x2 x3 = sT (qT i x0 x1 5) x2 x3 4 := by
  unfold kernelRun0_A.sl.v1044 kernelRun0_A.sl.HS1_27 kernelRun0_A.sl.HS1_25 kernelRun0_A.sl.r_74
  simp (disch := decide) only [↓View.readCov_cons_toLoadRect, ↓View.readCov_skip, readRows, v807_eq]
  rfl

/-- The upper right quarter of a diagonal tile read back. -/
theorem v1422_eq : kernelRun0_A.sl.v1422 c i arg2 harg2 arg3 harg3 arg4 harg4 arg5 harg5 arg8 arg9 x0 x1 x2 x3 = dTR (qT i x0 x1 6) x2 x3 6 := by
  unfold kernelRun0_A.sl.v1422 kernelRun0_A.sl.HS1_36 kernelRun0_A.sl.HS1_35
  simp (disch := decide) only [↓readRight, ↓View.readCov_skip, readRows, v1087_eq]
  rfl

/-- The upper left quarter of a diagonal tile read back. -/
theorem v1418_eq : kernelRun0_A.sl.v1418 c i arg2 harg2 arg3 harg3 arg4 harg4 arg5 harg5 arg8 arg9 x0 x1 x2 x3 = dTL (qT i x0 x1 6) x2 x3 6 := by
  unfold kernelRun0_A.sl.v1418 kernelRun0_A.sl.HS1_36 kernelRun0_A.sl.HS1_35
  simp (disch := decide) only [↓readLeft, ↓View.readCov_skip, readRows, v1087_eq]
  rfl

/-- The lower right quarter of a diagonal tile read back. -/
theorem v1425_eq : kernelRun0_A.sl.v1425 c i arg2 harg2 arg3 harg3 arg4 harg4 arg5 harg5 arg8 arg9 x0 x1 x2 x3 = dBR (qT i x0 x1 6) x2 x3 6 := by
  unfold kernelRun0_A.sl.v1425 kernelRun0_A.sl.HS1_36 kernelRun0_A.sl.HS1_35
  simp (disch := decide) only [↓View.readCov_cons_toLoadRect, ↓View.readCov_skip, readRows, v1087_eq]
  rfl

/-- A tile of scores read back. -/
theorem v1175_eq : kernelRun0_A.sl.v1175 c i arg2 harg2 arg3 harg3 arg4 harg4 arg5 harg5 arg8 arg9 x0 x1 x2 x3 = sT (qT i x0 x1 6) x2 x3 0 := by
  unfold kernelRun0_A.sl.v1175 kernelRun0_A.sl.HS1_29 kernelRun0_A.sl.HS1_28 kernelRun0_A.sl.r_82
  simp (disch := decide) only [↓View.readCov_cons_toLoadRect, ↓View.readCov_skip, readRows, v1087_eq]
  rfl

/-- A tile of scores read back. -/
theorem v1206_eq : kernelRun0_A.sl.v1206 c i arg2 harg2 arg3 harg3 arg4 harg4 arg5 harg5 arg8 arg9 x0 x1 x2 x3 = sT (qT i x0 x1 6) x2 x3 1 := by
  unfold kernelRun0_A.sl.v1206 kernelRun0_A.sl.HS1_30 kernelRun0_A.sl.HS1_29
  simp (disch := decide) only [↓View.readCov_cons_toLoadRect, ↓View.readCov_skip, readRows, v1087_eq]
  rfl

/-- A tile of scores read back. -/
theorem v1243_eq : kernelRun0_A.sl.v1243 c i arg2 harg2 arg3 harg3 arg4 harg4 arg5 harg5 arg8 arg9 x0 x1 x2 x3 = sT (qT i x0 x1 6) x2 x3 2 := by
  unfold kernelRun0_A.sl.v1243 kernelRun0_A.sl.HS1_31 kernelRun0_A.sl.HS1_30 kernelRun0_A.sl.r_87
  simp (disch := decide) only [↓View.readCov_cons_toLoadRect, ↓View.readCov_skip, readRows, v1087_eq]
  rfl

/-- A tile of scores read back. -/
theorem v1280_eq : kernelRun0_A.sl.v1280 c i arg2 harg2 arg3 harg3 arg4 harg4 arg5 harg5 arg8 arg9 x0 x1 x2 x3 = sT (qT i x0 x1 6) x2 x3 3 := by
  unfold kernelRun0_A.sl.v1280 kernelRun0_A.sl.HS1_32 kernelRun0_A.sl.HS1_31 kernelRun0_A.sl.r_89 kernelRun0_A.sl.r_90
  simp (disch := decide) only [↓View.readCov_cons_toLoadRect, ↓View.readCov_skip, readRows, v1087_eq]
  rfl

/-- A tile of scores read back. -/
theorem v1317_eq : kernelRun0_A.sl.v1317 c i arg2 harg2 arg3 harg3 arg4 harg4 arg5 harg5 arg8 arg9 x0 x1 x2 x3 = sT (qT i x0 x1 6) x2 x3 4 := by
  unfold kernelRun0_A.sl.v1317 kernelRun0_A.sl.HS1_33 kernelRun0_A.sl.HS1_32
  simp (disch := decide) only [↓View.readCov_cons_toLoadRect, ↓View.readCov_skip, readRows, v1087_eq]
  rfl

/-- A tile of scores read back. -/
theorem v1361_eq : kernelRun0_A.sl.v1361 c i arg2 harg2 arg3 harg3 arg4 harg4 arg5 harg5 arg8 arg9 x0 x1 x2 x3 = sT (qT i x0 x1 6) x2 x3 5 := by
  unfold kernelRun0_A.sl.v1361 kernelRun0_A.sl.HS1_35 kernelRun0_A.sl.HS1_33
  simp (disch := decide) only [↓View.readCov_cons_toLoadRect, ↓View.readCov_skip, readRows, v1087_eq]
  rfl

/-- The upper left quarter of a diagonal tile read back. -/
theorem v1744_eq : kernelRun0_A.sl.v1744 c i arg2 harg2 arg3 harg3 arg4 harg4 arg5 harg5 arg8 arg9 x0 x1 x2 x3 = dTL (qT i x0 x1 7) x2 x3 7 := by
  unfold kernelRun0_A.sl.v1744 kernelRun0_A.sl.HS1_44
  simp (disch := decide) only [↓readLeft, ↓View.readCov_skip, readRows, v1404_eq]
  rfl

/-- The lower right quarter of a diagonal tile read back. -/
theorem v1751_eq : kernelRun0_A.sl.v1751 c i arg2 harg2 arg3 harg3 arg4 harg4 arg5 harg5 arg8 arg9 x0 x1 x2 x3 = dBR (qT i x0 x1 7) x2 x3 7 := by
  unfold kernelRun0_A.sl.v1751 kernelRun0_A.sl.HS1_44
  simp (disch := decide) only [↓View.readCov_cons_toLoadRect, ↓View.readCov_skip, readRows, v1404_eq]
  rfl

/-- The upper right quarter of a diagonal tile read back. -/
theorem v1748_eq : kernelRun0_A.sl.v1748 c i arg2 harg2 arg3 harg3 arg4 harg4 arg5 harg5 arg8 arg9 x0 x1 x2 x3 = dTR (qT i x0 x1 7) x2 x3 7 := by
  unfold kernelRun0_A.sl.v1748 kernelRun0_A.sl.HS1_44
  simp (disch := decide) only [↓readRight, ↓View.readCov_skip, readRows, v1404_eq]
  rfl

/-- A tile of scores read back. -/
theorem v1492_eq : kernelRun0_A.sl.v1492 c i arg2 harg2 arg3 harg3 arg4 harg4 arg5 harg5 arg8 arg9 x0 x1 x2 x3 = sT (qT i x0 x1 7) x2 x3 0 := by
  unfold kernelRun0_A.sl.v1492 kernelRun0_A.sl.HS1_37 kernelRun0_A.sl.HS1_36
  simp (disch := decide) only [↓View.readCov_cons_toLoadRect, ↓View.readCov_skip, readRows, v1404_eq]
  rfl

/-- A tile of scores read back. -/
theorem v1523_eq : kernelRun0_A.sl.v1523 c i arg2 harg2 arg3 harg3 arg4 harg4 arg5 harg5 arg8 arg9 x0 x1 x2 x3 = sT (qT i x0 x1 7) x2 x3 1 := by
  unfold kernelRun0_A.sl.v1523 kernelRun0_A.sl.HS1_38 kernelRun0_A.sl.HS1_37
  simp (disch := decide) only [↓View.readCov_cons_toLoadRect, ↓View.readCov_skip, readRows, v1404_eq]
  rfl

/-- A tile of scores read back. -/
theorem v1560_eq : kernelRun0_A.sl.v1560 c i arg2 harg2 arg3 harg3 arg4 harg4 arg5 harg5 arg8 arg9 x0 x1 x2 x3 = sT (qT i x0 x1 7) x2 x3 2 := by
  unfold kernelRun0_A.sl.v1560 kernelRun0_A.sl.HS1_39 kernelRun0_A.sl.HS1_38
  simp (disch := decide) only [↓View.readCov_cons_toLoadRect, ↓View.readCov_skip, readRows, v1404_eq]
  rfl

/-- A tile of scores read back. -/
theorem v1597_eq : kernelRun0_A.sl.v1597 c i arg2 harg2 arg3 harg3 arg4 harg4 arg5 harg5 arg8 arg9 x0 x1 x2 x3 = sT (qT i x0 x1 7) x2 x3 3 := by
  unfold kernelRun0_A.sl.v1597 kernelRun0_A.sl.HS1_40 kernelRun0_A.sl.HS1_39
  simp (disch := decide) only [↓View.readCov_cons_toLoadRect, ↓View.readCov_skip, readRows, v1404_eq]
  rfl

/-- A tile of scores read back. -/
theorem v1634_eq : kernelRun0_A.sl.v1634 c i arg2 harg2 arg3 harg3 arg4 harg4 arg5 harg5 arg8 arg9 x0 x1 x2 x3 = sT (qT i x0 x1 7) x2 x3 4 := by
  unfold kernelRun0_A.sl.v1634 kernelRun0_A.sl.HS1_41 kernelRun0_A.sl.HS1_40
  simp (disch := decide) only [↓View.readCov_cons_toLoadRect, ↓View.readCov_skip, readRows, v1404_eq]
  rfl

/-- A tile of scores read back. -/
theorem v1671_eq : kernelRun0_A.sl.v1671 c i arg2 harg2 arg3 harg3 arg4 harg4 arg5 harg5 arg8 arg9 x0 x1 x2 x3 = sT (qT i x0 x1 7) x2 x3 5 := by
  unfold kernelRun0_A.sl.v1671 kernelRun0_A.sl.HS1_42 kernelRun0_A.sl.HS1_41 kernelRun0_A.sl.r_115 kernelRun0_A.sl.r_116 kernelRun0_A.sl.r_117
  simp (disch := decide) only [↓View.readCov_cons_toLoadRect, ↓View.readCov_skip, readRows, v1404_eq]
  rfl

/-- A tile of scores read back. -/
theorem v1715_eq : kernelRun0_A.sl.v1715 c i arg2 harg2 arg3 harg3 arg4 harg4 arg5 harg5 arg8 arg9 x0 x1 x2 x3 = sT (qT i x0 x1 7) x2 x3 6 := by
  unfold kernelRun0_A.sl.v1715 kernelRun0_A.sl.HS1_44 kernelRun0_A.sl.HS1_42
  simp (disch := decide) only [↓View.readCov_cons_toLoadRect, ↓View.readCov_skip, readRows, v1404_eq]
  rfl

end Cert.Att
-- ==== Proof.Sums.lean ====
/- The running maxima, weights and sums of the body are those of `Tiles`. -/
module

public import proofs.«01_k».proof.Proof.Tiles
public import proofs.«01_k».proof.Proof.Scores

@[expose] public section

set_option maxRecDepth 16384

noncomputable section

namespace Cert.Att

open Idealize.ShloMosaic Cert.KernelIdeal Cert.KernelIdeal.Gen

variable {F : FTy → Type} [FloatOps F] [Named F]
variable (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S1x1x8x144x512 .bf16) (harg6 : arg6.IsWhole)
  (arg8 : Memref sig .tc .vmem S2x512x256 .bf16) (arg9 : Memref sig .tc .vmem S3x512x512 .f32)
  (arg10 : Memref sig .tc .vmem S2x512x512 .bf16) (arg11 : Memref sig .tc .vmem S144x512 .f32)
  (x0 x1 x2 x3 : Vec F S4096x128 .bf16) (x4 : Vec F S1x1x8x144x512 .bf16)

/-- The running maxima. -/
theorem r_10_eq : kernelRun0_A.sl.r_10 c i arg2 harg2 arg3 harg3 arg4 harg4 arg5 harg5 arg8 arg9 x0 x1 x2 x3 = mT (qT i x0 x1 1) x2 x3 1 := by
  unfold kernelRun0_A.sl.r_10
  simp (disch := decide) only [v152_eq]
  refine Eq.trans ?_ (mT_step (qT i x0 x1 1) x2 x3 0).symm
  rfl

/-- The running maxima. -/
theorem r_19_eq : kernelRun0_A.sl.r_19 c i arg2 harg2 arg3 harg3 arg4 harg4 arg5 harg5 arg8 arg9 x0 x1 x2 x3 = mT (qT i x0 x1 2) x2 x3 1 := by
  unfold kernelRun0_A.sl.r_19
  simp (disch := decide) only [v277_eq]
  refine Eq.trans ?_ (mT_step (qT i x0 x1 2) x2 x3 0).symm
  rfl

/-- The running maxima. -/
theorem r_21_eq : kernelRun0_A.sl.r_21 c i arg2 harg2 arg3 harg3 arg4 harg4 arg5 harg5 arg8 arg9 x0 x1 x2 x3 = mT (qT i x0 x1 2) x2 x3 2 := by
  unfold kernelRun0_A.sl.r_21 kernelRun0_A.sl.r_20
  simp (disch := decide) only [r_19_eq, v315_eq]
  refine Eq.trans ?_ (mT_step (qT i x0 x1 2) x2 x3 1).symm
  rfl

/-- The running maxima. -/
theorem r_31_eq : kernelRun0_A.sl.r_31 c i arg2 harg2 arg3 harg3 arg4 harg4 arg5 harg5 arg8 arg9 x0 x1 x2 x3 = mT (qT i x0 x1 3) x2 x3 1 := by
  unfold kernelRun0_A.sl.r_31
  simp (disch := decide) only [v446_eq]
  refine Eq.trans ?_ (mT_step (qT i x0 x1 3) x2 x3 0).symm
  rfl

/-- The running maxima. -/
theorem r_34_eq : kernelRun0_A.sl.r_34 c i arg2 harg2 arg3 harg3 arg4 harg4 arg5 harg5 arg8 arg9 x0 x1 x2 x3 = mT (qT i x0 x1 3) x2 x3 2 := by
  unfold kernelRun0_A.sl.r_34
  simp (disch := decide) only [r_31_eq, v477_eq]
  refine Eq.trans ?_ (mT_step (qT i x0 x1 3) x2 x3 1).symm
  rfl

/-- The running maxima. -/
theorem r_38_eq : kernelRun0_A.sl.r_38 c i arg2 harg2 arg3 harg3 arg4 harg4 arg5 harg5 arg8 arg9 x0 x1 x2 x3 = mT (qT i x0 x1 3) x2 x3 3 := by
  unfold kernelRun0_A.sl.r_38 kernelRun0_A.sl.r_37
  simp (disch := decide) only [r_34_eq, v521_eq]
  refine Eq.trans ?_ (mT_step (qT i x0 x1 3) x2 x3 2).symm
  rfl

/-- The running maxima. -/
theorem r_48_eq : kernelRun0_A.sl.r_48 c i arg2 harg2 arg3 harg3 arg4 harg4 arg5 harg5 arg8 arg9 x0 x1 x2 x3 = mT (qT i x0 x1 4) x2 x3 1 := by
  unfold kernelRun0_A.sl.r_48
  simp (disch := decide) only [v652_eq]
  refine Eq.trans ?_ (mT_step (qT i x0 x1 4) x2 x3 0).symm
  rfl

/-- The running maxima. -/
theorem r_51_eq : kernelRun0_A.sl.r_51 c i arg2 harg2 arg3 harg3 arg4 harg4 arg5 harg5 arg8 arg9 x0 x1 x2 x3 = mT (qT i x0 x1 4) x2 x3 2 := by
  unfold kernelRun0_A.sl.r_51
  simp (disch := decide) only [r_48_eq, v683_eq]
  refine Eq.trans ?_ (mT_step (qT i x0 x1 4) x2 x3 1).symm
  rfl

/-- The running maxima. -/
theorem r_54_eq : kernelRun0_A.sl.r_54 c i arg2 harg2 arg3 harg3 arg4 harg4 arg5 harg5 arg8 arg9 x0 x1 x2 x3 = mT (qT i x0 x1 4) x2 x3 3 := by
  unfold kernelRun0_A.sl.r_54
  simp (disch := decide) only [r_51_eq, v720_eq]
  refine Eq.trans ?_ (mT_step (qT i x0 x1 4) x2 x3 2).symm
  rfl

/-- The running maxima. -/
theorem r_58_eq : kernelRun0_A.sl.r_58 c i arg2 harg2 arg3 harg3 arg4 harg4 arg5 harg5 arg8 arg9 x0 x1 x2 x3 = mT (qT i x0 x1 4) x2 x3 4 := by
  unfold kernelRun0_A.sl.r_58
  simp (disch := decide) only [r_54_eq, v764_eq]
  refine Eq.trans ?_ (mT_step (qT i x0 x1 4) x2 x3 3).symm
  rfl

/-- The running maxima. -/
theorem r_67_eq : kernelRun0_A.sl.r_67 c i arg2 harg2 arg3 harg3 arg4 harg4 arg5 harg5 arg8 arg9 x0 x1 x2 x3 = mT (qT i x0 x1 5) x2 x3 1 := by
  unfold kernelRun0_A.sl.r_67
  simp (disch := decide) only [v895_eq]
  refine Eq.trans ?_ (mT_step (qT i x0 x1 5) x2 x3 0).symm
  rfl

/-- The running maxima. -/
theorem r_68_eq : kernelRun0_A.sl.r_68 c i arg2 harg2 arg3 harg3 arg4 harg4 arg5 harg5 arg8 arg9 x0 x1 x2 x3 = mT (qT i x0 x1 5) x2 x3 2 := by
  unfold kernelRun0_A.sl.r_68
  simp (disch := decide) only [r_67_eq, v926_eq]
  refine Eq.trans ?_ (mT_step (qT i x0 x1 5) x2 x3 1).symm
  rfl

/-- The running maxima. -/
theorem r_73_eq : kernelRun0_A.sl.r_73 c i arg2 harg2 arg3 harg3 arg4 harg4 arg5 harg5 arg8 arg9 x0 x1 x2 x3 = mT (qT i x0 x1 5) x2 x3 3 := by
  unfold kernelRun0_A.sl.r_73 kernelRun0_A.sl.r_72
  simp (disch := decide) only [r_68_eq, v963_eq]
  refine Eq.trans ?_ (mT_step (qT i x0 x1 5) x2 x3 2).symm
  rfl

/-- The running maxima. -/
theorem r_75_eq : kernelRun0_A.sl.r_75 c i arg2 harg2 arg3 harg3 arg4 harg4 arg5 harg5 arg8 arg9 x0 x1 x2 x3 = mT (qT i x0 x1 5) x2 x3 4 := by
  unfold kernelRun0_A.sl.r_75
  simp (disch := decide) only [r_73_eq, v1000_eq]
  refine Eq.trans ?_ (mT_step (qT i x0 x1 5) x2 x3 3).symm
  rfl

/-- The running maxima. -/
theorem r_78_eq : kernelRun0_A.sl.r_78 c i arg2 harg2 arg3 harg3 arg4 harg4 arg5 harg5 arg8 arg9 x0 x1 x2 x3 = mT (qT i x0 x1 5) x2 x3 5 := by
  unfold kernelRun0_A.sl.r_78
  simp (disch := decide) only [r_75_eq, v1044_eq]
  refine Eq.trans ?_ (mT_step (qT i x0 x1 5) x2 x3 4).symm
  rfl

/-- The running maxima. -/
theorem r_86_eq : kernelRun0_A.sl.r_86 c i arg2 harg2 arg3 harg3 arg4 harg4 arg5 harg5 arg8 arg9 x0 x1 x2 x3 = mT (qT i x0 x1 6) x2 x3 1 := by
  unfold kernelRun0_A.sl.r_86 kernelRun0_A.sl.cst_773
  simp (disch := decide) only [v1175_eq]
  refine Eq.trans ?_ (mT_step (qT i x0 x1 6) x2 x3 0).symm
  rfl

/-- The running maxima. -/
theorem r_88_eq : kernelRun0_A.sl.r_88 c i arg2 harg2 arg3 harg3 arg4 harg4 arg5 harg5 arg8 arg9 x0 x1 x2 x3 = mT (qT i x0 x1 6) x2 x3 2 := by
  unfold kernelRun0_A.sl.r_88
  simp (disch := decide) only [r_86_eq, v1206_eq]
  refine Eq.trans ?_ (mT_step (qT i x0 x1 6) x2 x3 1).symm
  rfl

/-- The running maxima. -/
theorem r_91_eq : kernelRun0_A.sl.r_91 c i arg2 harg2 arg3 harg3 arg4 harg4 arg5 harg5 arg8 arg9 x0 x1 x2 x3 = mT (qT i x0 x1 6) x2 x3 3 := by
  unfold kernelRun0_A.sl.r_91
  simp (disch := decide) only [r_88_eq, v1243_eq]
  refine Eq.trans ?_ (mT_step (qT i x0 x1 6) x2 x3 2).symm
  rfl

/-- The running maxima. -/
theorem r_93_eq : kernelRun0_A.sl.r_93 c i arg2 harg2 arg3 harg3 arg4 harg4 arg5 harg5 arg8 arg9 x0 x1 x2 x3 = mT (qT i x0 x1 6) x2 x3 4 := by
  unfold kernelRun0_A.sl.r_93
  simp (disch := decide) only [r_91_eq, v1280_eq]
  refine Eq.trans ?_ (mT_step (qT i x0 x1 6) x2 x3 3).symm
  rfl

/-- The running maxima. -/
theorem r_97_eq : kernelRun0_A.sl.r_97 c i arg2 harg2 arg3 harg3 arg4 harg4 arg5 harg5 arg8 arg9 x0 x1 x2 x3 = mT (qT i x0 x1 6) x2 x3 5 := by
  unfold kernelRun0_A.sl.r_97
  simp (disch := decide) only [r_93_eq, v1317_eq]
  refine Eq.trans ?_ (mT_step (qT i x0 x1 6) x2 x3 4).symm
  rfl

/-- The running maxima. -/
theorem r_99_eq : kernelRun0_A.sl.r_99 c i arg2 harg2 arg3 harg3 arg4 harg4 arg5 harg5 arg8 arg9 x0 x1 x2 x3 = mT (qT i x0 x1 6) x2 x3 6 := by
  unfold kernelRun0_A.sl.r_99
  simp (disch := decide) only [r_97_eq, v1361_eq]
  refine Eq.trans ?_ (mT_step (qT i x0 x1 6) x2 x3 5).symm
  rfl

/-- The running maxima. -/
theorem r_108_eq : kernelRun0_A.sl.r_108 c i arg2 harg2 arg3 harg3 arg4 harg4 arg5 harg5 arg8 arg9 x0 x1 x2 x3 = mT (qT i x0 x1 7) x2 x3 1 := by
  unfold kernelRun0_A.sl.r_108
  simp (disch := decide) only [v1492_eq]
  refine Eq.trans ?_ (mT_step (qT i x0 x1 7) x2 x3 0).symm
  rfl

/-- The running maxima. -/
theorem r_110_eq : kernelRun0_A.sl.r_110 c i arg2 harg2 arg3 harg3 arg4 harg4 arg5 harg5 arg8 arg9 x0 x1 x2 x3 = mT (qT i x0 x1 7) x2 x3 2 := by
  unfold kernelRun0_A.sl.r_110
  simp (disch := decide) only [r_108_eq, v1523_eq]
  refine Eq.trans ?_ (mT_step (qT i x0 x1 7) x2 x3 1).symm
  rfl

/-- The running maxima. -/
theorem r_112_eq : kernelRun0_A.sl.r_112 c i arg2 harg2 arg3 harg3 arg4 harg4 arg5 harg5 arg8 arg9 x0 x1 x2 x3 = mT (qT i x0 x1 7) x2 x3 3 := by
  unfold kernelRun0_A.sl.r_112
  simp (disch := decide) only [r_110_eq, v1560_eq]
  refine Eq.trans ?_ (mT_step (qT i x0 x1 7) x2 x3 2).symm
  rfl

/-- The running maxima. -/
theorem r_114_eq : kernelRun0_A.sl.r_114 c i arg2 harg2 arg3 harg3 arg4 harg4 arg5 harg5 arg8 arg9 x0 x1 x2 x3 = mT (qT i x0 x1 7) x2 x3 4 := by
  unfold kernelRun0_A.sl.r_114
  simp (disch := decide) only [r_112_eq, v1597_eq]
  refine Eq.trans ?_ (mT_step (qT i x0 x1 7) x2 x3 3).symm
  rfl

/-- The running maxima. -/
theorem r_118_eq : kernelRun0_A.sl.r_118 c i arg2 harg2 arg3 harg3 arg4 harg4 arg5 harg5 arg8 arg9 x0 x1 x2 x3 = mT (qT i x0 x1 7) x2 x3 5 := by
  unfold kernelRun0_A.sl.r_118
  simp (disch := decide) only [r_114_eq, v1634_eq]
  refine Eq.trans ?_ (mT_step (qT i x0 x1 7) x2 x3 4).symm
  rfl

/-- The running maxima. -/
theorem r_119_eq : kernelRun0_A.sl.r_119 c i arg2 harg2 arg3 harg3 arg4 harg4 arg5 harg5 arg8 arg9 x0 x1 x2 x3 = mT (qT i x0 x1 7) x2 x3 6 := by
  unfold kernelRun0_A.sl.r_119
  simp (disch := decide) only [r_118_eq, v1671_eq]
  refine Eq.trans ?_ (mT_step (qT i x0 x1 7) x2 x3 5).symm
  rfl

/-- The running maxima. -/
theorem r_122_eq : kernelRun0_A.sl.r_122 c i arg2 harg2 arg3 harg3 arg4 harg4 arg5 harg5 arg8 arg9 x0 x1 x2 x3 = mT (qT i x0 x1 7) x2 x3 7 := by
  unfold kernelRun0_A.sl.r_122
  simp (disch := decide) only [r_119_eq, v1715_eq]
  refine Eq.trans ?_ (mT_step (qT i x0 x1 7) x2 x3 6).symm
  rfl

/-- A tile of weights read back. -/
theorem v164_eq : kernelRun0_A.sl.v164 c i arg2 harg2 arg3 harg3 arg4 harg4 arg5 harg5 arg8 arg9 arg10 x0 x1 x2 x3 = pT (qT i x0 x1 1) x2 x3 0 := by
  unfold kernelRun0_A.sl.v164 kernelRun0_A.sl.HS2_1
  simp (disch := decide) only [↓View.readCov_cons_toLoadRect, ↓View.readCov_skip, v152_eq]
  rfl

/-- The running sums read back. -/
theorem v246_eq : kernelRun0_A.sl.v246 c i arg2 harg2 arg3 harg3 arg4 harg4 arg5 harg5 arg6 harg6 arg8 arg9 arg10 arg11 x0 x1 x2 x3 x4 = aT (qT i x0 x1 1) x2 x3 x4 0 := by
  unfold kernelRun0_A.sl.v246 kernelRun0_A.sl.HS3_1
  simp (disch := decide) only [↓View.readCov_cons_toLoadRect, ↓View.readCov_skip, readVals, v164_eq]
  rfl

/-- A tile of weights read back. -/
theorem v289_eq : kernelRun0_A.sl.v289 c i arg2 harg2 arg3 harg3 arg4 harg4 arg5 harg5 arg8 arg9 arg10 x0 x1 x2 x3 = pT (qT i x0 x1 2) x2 x3 0 := by
  unfold kernelRun0_A.sl.v289 kernelRun0_A.sl.HS2_2
  simp (disch := decide) only [↓View.readCov_cons_toLoadRect, ↓View.readCov_skip, v277_eq]
  rfl

/-- The running sums read back. -/
theorem v334_eq : kernelRun0_A.sl.v334 c i arg2 harg2 arg3 harg3 arg4 harg4 arg5 harg5 arg6 harg6 arg8 arg9 arg10 arg11 x0 x1 x2 x3 x4 = aT (qT i x0 x1 2) x2 x3 x4 0 := by
  unfold kernelRun0_A.sl.v334 kernelRun0_A.sl.HS3_2
  simp (disch := decide) only [↓View.readCov_cons_toLoadRect, ↓View.readCov_skip, readVals, v289_eq]
  rfl

/-- A tile of weights read back. -/
theorem v329_eq : kernelRun0_A.sl.v329 c i arg2 harg2 arg3 harg3 arg4 harg4 arg5 harg5 arg8 arg9 arg10 x0 x1 x2 x3 = pT (qT i x0 x1 2) x2 x3 1 := by
  unfold kernelRun0_A.sl.v329 kernelRun0_A.sl.HS2_3 kernelRun0_A.sl.r_20
  simp (disch := decide) only [↓View.readCov_cons_toLoadRect, ↓View.readCov_skip, r_19_eq, v315_eq]
  rfl

/-- The running sums read back. -/
theorem v415_eq : kernelRun0_A.sl.v415 c i arg2 harg2 arg3 harg3 arg4 harg4 arg5 harg5 arg6 harg6 arg8 arg9 arg10 arg11 x0 x1 x2 x3 x4 = aT (qT i x0 x1 2) x2 x3 x4 1 := by
  unfold kernelRun0_A.sl.v415 kernelRun0_A.sl.HS3_3 kernelRun0_A.sl.r_20
  simp (disch := decide) only [↓View.readCov_cons_toLoadRect, ↓View.readCov_skip, readVals, r_19_eq, v315_eq, v329_eq, v334_eq]
  refine Eq.trans ?_ (aT_step (qT i x0 x1 2) x2 x3 x4 0).symm
  rfl

/-- A tile of weights read back. -/
theorem v458_eq : kernelRun0_A.sl.v458 c i arg2 harg2 arg3 harg3 arg4 harg4 arg5 harg5 arg8 arg9 arg10 x0 x1 x2 x3 = pT (qT i x0 x1 3) x2 x3 0 := by
  unfold kernelRun0_A.sl.v458 kernelRun0_A.sl.HS2_4
  simp (disch := decide) only [↓View.readCov_cons_toLoadRect, ↓View.readCov_skip, v446_eq]
  rfl

/-- The running sums read back. -/
theorem v496_eq : kernelRun0_A.sl.v496 c i arg2 harg2 arg3 harg3 arg4 harg4 arg5 harg5 arg6 harg6 arg8 arg9 arg10 arg11 x0 x1 x2 x3 x4 = aT (qT i x0 x1 3) x2 x3 x4 0 := by
  unfold kernelRun0_A.sl.v496 kernelRun0_A.sl.HS3_4 kernelRun0_A.sl.r_32 kernelRun0_A.sl.r_33
  simp (disch := decide) only [↓View.readCov_cons_toLoadRect, ↓View.readCov_skip, readVals, v458_eq]
  rfl

/-- A tile of weights read back. -/
theorem v491_eq : kernelRun0_A.sl.v491 c i arg2 harg2 arg3 harg3 arg4 harg4 arg5 harg5 arg8 arg9 arg10 x0 x1 x2 x3 = pT (qT i x0 x1 3) x2 x3 1 := by
  unfold kernelRun0_A.sl.v491 kernelRun0_A.sl.HS2_5
  simp (disch := decide) only [↓View.readCov_cons_toLoadRect, ↓View.readCov_skip, r_31_eq, v477_eq]
  rfl

/-- The running sums read back. -/
theorem v540_eq : kernelRun0_A.sl.v540 c i arg2 harg2 arg3 harg3 arg4 harg4 arg5 harg5 arg6 harg6 arg8 arg9 arg10 arg11 x0 x1 x2 x3 x4 = aT (qT i x0 x1 3) x2 x3 x4 1 := by
  unfold kernelRun0_A.sl.v540 kernelRun0_A.sl.HS3_5 kernelRun0_A.sl.r_35 kernelRun0_A.sl.r_36
  simp (disch := decide) only [↓View.readCov_cons_toLoadRect, ↓View.readCov_skip, readVals, r_31_eq, v477_eq, v491_eq, v496_eq]
  refine Eq.trans ?_ (aT_step (qT i x0 x1 3) x2 x3 x4 0).symm
  rfl

/-- A tile of weights read back. -/
theorem v535_eq : kernelRun0_A.sl.v535 c i arg2 harg2 arg3 harg3 arg4 harg4 arg5 harg5 arg8 arg9 arg10 x0 x1 x2 x3 = pT (qT i x0 x1 3) x2 x3 2 := by
  unfold kernelRun0_A.sl.v535 kernelRun0_A.sl.HS2_6 kernelRun0_A.sl.r_37
  simp (disch := decide) only [↓View.readCov_cons_toLoadRect, ↓View.readCov_skip, r_34_eq, v521_eq]
  rfl

/-- The running sums read back. -/
theorem v621_eq : kernelRun0_A.sl.v621 c i arg2 harg2 arg3 harg3 arg4 harg4 arg5 harg5 arg6 harg6 arg8 arg9 arg10 arg11 x0 x1 x2 x3 x4 = aT (qT i x0 x1 3) x2 x3 x4 2 := by
  unfold kernelRun0_A.sl.v621 kernelRun0_A.sl.HS3_6 kernelRun0_A.sl.r_37
  simp (disch := decide) only [↓View.readCov_cons_toLoadRect, ↓View.readCov_skip, readVals, r_34_eq, v521_eq, v535_eq, v540_eq]
  refine Eq.trans ?_ (aT_step (qT i x0 x1 3) x2 x3 x4 1).symm
  rfl

/-- A tile of weights read back. -/
theorem v664_eq : kernelRun0_A.sl.v664 c i arg2 harg2 arg3 harg3 arg4 harg4 arg5 harg5 arg8 arg9 arg10 x0 x1 x2 x3 = pT (qT i x0 x1 4) x2 x3 0 := by
  unfold kernelRun0_A.sl.v664 kernelRun0_A.sl.HS2_7
  simp (disch := decide) only [↓View.readCov_cons_toLoadRect, ↓View.readCov_skip, v652_eq]
  rfl

/-- The running sums read back. -/
theorem v702_eq : kernelRun0_A.sl.v702 c i arg2 harg2 arg3 harg3 arg4 harg4 arg5 harg5 arg6 harg6 arg8 arg9 arg10 arg11 x0 x1 x2 x3 x4 = aT (qT i x0 x1 4) x2 x3 x4 0 := by
  unfold kernelRun0_A.sl.v702 kernelRun0_A.sl.HS3_7 kernelRun0_A.sl.r_49 kernelRun0_A.sl.r_50
  simp (disch := decide) only [↓View.readCov_cons_toLoadRect, ↓View.readCov_skip, readVals, v664_eq]
  rfl

/-- A tile of weights read back. -/
theorem v697_eq : kernelRun0_A.sl.v697 c i arg2 harg2 arg3 harg3 arg4 harg4 arg5 harg5 arg8 arg9 arg10 x0 x1 x2 x3 = pT (qT i x0 x1 4) x2 x3 1 := by
  unfold kernelRun0_A.sl.v697 kernelRun0_A.sl.HS2_8
  simp (disch := decide) only [↓View.readCov_cons_toLoadRect, ↓View.readCov_skip, r_48_eq, v683_eq]
  rfl

/-- The running sums read back. -/
theorem v739_eq : kernelRun0_A.sl.v739 c i arg2 harg2 arg3 harg3 arg4 harg4 arg5 harg5 arg6 harg6 arg8 arg9 arg10 arg11 x0 x1 x2 x3 x4 = aT (qT i x0 x1 4) x2 x3 x4 1 := by
  unfold kernelRun0_A.sl.v739 kernelRun0_A.sl.HS3_8 kernelRun0_A.sl.r_52 kernelRun0_A.sl.r_53
  simp (disch := decide) only [↓View.readCov_cons_toLoadRect, ↓View.readCov_skip, readVals, r_48_eq, v683_eq, v697_eq, v702_eq]
  refine Eq.trans ?_ (aT_step (qT i x0 x1 4) x2 x3 x4 0).symm
  rfl

/-- A tile of weights read back. -/
theorem v734_eq : kernelRun0_A.sl.v734 c i arg2 harg2 arg3 harg3 arg4 harg4 arg5 harg5 arg8 arg9 arg10 x0 x1 x2 x3 = pT (qT i x0 x1 4) x2 x3 2 := by
  unfold kernelRun0_A.sl.v734 kernelRun0_A.sl.HS2_9 kernelRun0_A.sl.r_55
  simp (disch := decide) only [↓View.readCov_cons_toLoadRect, ↓View.readCov_skip, r_51_eq, v720_eq]
  rfl

/-- The running sums read back. -/
theorem v783_eq : kernelRun0_A.sl.v783 c i arg2 harg2 arg3 harg3 arg4 harg4 arg5 harg5 arg6 harg6 arg8 arg9 arg10 arg11 x0 x1 x2 x3 x4 = aT (qT i x0 x1 4) x2 x3 x4 2 := by
  unfold kernelRun0_A.sl.v783 kernelRun0_A.sl.HS3_9 kernelRun0_A.sl.r_56
  simp (disch := decide) only [↓View.readCov_cons_toLoadRect, ↓View.readCov_skip, readVals, r_51_eq, v720_eq, v734_eq, v739_eq]
  refine Eq.trans ?_ (aT_step (qT i x0 x1 4) x2 x3 x4 1).symm
  rfl

/-- A tile of weights read back. -/
theorem v778_eq : kernelRun0_A.sl.v778 c i arg2 harg2 arg3 harg3 arg4 harg4 arg5 harg5 arg8 arg9 arg10 x0 x1 x2 x3 = pT (qT i x0 x1 4) x2 x3 3 := by
  unfold kernelRun0_A.sl.v778 kernelRun0_A.sl.HS2_10
  simp (disch := decide) only [↓View.readCov_cons_toLoadRect, ↓View.readCov_skip, r_54_eq, v764_eq]
  rfl

/-- The running sums read back. -/
theorem v864_eq : kernelRun0_A.sl.v864 c i arg2 harg2 arg3 harg3 arg4 harg4 arg5 harg5 arg6 harg6 arg8 arg9 arg10 arg11 x0 x1 x2 x3 x4 = aT (qT i x0 x1 4) x2 x3 x4 3 := by
  unfold kernelRun0_A.sl.v864 kernelRun0_A.sl.HS3_10
  simp (disch := decide) only [↓View.readCov_cons_toLoadRect, ↓View.readCov_skip, readVals, r_54_eq, v764_eq, v778_eq, v783_eq]
  refine Eq.trans ?_ (aT_step (qT i x0 x1 4) x2 x3 x4 2).symm
  rfl

/-- A tile of weights read back. -/
theorem v907_eq : kernelRun0_A.sl.v907 c i arg2 harg2 arg3 harg3 arg4 harg4 arg5 harg5 arg8 arg9 arg10 x0 x1 x2 x3 = pT (qT i x0 x1 5) x2 x3 0 := by
  unfold kernelRun0_A.sl.v907 kernelRun0_A.sl.HS2_11
  simp (disch := decide) only [↓View.readCov_cons_toLoadRect, ↓View.readCov_skip, v895_eq]
  rfl

/-- The running sums read back. -/
theorem v945_eq : kernelRun0_A.sl.v945 c i arg2 harg2 arg3 harg3 arg4 harg4 arg5 harg5 arg6 harg6 arg8 arg9 arg10 arg11 x0 x1 x2 x3 x4 = aT (qT i x0 x1 5) x2 x3 x4 0 := by
  unfold kernelRun0_A.sl.v945 kernelRun0_A.sl.HS3_11
  simp (disch := decide) only [↓View.readCov_cons_toLoadRect, ↓View.readCov_skip, readVals, v907_eq]
  rfl

/-- A tile of weights read back. -/
theorem v940_eq : kernelRun0_A.sl.v940 c i arg2 harg2 arg3 harg3 arg4 harg4 arg5 harg5 arg8 arg9 arg10 x0 x1 x2 x3 = pT (qT i x0 x1 5) x2 x3 1 := by
  unfold kernelRun0_A.sl.v940 kernelRun0_A.sl.HS2_12 kernelRun0_A.sl.r_69
  simp (disch := decide) only [↓View.readCov_cons_toLoadRect, ↓View.readCov_skip, r_67_eq, v926_eq]
  rfl

/-- The running sums read back. -/
theorem v982_eq : kernelRun0_A.sl.v982 c i arg2 harg2 arg3 harg3 arg4 harg4 arg5 harg5 arg6 harg6 arg8 arg9 arg10 arg11 x0 x1 x2 x3 x4 = aT (qT i x0 x1 5) x2 x3 x4 1 := by
  unfold kernelRun0_A.sl.v982 kernelRun0_A.sl.HS3_12 kernelRun0_A.sl.r_70
  simp (disch := decide) only [↓View.readCov_cons_toLoadRect, ↓View.readCov_skip, readVals, r_67_eq, v926_eq, v940_eq, v945_eq]
  refine Eq.trans ?_ (aT_step (qT i x0 x1 5) x2 x3 x4 0).symm
  rfl

/-- A tile of weights read back. -/
theorem v977_eq : kernelRun0_A.sl.v977 c i arg2 harg2 arg3 harg3 arg4 harg4 arg5 harg5 arg8 arg9 arg10 x0 x1 x2 x3 = pT (qT i x0 x1 5) x2 x3 2 := by
  unfold kernelRun0_A.sl.v977 kernelRun0_A.sl.HS2_13 kernelRun0_A.sl.r_71 kernelRun0_A.sl.r_72
  simp (disch := decide) only [↓View.readCov_cons_toLoadRect, ↓View.readCov_skip, r_68_eq, v963_eq]
  rfl

/-- The running sums read back. -/
theorem v1019_eq : kernelRun0_A.sl.v1019 c i arg2 harg2 arg3 harg3 arg4 harg4 arg5 harg5 arg6 harg6 arg8 arg9 arg10 arg11 x0 x1 x2 x3 x4 = aT (qT i x0 x1 5) x2 x3 x4 2 := by
  unfold kernelRun0_A.sl.v1019 kernelRun0_A.sl.HS3_13 kernelRun0_A.sl.r_72
  simp (disch := decide) only [↓View.readCov_cons_toLoadRect, ↓View.readCov_skip, readVals, r_68_eq, v963_eq, v977_eq, v982_eq]
  refine Eq.trans ?_ (aT_step (qT i x0 x1 5) x2 x3 x4 1).symm
  rfl

/-- A tile of weights read back. -/
theorem v1014_eq : kernelRun0_A.sl.v1014 c i arg2 harg2 arg3 harg3 arg4 harg4 arg5 harg5 arg8 arg9 arg10 x0 x1 x2 x3 = pT (qT i x0 x1 5) x2 x3 3 := by
  unfold kernelRun0_A.sl.v1014 kernelRun0_A.sl.HS2_14
  simp (disch := decide) only [↓View.readCov_cons_toLoadRect, ↓View.readCov_skip, r_73_eq, v1000_eq]
  rfl

/-- The running sums read back. -/
theorem v1063_eq : kernelRun0_A.sl.v1063 c i arg2 harg2 arg3 harg3 arg4 harg4 arg5 harg5 arg6 harg6 arg8 arg9 arg10 arg11 x0 x1 x2 x3 x4 = aT (qT i x0 x1 5) x2 x3 x4 3 := by
  unfold kernelRun0_A.sl.v1063 kernelRun0_A.sl.HS3_14
  simp (disch := decide) only [↓View.readCov_cons_toLoadRect, ↓View.readCov_skip, readVals, r_73_eq, v1000_eq, v1014_eq, v1019_eq]
  refine Eq.trans ?_ (aT_step (qT i x0 x1 5) x2 x3 x4 2).symm
  rfl

/-- A tile of weights read back. -/
theorem v1058_eq : kernelRun0_A.sl.v1058 c i arg2 harg2 arg3 harg3 arg4 harg4 arg5 harg5 arg8 arg9 arg10 x0 x1 x2 x3 = pT (qT i x0 x1 5) x2 x3 4 := by
  unfold kernelRun0_A.sl.v1058 kernelRun0_A.sl.HS2_15
  simp (disch := decide) only [↓View.readCov_cons_toLoadRect, ↓View.readCov_skip, r_75_eq, v1044_eq]
  rfl

/-- The running sums read back. -/
theorem v1144_eq : kernelRun0_A.sl.v1144 c i arg2 harg2 arg3 harg3 arg4 harg4 arg5 harg5 arg6 harg6 arg8 arg9 arg10 arg11 x0 x1 x2 x3 x4 = aT (qT i x0 x1 5) x2 x3 x4 4 := by
  unfold kernelRun0_A.sl.v1144 kernelRun0_A.sl.HS3_15 kernelRun0_A.sl.r_79 kernelRun0_A.sl.r_80 kernelRun0_A.sl.r_81
  simp (disch := decide) only [↓View.readCov_cons_toLoadRect, ↓View.readCov_skip, readVals, r_75_eq, v1044_eq, v1058_eq, v1063_eq]
  refine Eq.trans ?_ (aT_step (qT i x0 x1 5) x2 x3 x4 3).symm
  rfl

/-- A tile of weights read back. -/
theorem v1187_eq : kernelRun0_A.sl.v1187 c i arg2 harg2 arg3 harg3 arg4 harg4 arg5 harg5 arg8 arg9 arg10 x0 x1 x2 x3 = pT (qT i x0 x1 6) x2 x3 0 := by
  unfold kernelRun0_A.sl.v1187 kernelRun0_A.sl.HS2_16 kernelRun0_A.sl.cst_773
  simp (disch := decide) only [↓View.readCov_cons_toLoadRect, ↓View.readCov_skip, v1175_eq]
  rfl

/-- The running sums read back. -/
theorem v1225_eq : kernelRun0_A.sl.v1225 c i arg2 harg2 arg3 harg3 arg4 harg4 arg5 harg5 arg6 harg6 arg8 arg9 arg10 arg11 x0 x1 x2 x3 x4 = aT (qT i x0 x1 6) x2 x3 x4 0 := by
  unfold kernelRun0_A.sl.v1225 kernelRun0_A.sl.HS3_16
  simp (disch := decide) only [↓View.readCov_cons_toLoadRect, ↓View.readCov_skip, readVals, v1187_eq]
  rfl

/-- A tile of weights read back. -/
theorem v1220_eq : kernelRun0_A.sl.v1220 c i arg2 harg2 arg3 harg3 arg4 harg4 arg5 harg5 arg8 arg9 arg10 x0 x1 x2 x3 = pT (qT i x0 x1 6) x2 x3 1 := by
  unfold kernelRun0_A.sl.v1220 kernelRun0_A.sl.HS2_17
  simp (disch := decide) only [↓View.readCov_cons_toLoadRect, ↓View.readCov_skip, r_86_eq, v1206_eq]
  rfl

/-- The running sums read back. -/
theorem v1262_eq : kernelRun0_A.sl.v1262 c i arg2 harg2 arg3 harg3 arg4 harg4 arg5 harg5 arg6 harg6 arg8 arg9 arg10 arg11 x0 x1 x2 x3 x4 = aT (qT i x0 x1 6) x2 x3 x4 1 := by
  unfold kernelRun0_A.sl.v1262 kernelRun0_A.sl.HS3_17
  simp (disch := decide) only [↓View.readCov_cons_toLoadRect, ↓View.readCov_skip, readVals, r_86_eq, v1206_eq, v1220_eq, v1225_eq]
  refine Eq.trans ?_ (aT_step (qT i x0 x1 6) x2 x3 x4 0).symm
  rfl

/-- A tile of weights read back. -/
theorem v1257_eq : kernelRun0_A.sl.v1257 c i arg2 harg2 arg3 harg3 arg4 harg4 arg5 harg5 arg8 arg9 arg10 x0 x1 x2 x3 = pT (qT i x0 x1 6) x2 x3 2 := by
  unfold kernelRun0_A.sl.v1257 kernelRun0_A.sl.HS2_18
  simp (disch := decide) only [↓View.readCov_cons_toLoadRect, ↓View.readCov_skip, r_88_eq, v1243_eq]
  rfl

/-- The running sums read back. -/
theorem v1299_eq : kernelRun0_A.sl.v1299 c i arg2 harg2 arg3 harg3 arg4 harg4 arg5 harg5 arg6 harg6 arg8 arg9 arg10 arg11 x0 x1 x2 x3 x4 = aT (qT i x0 x1 6) x2 x3 x4 2 := by
  unfold kernelRun0_A.sl.v1299 kernelRun0_A.sl.HS3_18 kernelRun0_A.sl.r_92
  simp (disch := decide) only [↓View.readCov_cons_toLoadRect, ↓View.readCov_skip, readVals, r_88_eq, v1243_eq, v1257_eq, v1262_eq]
  refine Eq.trans ?_ (aT_step (qT i x0 x1 6) x2 x3 x4 1).symm
  rfl

/-- A tile of weights read back. -/
theorem v1294_eq : kernelRun0_A.sl.v1294 c i arg2 harg2 arg3 harg3 arg4 harg4 arg5 harg5 arg8 arg9 arg10 x0 x1 x2 x3 = pT (qT i x0 x1 6) x2 x3 3 := by
  unfold kernelRun0_A.sl.v1294 kernelRun0_A.sl.HS2_19
  simp (disch := decide) only [↓View.readCov_cons_toLoadRect, ↓View.readCov_skip, r_91_eq, v1280_eq]
  rfl

/-- The running sums read back. -/
theorem v1336_eq : kernelRun0_A.sl.v1336 c i arg2 harg2 arg3 harg3 arg4 harg4 arg5 harg5 arg6 harg6 arg8 arg9 arg10 arg11 x0 x1 x2 x3 x4 = aT (qT i x0 x1 6) x2 x3 x4 3 := by
  unfold kernelRun0_A.sl.v1336 kernelRun0_A.sl.HS3_19 kernelRun0_A.sl.r_94 kernelRun0_A.sl.r_95 kernelRun0_A.sl.r_96
  simp (disch := decide) only [↓View.readCov_cons_toLoadRect, ↓View.readCov_skip, readVals, r_91_eq, v1280_eq, v1294_eq, v1299_eq]
  refine Eq.trans ?_ (aT_step (qT i x0 x1 6) x2 x3 x4 2).symm
  rfl

/-- A tile of weights read back. -/
theorem v1331_eq : kernelRun0_A.sl.v1331 c i arg2 harg2 arg3 harg3 arg4 harg4 arg5 harg5 arg8 arg9 arg10 x0 x1 x2 x3 = pT (qT i x0 x1 6) x2 x3 4 := by
  unfold kernelRun0_A.sl.v1331 kernelRun0_A.sl.HS2_20
  simp (disch := decide) only [↓View.readCov_cons_toLoadRect, ↓View.readCov_skip, r_93_eq, v1317_eq]
  rfl

/-- The running sums read back. -/
theorem v1380_eq : kernelRun0_A.sl.v1380 c i arg2 harg2 arg3 harg3 arg4 harg4 arg5 harg5 arg6 harg6 arg8 arg9 arg10 arg11 x0 x1 x2 x3 x4 = aT (qT i x0 x1 6) x2 x3 x4 4 := by
  unfold kernelRun0_A.sl.v1380 kernelRun0_A.sl.HS3_20 kernelRun0_A.sl.r_98
  simp (disch := decide) only [↓View.readCov_cons_toLoadRect, ↓View.readCov_skip, readVals, r_93_eq, v1317_eq, v1331_eq, v1336_eq]
  refine Eq.trans ?_ (aT_step (qT i x0 x1 6) x2 x3 x4 3).symm
  rfl

/-- A tile of weights read back. -/
theorem v1375_eq : kernelRun0_A.sl.v1375 c i arg2 harg2 arg3 harg3 arg4 harg4 arg5 harg5 arg8 arg9 arg10 x0 x1 x2 x3 = pT (qT i x0 x1 6) x2 x3 5 := by
  unfold kernelRun0_A.sl.v1375 kernelRun0_A.sl.HS2_21
  simp (disch := decide) only [↓View.readCov_cons_toLoadRect, ↓View.readCov_skip, r_97_eq, v1361_eq]
  rfl

/-- The running sums read back. -/
theorem v1461_eq : kernelRun0_A.sl.v1461 c i arg2 harg2 arg3 harg3 arg4 harg4 arg5 harg5 arg6 harg6 arg8 arg9 arg10 arg11 x0 x1 x2 x3 x4 = aT (qT i x0 x1 6) x2 x3 x4 5 := by
  unfold kernelRun0_A.sl.v1461 kernelRun0_A.sl.HS3_21
  simp (disch := decide) only [↓View.readCov_cons_toLoadRect, ↓View.readCov_skip, readVals, r_97_eq, v1361_eq, v1375_eq, v1380_eq]
  refine Eq.trans ?_ (aT_step (qT i x0 x1 6) x2 x3 x4 4).symm
  rfl

/-- A tile of weights read back. -/
theorem v1504_eq : kernelRun0_A.sl.v1504 c i arg2 harg2 arg3 harg3 arg4 harg4 arg5 harg5 arg8 arg9 arg10 x0 x1 x2 x3 = pT (qT i x0 x1 7) x2 x3 0 := by
  unfold kernelRun0_A.sl.v1504 kernelRun0_A.sl.HS2_22
  simp (disch := decide) only [↓View.readCov_cons_toLoadRect, ↓View.readCov_skip, v1492_eq]
  rfl

/-- The running sums read back. -/
theorem v1542_eq : kernelRun0_A.sl.v1542 c i arg2 harg2 arg3 harg3 arg4 harg4 arg5 harg5 arg6 harg6 arg8 arg9 arg10 arg11 x0 x1 x2 x3 x4 = aT (qT i x0 x1 7) x2 x3 x4 0 := by
  unfold kernelRun0_A.sl.v1542 kernelRun0_A.sl.HS3_22 kernelRun0_A.sl.r_109
  simp (disch := decide) only [↓View.readCov_cons_toLoadRect, ↓View.readCov_skip, readVals, v1504_eq]
  rfl

/-- A tile of weights read back. -/
theorem v1537_eq : kernelRun0_A.sl.v1537 c i arg2 harg2 arg3 harg3 arg4 harg4 arg5 harg5 arg8 arg9 arg10 x0 x1 x2 x3 = pT (qT i x0 x1 7) x2 x3 1 := by
  unfold kernelRun0_A.sl.v1537 kernelRun0_A.sl.HS2_23
  simp (disch := decide) only [↓View.readCov_cons_toLoadRect, ↓View.readCov_skip, r_108_eq, v1523_eq]
  rfl

/-- The running sums read back. -/
theorem v1579_eq : kernelRun0_A.sl.v1579 c i arg2 harg2 arg3 harg3 arg4 harg4 arg5 harg5 arg6 harg6 arg8 arg9 arg10 arg11 x0 x1 x2 x3 x4 = aT (qT i x0 x1 7) x2 x3 x4 1 := by
  unfold kernelRun0_A.sl.v1579 kernelRun0_A.sl.HS3_23 kernelRun0_A.sl.r_111
  simp (disch := decide) only [↓View.readCov_cons_toLoadRect, ↓View.readCov_skip, readVals, r_108_eq, v1523_eq, v1537_eq, v1542_eq]
  refine Eq.trans ?_ (aT_step (qT i x0 x1 7) x2 x3 x4 0).symm
  rfl

/-- A tile of weights read back. -/
theorem v1574_eq : kernelRun0_A.sl.v1574 c i arg2 harg2 arg3 harg3 arg4 harg4 arg5 harg5 arg8 arg9 arg10 x0 x1 x2 x3 = pT (qT i x0 x1 7) x2 x3 2 := by
  unfold kernelRun0_A.sl.v1574 kernelRun0_A.sl.HS2_24 kernelRun0_A.sl.r_113
  simp (disch := decide) only [↓View.readCov_cons_toLoadRect, ↓View.readCov_skip, r_110_eq, v1560_eq]
  rfl

/-- The running sums read back. -/
theorem v1616_eq : kernelRun0_A.sl.v1616 c i arg2 harg2 arg3 harg3 arg4 harg4 arg5 harg5 arg6 harg6 arg8 arg9 arg10 arg11 x0 x1 x2 x3 x4 = aT (qT i x0 x1 7) x2 x3 x4 2 := by
  unfold kernelRun0_A.sl.v1616 kernelRun0_A.sl.HS3_24
  simp (disch := decide) only [↓View.readCov_cons_toLoadRect, ↓View.readCov_skip, readVals, r_110_eq, r_112_eq, v1574_eq, v1579_eq]
  refine Eq.trans ?_ (aT_step (qT i x0 x1 7) x2 x3 x4 1).symm
  rfl

/-- A tile of weights read back. -/
theorem v1611_eq : kernelRun0_A.sl.v1611 c i arg2 harg2 arg3 harg3 arg4 harg4 arg5 harg5 arg8 arg9 arg10 x0 x1 x2 x3 = pT (qT i x0 x1 7) x2 x3 3 := by
  unfold kernelRun0_A.sl.v1611 kernelRun0_A.sl.HS2_25
  simp (disch := decide) only [↓View.readCov_cons_toLoadRect, ↓View.readCov_skip, r_112_eq, v1597_eq]
  rfl

/-- The running sums read back. -/
theorem v1653_eq : kernelRun0_A.sl.v1653 c i arg2 harg2 arg3 harg3 arg4 harg4 arg5 harg5 arg6 harg6 arg8 arg9 arg10 arg11 x0 x1 x2 x3 x4 = aT (qT i x0 x1 7) x2 x3 x4 3 := by
  unfold kernelRun0_A.sl.v1653 kernelRun0_A.sl.HS3_25
  simp (disch := decide) only [↓View.readCov_cons_toLoadRect, ↓View.readCov_skip, readVals, r_112_eq, v1597_eq, v1611_eq, v1616_eq]
  refine Eq.trans ?_ (aT_step (qT i x0 x1 7) x2 x3 x4 2).symm
  rfl

/-- A tile of weights read back. -/
theorem v1648_eq : kernelRun0_A.sl.v1648 c i arg2 harg2 arg3 harg3 arg4 harg4 arg5 harg5 arg8 arg9 arg10 x0 x1 x2 x3 = pT (qT i x0 x1 7) x2 x3 4 := by
  unfold kernelRun0_A.sl.v1648 kernelRun0_A.sl.HS2_26
  simp (disch := decide) only [↓View.readCov_cons_toLoadRect, ↓View.readCov_skip, r_114_eq, v1634_eq]
  rfl

/-- The running sums read back. -/
theorem v1690_eq : kernelRun0_A.sl.v1690 c i arg2 harg2 arg3 harg3 arg4 harg4 arg5 harg5 arg6 harg6 arg8 arg9 arg10 arg11 x0 x1 x2 x3 x4 = aT (qT i x0 x1 7) x2 x3 x4 4 := by
  unfold kernelRun0_A.sl.v1690 kernelRun0_A.sl.HS3_26
  simp (disch := decide) only [↓View.readCov_cons_toLoadRect, ↓View.readCov_skip, readVals, r_114_eq, v1634_eq, v1648_eq, v1653_eq]
  refine Eq.trans ?_ (aT_step (qT i x0 x1 7) x2 x3 x4 3).symm
  rfl

/-- A tile of weights read back. -/
theorem v1685_eq : kernelRun0_A.sl.v1685 c i arg2 harg2 arg3 harg3 arg4 harg4 arg5 harg5 arg8 arg9 arg10 x0 x1 x2 x3 = pT (qT i x0 x1 7) x2 x3 5 := by
  unfold kernelRun0_A.sl.v1685 kernelRun0_A.sl.HS2_27
  simp (disch := decide) only [↓View.readCov_cons_toLoadRect, ↓View.readCov_skip, r_118_eq, v1671_eq]
  rfl

/-- The running sums read back. -/
theorem v1734_eq : kernelRun0_A.sl.v1734 c i arg2 harg2 arg3 harg3 arg4 harg4 arg5 harg5 arg6 harg6 arg8 arg9 arg10 arg11 x0 x1 x2 x3 x4 = aT (qT i x0 x1 7) x2 x3 x4 5 := by
  unfold kernelRun0_A.sl.v1734 kernelRun0_A.sl.HS3_27 kernelRun0_A.sl.r_120 kernelRun0_A.sl.r_121
  simp (disch := decide) only [↓View.readCov_cons_toLoadRect, ↓View.readCov_skip, readVals, r_118_eq, v1671_eq, v1685_eq, v1690_eq]
  refine Eq.trans ?_ (aT_step (qT i x0 x1 7) x2 x3 x4 4).symm
  rfl

/-- A tile of weights read back. -/
theorem v1729_eq : kernelRun0_A.sl.v1729 c i arg2 harg2 arg3 harg3 arg4 harg4 arg5 harg5 arg8 arg9 arg10 x0 x1 x2 x3 = pT (qT i x0 x1 7) x2 x3 6 := by
  unfold kernelRun0_A.sl.v1729 kernelRun0_A.sl.HS2_28 kernelRun0_A.sl.r_123
  simp (disch := decide) only [↓View.readCov_cons_toLoadRect, ↓View.readCov_skip, r_119_eq, v1715_eq]
  rfl

/-- The running sums read back. -/
theorem v1787_eq : kernelRun0_A.sl.v1787 c i arg2 harg2 arg3 harg3 arg4 harg4 arg5 harg5 arg6 harg6 arg8 arg9 arg10 arg11 x0 x1 x2 x3 x4 = aT (qT i x0 x1 7) x2 x3 x4 6 := by
  unfold kernelRun0_A.sl.v1787 kernelRun0_A.sl.HS3_28 kernelRun0_A.sl.r_124
  simp (disch := decide) only [↓View.readCov_cons_toLoadRect, ↓View.readCov_skip, readVals, r_119_eq, v1715_eq, v1729_eq, v1734_eq]
  refine Eq.trans ?_ (aT_step (qT i x0 x1 7) x2 x3 x4 5).symm
  rfl

end Cert.Att
-- ==== Proof.Blocks.lean ====
/- The block of results that one grid point leaves is the eight tiles of `Tiles`, one under the other. -/
module

public import proofs.«01_k».proof.Proof.Tiles
public import proofs.«01_k».proof.Proof.Sums
public import Idealize.ShloMosaic.Lib.ValueIdx

@[expose] public section

set_option maxRecDepth 16384

noncomputable section

namespace Cert.Att

open Idealize.ShloMosaic Cert.KernelIdeal Cert.KernelIdeal.Gen

variable {F : FTy → Type} [FloatOps F] [Named F]
open Idealize.ShloMosaic.ValueIdx

/-- Query tile `g` of the block of results. -/
def oTile (i : grid0.Coords) (x0 x1 x2 x3 : Vec F S4096x128 .bf16) (x4 : Vec F S1x1x8x144x512 .bf16) : ℕ → FVec F S512x128 .bf16
  | 0 => oT0 (qT i x0 x1 0) x2 x3 x4
  | g + 1 => oT (qT i x0 x1 (g + 1)) x2 x3 x4 g

/-- The results of a query tile after the first, by its parts. -/
theorem oTile_succ (i : grid0.Coords) (x0 x1 x2 x3 : Vec F S4096x128 .bf16) (x4 : Vec F S1x1x8x144x512 .bf16) (g : ℕ) :
    oTile i x0 x1 x2 x3 x4 (g + 1) = oT (qT i x0 x1 (g + 1)) x2 x3 x4 g := rfl

/-- The block of results: row `r` is row `r % 512` of tile `r / 512`. -/
def oBlock (i : grid0.Coords) (x0 x1 x2 x3 : Vec F S4096x128 .bf16) (x4 : Vec F S1x1x8x144x512 .bf16) : Vec F S4096x128 .bf16 :=
  fun y => oTile i x0 x1 x2 x3 x4 ((y 0).val / 512) (ix2 (Fin.ofNat 512 (y 0).val) (y 1))

/-- The last part of the body, cut in two ways: the results of a diagonal tile. -/
theorem diag_split (m : FVec F S1x512 .f32) (tl tr br : FVec F S1x256x256 .f32) (v : Vec F S1x1x1x144x512 .bf16) (a : FVec F S144x512 .f32) :
    k0_pay40 (k0_pay36 m (k0_pay31 tr) k0_pay32 br v) (k0_pay37 m (k0_pay30 tl) (k0_pay31 tr) k0_pay32 br v a)
      (k0_pay38 m (k0_pay30 tl) (k0_pay31 tr) k0_pay32 br v a) (k0_pay39 m (k0_pay30 tl) (k0_pay31 tr) k0_pay32 br v a)
    = k0_pay65 m (k0_pay60 tl) (k0_pay61 tr) (k0_pay62 br) (k0_pay63 m) (k0_pay64 tl) v a := by
  unfold k0_pay40 k0_pay38 k0_pay39 k0_pay65
  have h1 : k0_pay30 tl = k0_pay60 tl := rfl
  have h2 : k0_pay31 tr = k0_pay61 tr := rfl
  have h3 : k0_pay33 k0_pay32 br = k0_pay62 br := rfl
  unfold k0_pay37 k0_pay36 k0_pay34 k0_pay35 k0_pay63 k0_pay64
  rw [h1, h2, h3]

variable (c : Dev nD) (i : grid0.Coords)
  (arg2 : Memref sig .tc .vmem S4096x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S1x1x8x144x512 .bf16) (harg6 : arg6.IsWhole) (arg7 : Memref sig .tc .vmem S4096x128 .bf16) (harg7 : arg7.IsWhole)
  (arg8 : Memref sig .tc .vmem S2x512x256 .bf16) (harg8 : arg8.IsWhole) (arg9 : Memref sig .tc .vmem S3x512x512 .f32) (harg9 : arg9.IsWhole)
  (arg10 : Memref sig .tc .vmem S2x512x512 .bf16) (harg10 : arg10.IsWhole) (arg11 : Memref sig .tc .vmem S144x512 .f32) (harg11 : arg11.IsWhole)
  (x0 x1 x2 x3 : Vec F S4096x128 .bf16) (x4 : Vec F S1x1x8x144x512 .bf16)

/-- The results stored for query tile 0. -/
theorem store0_eq :
    k0_pay17 (kernelRun0_A.sl.r_5 c i arg2 harg2 arg3 harg3 arg4 harg4 arg5 harg5 arg8 arg9 x0 x1 x2 x3) (kernelRun0_A.sl.r_6 c i arg2 harg2 arg3 harg3 arg4 harg4 arg5 harg5 arg8 arg9 x0 x1 x2 x3) (kernelRun0_A.sl.r_7 c i arg2 harg2 arg3 harg3 arg4 harg4 arg5 harg5 arg8 arg9 x0 x1 x2 x3) (View.readAt (Elt F) arg6.view (Rect.unit (s := S1x1x8x144x512) ![0, 0, 0, 0, 0] S1x1x1x144x512.size inb_S1x1x8x144x512_S1x1x1x144x512_0_0_0_0_0).toLoadRect (harg6.unread x4))
      = oTile i x0 x1 x2 x3 x4 0 := by
  unfold kernelRun0_A.sl.r_5 kernelRun0_A.sl.r_6 kernelRun0_A.sl.r_7
  simp only [readVals, v85_eq, v82_eq, v78_eq]
  rfl

/-- The results stored for query tile 1. -/
theorem store1_eq :
    k0_pay40 (kernelRun0_A.sl.r_15 c i arg2 harg2 arg3 harg3 arg4 harg4 arg5 harg5 arg6 harg6 arg8 arg9 x0 x1 x2 x3 x4) (kernelRun0_A.sl.r_16 c i arg2 harg2 arg3 harg3 arg4 harg4 arg5 harg5 arg6 harg6 arg8 arg9 arg10 arg11 x0 x1 x2 x3 x4) (kernelRun0_A.sl.r_17 c i arg2 harg2 arg3 harg3 arg4 harg4 arg5 harg5 arg6 harg6 arg8 arg9 arg10 arg11 x0 x1 x2 x3 x4) (kernelRun0_A.sl.r_18 c i arg2 harg2 arg3 harg3 arg4 harg4 arg5 harg5 arg6 harg6 arg8 arg9 arg10 arg11 x0 x1 x2 x3 x4)
      = oTile i x0 x1 x2 x3 x4 1 := by
  unfold kernelRun0_A.sl.r_15 kernelRun0_A.sl.r_16 kernelRun0_A.sl.r_17 kernelRun0_A.sl.r_18 kernelRun0_A.sl.r_14 kernelRun0_A.sl.r_13
  simp only [readVals, r_10_eq, v207_eq, v210_eq, v203_eq, v246_eq]
  rw [oTile_succ i x0 x1 x2 x3 x4 0]
  unfold oT
  exact (diag_split (mT (qT i x0 x1 1) x2 x3 1) (dTL (qT i x0 x1 1) x2 x3 1) (dTR (qT i x0 x1 1) x2 x3 1) (dBR (qT i x0 x1 1) x2 x3 1) (valsAt 1 x4) (aT (qT i x0 x1 1) x2 x3 x4 0))

/-- The results stored for query tile 2. -/
theorem store2_eq :
    kernelRun0_A.sl.r_30 c i arg2 harg2 arg3 harg3 arg4 harg4 arg5 harg5 arg6 harg6 arg8 arg9 arg10 arg11 x0 x1 x2 x3 x4
      = oTile i x0 x1 x2 x3 x4 2 := by
  unfold kernelRun0_A.sl.r_30 kernelRun0_A.sl.r_25 kernelRun0_A.sl.r_26 kernelRun0_A.sl.r_27 kernelRun0_A.sl.r_28 kernelRun0_A.sl.r_29
  simp only [readVals, r_21_eq, v372_eq, v376_eq, v379_eq, v415_eq]
  rfl

/-- The results stored for query tile 3. -/
theorem store3_eq :
    kernelRun0_A.sl.r_47 c i arg2 harg2 arg3 harg3 arg4 harg4 arg5 harg5 arg6 harg6 arg8 arg9 arg10 arg11 x0 x1 x2 x3 x4
      = oTile i x0 x1 x2 x3 x4 3 := by
  unfold kernelRun0_A.sl.r_47 kernelRun0_A.sl.r_42 kernelRun0_A.sl.r_43 kernelRun0_A.sl.r_44 kernelRun0_A.sl.r_45 kernelRun0_A.sl.r_46
  simp only [readVals, r_38_eq, v578_eq, v582_eq, v585_eq, v621_eq]
  rfl

/-- The results stored for query tile 4. -/
theorem store4_eq :
    k0_pay144 (kernelRun0_A.sl.r_63 c i arg2 harg2 arg3 harg3 arg4 harg4 arg5 harg5 arg6 harg6 arg8 arg9 x0 x1 x2 x3 x4) (kernelRun0_A.sl.r_64 c i arg2 harg2 arg3 harg3 arg4 harg4 arg5 harg5 arg6 harg6 arg8 arg9 arg10 arg11 x0 x1 x2 x3 x4) (kernelRun0_A.sl.r_65 c i arg2 harg2 arg3 harg3 arg4 harg4 arg5 harg5 arg6 harg6 arg8 arg9 arg10 arg11 x0 x1 x2 x3 x4) (kernelRun0_A.sl.r_66 c i arg2 harg2 arg3 harg3 arg4 harg4 arg5 harg5 arg6 harg6 arg8 arg9 arg10 arg11 x0 x1 x2 x3 x4)
      = oTile i x0 x1 x2 x3 x4 4 := by
  unfold kernelRun0_A.sl.r_63 kernelRun0_A.sl.r_64 kernelRun0_A.sl.r_65 kernelRun0_A.sl.r_66 kernelRun0_A.sl.r_62 kernelRun0_A.sl.r_61
  simp only [readVals, r_58_eq, v825_eq, v828_eq, v821_eq, v864_eq]
  rw [oTile_succ i x0 x1 x2 x3 x4 3]
  unfold oT
  exact (diag_split (mT (qT i x0 x1 4) x2 x3 4) (dTL (qT i x0 x1 4) x2 x3 4) (dTR (qT i x0 x1 4) x2 x3 4) (dBR (qT i x0 x1 4) x2 x3 4) (valsAt 4 x4) (aT (qT i x0 x1 4) x2 x3 x4 3))

/-- The results stored for query tile 5. -/
theorem store5_eq :
    k0_pay190 (kernelRun0_A.sl.r_83 c i arg2 harg2 arg3 harg3 arg4 harg4 arg5 harg5 arg8 arg9 x0 x1 x2 x3) (kernelRun0_A.sl.r_84 c i arg2 harg2 arg3 harg3 arg4 harg4 arg5 harg5 arg8 arg9 x0 x1 x2 x3) (kernelRun0_A.sl.r_85 c i arg2 harg2 arg3 harg3 arg4 harg4 arg5 harg5 arg8 arg9 x0 x1 x2 x3) (View.readAt (Elt F) arg6.view (Rect.unit (s := S1x1x8x144x512) ![0, 0, 5, 0, 0] S1x1x1x144x512.size inb_S1x1x8x144x512_S1x1x1x144x512_0_0_5_0_0).toLoadRect (harg6.unread x4)) (kernelRun0_A.sl.v1144 c i arg2 harg2 arg3 harg3 arg4 harg4 arg5 harg5 arg6 harg6 arg8 arg9 arg10 arg11 x0 x1 x2 x3 x4)
      = oTile i x0 x1 x2 x3 x4 5 := by
  unfold kernelRun0_A.sl.r_83 kernelRun0_A.sl.r_84 kernelRun0_A.sl.r_85
  simp only [readVals, r_78_eq, v1101_eq, v1105_eq, v1108_eq, v1144_eq]
  rfl

/-- The results stored for query tile 6. -/
theorem store6_eq :
    k0_pay247 (kernelRun0_A.sl.r_105 c i arg2 harg2 arg3 harg3 arg4 harg4 arg5 harg5 arg6 harg6 arg8 arg9 arg10 arg11 x0 x1 x2 x3 x4) (kernelRun0_A.sl.r_106 c i arg2 harg2 arg3 harg3 arg4 harg4 arg5 harg5 arg6 harg6 arg8 arg9 arg10 arg11 x0 x1 x2 x3 x4) (kernelRun0_A.sl.r_107 c i arg2 harg2 arg3 harg3 arg4 harg4 arg5 harg5 arg6 harg6 arg8 arg9 arg10 arg11 x0 x1 x2 x3 x4)
      = oTile i x0 x1 x2 x3 x4 6 := by
  unfold kernelRun0_A.sl.r_105 kernelRun0_A.sl.r_106 kernelRun0_A.sl.r_107 kernelRun0_A.sl.r_102 kernelRun0_A.sl.r_103 kernelRun0_A.sl.r_104
  simp only [readVals, r_99_eq, v1418_eq, v1422_eq, v1425_eq, v1461_eq]
  rw [oTile_succ i x0 x1 x2 x3 x4 5]
  unfold oT
  exact (diag_split (mT (qT i x0 x1 6) x2 x3 6) (dTL (qT i x0 x1 6) x2 x3 6) (dTR (qT i x0 x1 6) x2 x3 6) (dBR (qT i x0 x1 6) x2 x3 6) (valsAt 6 x4) (aT (qT i x0 x1 6) x2 x3 x4 5))

/-- The results stored for query tile 7. -/
theorem store7_eq :
    kernelRun0_A.sl.r_130 c i arg2 harg2 arg3 harg3 arg4 harg4 arg5 harg5 arg6 harg6 arg8 arg9 arg10 arg11 x0 x1 x2 x3 x4
      = oTile i x0 x1 x2 x3 x4 7 := by
  unfold kernelRun0_A.sl.r_130 kernelRun0_A.sl.r_125 kernelRun0_A.sl.r_126 kernelRun0_A.sl.r_127 kernelRun0_A.sl.r_128 kernelRun0_A.sl.r_129
  simp only [readVals, r_122_eq, v1744_eq, v1748_eq, v1751_eq, v1787_eq]
  rfl

/-- A row of tile `g`, read in the block. -/
theorem oBlock_emb (o g : ℕ) (hg : o = 512 * g) (inb : ∀ a, (![o, 0] : Fin 2 → ℕ) a + S512x128.size a ≤ S4096x128.size a) (x : S512x128.Idx) :
    oTile i x0 x1 x2 x3 x4 g x
      = oBlock i x0 x1 x2 x3 x4 ((Rect.unit (s := S4096x128) ![o, 0] S512x128.size inb).emb x) := by
  subst hg
  have hx : (x 0).val < 512 := (x 0).isLt
  have h0 : (((Rect.unit (s := S4096x128) ![512 * g, 0] S512x128.size inb).emb x) 0).val = 512 * g + (x 0).val := by
    show 512 * g + 1 * (x 0).val = _; omega
  have hd : (512 * g + (x 0).val) / 512 = g := by omega
  unfold oBlock
  rw [h0, hd]
  refine congrArg (oTile i x0 x1 x2 x3 x4 g) ?_
  funext a
  match a with
  | ⟨0, _⟩ => apply Fin.ext; show (x 0).val = (512 * g + (x 0).val) % 512; omega
  | ⟨1, _⟩ => apply Fin.ext; show (x 1).val = 0 + 1 * (x 1).val; omega

/-- What one grid point leaves in its block of results. -/
theorem out_eq : out0_A_5 c i arg2 harg2 arg3 harg3 arg4 harg4 arg5 harg5 arg6 harg6 arg7 harg7 arg8 harg8 arg9 harg9 arg10 harg10 arg11 harg11 x0 x1 x2 x3 x4 = oBlock i x0 x1 x2 x3 x4 := by
  funext y
  unfold out0_A_5
  rw [View.read_writes_junk_apply_eq_canon]
  have hc := cover0_A_5 c i arg2 harg2 arg3 harg3 arg4 harg4 arg5 harg5 arg6 harg6 arg7 harg7 arg8 harg8 arg9 harg9 arg10 harg10 arg11 harg11 x0 x1 x2 x3 x4 y
  refine (congrArg (fun L => View.canon L y) (List.append_nil _).symm).trans ?_
  refine View.canon_append_of_piecesOf (oBlock i x0 x1 x2 x3 x4) [] _ ?_ y hc
  unfold kernelRun0_A
  dsimp only
  refine ⟨?_, ?_, ?_, ?_, ?_, ?_, ?_, ?_, trivial⟩
  · intro x
    exact (congrFun (store7_eq ..) x).trans (oBlock_emb i x0 x1 x2 x3 x4 3584 7 rfl inb_S4096x128_S512x128_3584_0 x)
  · intro x
    exact (congrFun (store6_eq ..) x).trans (oBlock_emb i x0 x1 x2 x3 x4 3072 6 rfl inb_S4096x128_S512x128_3072_0 x)
  · intro x
    exact (congrFun (store5_eq ..) x).trans (oBlock_emb i x0 x1 x2 x3 x4 2560 5 rfl inb_S4096x128_S512x128_2560_0 x)
  · intro x
    exact (congrFun (store4_eq ..) x).trans (oBlock_emb i x0 x1 x2 x3 x4 2048 4 rfl inb_S4096x128_S512x128_2048_0 x)
  · intro x
    exact (congrFun (store3_eq ..) x).trans (oBlock_emb i x0 x1 x2 x3 x4 1536 3 rfl inb_S4096x128_S512x128_1536_0 x)
  · intro x
    exact (congrFun (store2_eq ..) x).trans (oBlock_emb i x0 x1 x2 x3 x4 1024 2 rfl inb_S4096x128_S512x128_1024_0 x)
  · intro x
    exact (congrFun (store1_eq ..) x).trans (oBlock_emb i x0 x1 x2 x3 x4 512 1 rfl inb_S4096x128_S512x128_512_0 x)
  · intro x
    exact (congrFun (store0_eq ..) x).trans (oBlock_emb i x0 x1 x2 x3 x4 0 0 rfl inb_S4096x128_S512x128_0_0 x)

end Cert.Att
-- ==== Proof.Entry.lean ====
/- What the windows of one grid point hold, element by element, in terms of the arguments: queries scaled, keys and values
   rearranged, a row of ones below the values. -/
module

public import proofs.«01_k».proof.Proof.Gen.KernelIdeal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Att

open Idealize Idealize.ShloMosaic Idealize.ShloMosaic.TcCoe Cert.KernelIdeal Cert.KernelIdeal.Gen Finset

variable (m : (ℓ : Loc nD τ sig) → Buf (Elt Ideal) ℓ) (c : Dev nD)

/-- The plain part of the queries. -/
def A0 : S4x4096x16x128.Idx → EReal := m ((c : Thread nD τ).loc main_arg0)

/-- The rotated part of the queries. -/
def A1 : S4x4096x16x64.Idx → EReal := m ((c : Thread nD τ).loc main_arg1)

/-- The plain part of the keys. -/
def A2 : S4x4096x16x128.Idx → EReal := m ((c : Thread nD τ).loc main_arg2)

/-- The rotated part of the keys, one for all heads. -/
def A3 : S4x4096x64.Idx → EReal := m ((c : Thread nD τ).loc main_arg3)

/-- The values. -/
def A4 : S4x4096x16x128.Idx → EReal := m ((c : Thread nD τ).loc main_arg4)

/-- The literal scale of the scores. -/
def scaleR : ℝ := 9686330 / 134217728

/-- The literal scale's word. -/
theorem scale_word : (Ideal.ofBits .f32 0x3D93CD3A#32 : EReal) = (scaleR : EReal) := by
  unfold scaleR
  simp [Ideal.ofBits, Ideal.ieee, -EReal.coe_mul]
  norm_num

/-- The scale the queries are multiplied by: the literal one over the logarithm of two. -/
theorem scale_eq : (id (Host.divf (constant S_ FTy.f32 0x3D93CD3A#32) (Host.log (constant S_ FTy.f32 0x40000000#32))) : FVec Ideal S_ .f32) ix0
    = ((scaleR / Real.log 2 : ℝ) : EReal) := by
  have hl : Real.log 2 ≠ 0 := (Real.log_pos (by norm_num)).ne'
  have h2 : (Ideal.ofBits .f32 0x40000000#32 : EReal) = ((2 : ℝ) : EReal) := by
    simp [Ideal.ofBits, Ideal.ieee, -EReal.coe_mul]
    norm_num
  show Ideal.div (Ideal.ofBits .f32 0x3D93CD3A#32) (Ideal.log (Ideal.ofBits .f32 0x40000000#32)) = _
  rw [h2, scale_word, Ideal.log_coe, if_neg (by norm_num), Ideal.div_coe hl, ← EReal.coe_mul]
  congr 1
  ring

/-- The index maps of the windows and the first lane of a head, at every grid point. -/
theorem idx_all : ∀ t : Fin grid0.N, win0_0.index t = ![t.val / 16, t.val % 16] ∧ win0_1.index t = ![t.val / 16, t.val % 16 / 2]
    ∧ win0_2.index t = ![t.val / 16, t.val % 16] ∧ win0_3.index t = ![t.val / 16, 0]
    ∧ win0_4.index t = ![t.val / 16, t.val % 16, 0, 0, 0] ∧ win0_5.index t = ![t.val / 16, t.val % 16]
    ∧ kernelRun0_A.sl.v10 (grid0.coords t) = BitVec.ofNat 32 (64 * (t.val % 2)) := by decide +kernel

/-- The scaled queries as the region finds them. -/
theorem v6_at (r : Fin 16384) (k : Fin 2048) : (V m c main_v6 : Vec Ideal S16384x2048 .bf16) (ix2 r k)
    = A0 m c (ix4 ⟨r.val / 4096, by omega⟩ ⟨r.val % 4096, by omega⟩ ⟨k.val / 128, by omega⟩ ⟨k.val % 128, by omega⟩)
      * ((scaleR / Real.log 2 : ℝ) : EReal) := by
  unfold V
  after_reads_at
  rw [scale_eq]
  rfl

/-- The scaled rotated queries as the region finds them. -/
theorem v11_at (r : Fin 16384) (k : Fin 1024) : (V m c main_v11 : Vec Ideal S16384x1024 .bf16) (ix2 r k)
    = A1 m c (ix4 ⟨r.val / 4096, by omega⟩ ⟨r.val % 4096, by omega⟩ ⟨k.val / 64, by omega⟩ ⟨k.val % 64, by omega⟩)
      * ((scaleR / Real.log 2 : ℝ) : EReal) := by
  unfold V
  after_reads_at
  rw [scale_eq]
  rfl

/-- The keys as the region finds them. -/
theorem v13_at (r : Fin 16384) (k : Fin 2048) : (V m c main_v13 : Vec Ideal S16384x2048 .bf16) (ix2 r k)
    = A2 m c (ix4 ⟨r.val / 4096, by omega⟩ ⟨r.val % 4096, by omega⟩ ⟨k.val / 128, by omega⟩ ⟨k.val % 128, by omega⟩) := by
  unfold V
  after_reads_at
  rfl

/-- The rotated keys, twice side by side, as the region finds them. -/
theorem v16_at (r : Fin 16384) (k : Fin 128) : (V m c main_v16 : Vec Ideal S16384x128 .bf16) (ix2 r k)
    = A3 m c (ix3 ⟨r.val / 4096, by omega⟩ ⟨r.val % 4096, by omega⟩ ⟨k.val % 64, by omega⟩) := by
  have hk := k.isLt
  unfold V
  after_reads_at
  split
  · after_reads_at
    have e : k.val % 64 = k.val := by omega
    simp only [e]
    rfl
  · after_reads_at
    have e : k.val % 64 = k.val - 64 := by omega
    simp only [e]
    rfl

/-- The transposed values over ones as the region finds them. -/
theorem v21_at (a : Fin 4) (h : Fin 16) (b : Fin 8) (d : Fin 144) (k : Fin 512) :
    (V m c main_v21 : Vec Ideal S4x16x8x144x512 .bf16) (ix5 a h b d k)
      = if hd : d.val < 128 then A4 m c (ix4 a ⟨b.val * 512 + k.val, by omega⟩ h ⟨d.val, hd⟩) else 1 := by
  unfold V
  after_reads_at
  split
  · after_reads_at
    rfl
  · after_reads_at

variable (t : Fin cfg0.N)

/-- Every grid point is one of 64. -/
theorem t_lt : t.val < 64 := lt_of_lt_of_le t.isLt (by decide)

/-- The window of queries at an index. -/
theorem x0_at (R : Fin 4096) (k : Fin 128) : (iblk m c 0 t (ix2 R k) : EReal)
    = A0 m c (ix4 ⟨t.val / 16, by have := t_lt t; omega⟩ R ⟨t.val % 16, by omega⟩ k) * ((scaleR / Real.log 2 : ℝ) : EReal) := by
  have ht := t_lt t
  have h : (iblk m c 0 t (ix2 R k) : EReal) = (V m c main_v6 : Vec Ideal S16384x2048 .bf16)
      (ix2 ⟨4096 * (t.val / 16) + R.val, by omega⟩ ⟨128 * (t.val % 16) + k.val, by omega⟩) := by
    blk_ext [iblk, (idx_all t).1]
  rw [h, v6_at]
  congr 2
  blk_ext

/-- The window of rotated queries, those of two heads, at an index. -/
theorem x1_at (R : Fin 4096) (k : Fin 128) : (iblk m c 1 t (ix2 R k) : EReal)
    = A1 m c (ix4 ⟨t.val / 16, by have := t_lt t; omega⟩ R ⟨2 * (t.val % 16 / 2) + k.val / 64, by omega⟩ ⟨k.val % 64, by omega⟩)
      * ((scaleR / Real.log 2 : ℝ) : EReal) := by
  have ht := t_lt t
  have h : (iblk m c 1 t (ix2 R k) : EReal) = (V m c main_v11 : Vec Ideal S16384x1024 .bf16)
      (ix2 ⟨4096 * (t.val / 16) + R.val, by omega⟩ ⟨128 * (t.val % 16 / 2) + k.val, by omega⟩) := by
    blk_ext [iblk, (idx_all t).2.1]
  rw [h, v11_at]
  congr 2
  blk_ext

/-- The window of keys at an index. -/
theorem x2_at (R : Fin 4096) (k : Fin 128) : (iblk m c 2 t (ix2 R k) : EReal)
    = A2 m c (ix4 ⟨t.val / 16, by have := t_lt t; omega⟩ R ⟨t.val % 16, by omega⟩ k) := by
  have ht := t_lt t
  have h : (iblk m c 2 t (ix2 R k) : EReal) = (V m c main_v13 : Vec Ideal S16384x2048 .bf16)
      (ix2 ⟨4096 * (t.val / 16) + R.val, by omega⟩ ⟨128 * (t.val % 16) + k.val, by omega⟩) := by
    blk_ext [iblk, (idx_all t).2.2.1]
  rw [h, v13_at]
  congr 1
  blk_ext

/-- The window of rotated keys at an index. -/
theorem x3_at (R : Fin 4096) (k : Fin 128) : (iblk m c 3 t (ix2 R k) : EReal)
    = A3 m c (ix3 ⟨t.val / 16, by have := t_lt t; omega⟩ R ⟨k.val % 64, by omega⟩) := by
  have ht := t_lt t
  have h : (iblk m c 3 t (ix2 R k) : EReal) = (V m c main_v16 : Vec Ideal S16384x128 .bf16)
      (ix2 ⟨4096 * (t.val / 16) + R.val, by omega⟩ k) := by
    blk_ext [iblk, (idx_all t).2.2.2.1]
  rw [h, v16_at]
  congr 1
  blk_ext

/-- The window of transposed values over ones at an index. -/
theorem x4_at (b : Fin 8) (d : Fin 144) (k : Fin 512) : (iblk m c 4 t (ix5 0 0 b d k) : EReal)
    = if hd : d.val < 128 then A4 m c (ix4 ⟨t.val / 16, by have := t_lt t; omega⟩ ⟨b.val * 512 + k.val, by omega⟩ ⟨t.val % 16, by omega⟩ ⟨d.val, hd⟩) else 1 := by
  have ht := t_lt t
  have h : (iblk m c 4 t (ix5 0 0 b d k) : EReal) = (V m c main_v21 : Vec Ideal S4x16x8x144x512 .bf16)
      (ix5 ⟨t.val / 16, by omega⟩ ⟨t.val % 16, by omega⟩ b d k) := by
    blk_ext [iblk, (idx_all t).2.2.2.2.1]
  rw [h, v21_at]

end Cert.Att
-- ==== Proof.Kern.lean ====
/- The kernel's result, element by element: the causal softmax attention of the arguments. -/
module

public import proofs.«01_k».proof.Proof.Diag
public import proofs.«01_k».proof.Proof.Blocks
public import proofs.«01_k».proof.Proof.Entry

@[expose] public section

set_option maxRecDepth 16384

noncomputable section

namespace Cert.Att

open Idealize Idealize.ShloMosaic Idealize.ShloMosaic.TcCoe Cert.KernelIdeal Cert.KernelIdeal.Gen Finset

/-- The lanes that a head keeps of the rotated queries of two. -/
theorem lanes : ∀ (p : Fin 2) (x : Fin 128), IntOp.andi (IntOp.cmpi CmpIPredicate.sge (BitVec.ofNat 32 x.val) (BitVec.ofNat 32 (64 * p.val)))
      (IntOp.cmpi CmpIPredicate.slt (BitVec.ofNat 32 x.val) (Scalar.addi (BitVec.ofNat 32 (64 * p.val)) 64#32))
    = if 64 * p.val ≤ x.val ∧ x.val < 64 * p.val + 64 then 1 else 0 := by decide +kernel

/-- A sum over 128 lanes of which one head's 64 count. -/
theorem sum_lanes (p : Fin 2) (f : Fin 128 → EReal) :
    ∑ x : Fin 128, (if 64 * p.val ≤ x.val ∧ x.val < 64 * p.val + 64 then f x else 0)
      = ∑ y : Fin 64, f ⟨64 * p.val + y.val, by omega⟩ := by
  rw [show (∑ x : Fin 128, (if 64 * p.val ≤ x.val ∧ x.val < 64 * p.val + 64 then f x else 0))
    = ∑ x : Fin (64 + 64), (if 64 * p.val ≤ x.val ∧ x.val < 64 * p.val + 64 then f ⟨x.val, x.isLt⟩ else 0) from rfl, Fin.sum_univ_add]
  match p with
  | ⟨0, _⟩ =>
    have h : ∀ x : Fin 64, ¬ (64 + x.val < 64) := fun x => by omega
    simp [h]
  | ⟨1, _⟩ =>
    have h : ∀ x : Fin 64, ¬ (64 ≤ x.val) := fun x => by omega
    have h' : ∀ x : Fin 64, x.val + 64 < 128 := fun x => by omega
    simp [h, h', Nat.add_comm]

/-- The scores of a tile of queries in terms of the query blocks. -/
theorem sc_q (p : Fin 2) (a b : Vec Ideal S512x128 .bf16) (x2 x3 : Vec Ideal S4096x128 .bf16) (r : Fin 512) (j : ℕ) :
    sc (k0_pay8 (BitVec.ofNat 32 (64 * p.val)) a b) x2 x3 r j
      = ∑ k : Fin 128, x2 (ix2 (Fin.ofNat 4096 j) k) * b (ix2 r k)
        + ∑ y : Fin 64, x3 (ix2 (Fin.ofNat 4096 j) ⟨64 * p.val + y.val, by omega⟩) * a (ix2 r ⟨64 * p.val + y.val, by omega⟩) := by
  pointwise [sc, keyAt, k0_pay8]
  simp only [lanes]
  rw [← sum_lanes p (fun x => x3 (ix2 (Fin.ofNat 4096 j) x) * a (ix2 r x))]
  congr 1
  refine Finset.sum_congr rfl fun x _ => ?_
  unfold Scalar.select
  by_cases h : 64 * p.val ≤ x.val ∧ x.val < 64 * p.val + 64
  · simp only [if_pos h, if_true]
  · simp only [if_neg h]
    rfl

section
variable (i : grid0.Coords) (x0 x1 x2 x3 : Vec Ideal S4096x128 .bf16) (x4 : Vec Ideal S1x1x8x144x512 .bf16)

/-- A row of a tile of results, left half. -/
theorem oTile_left (g : ℕ) (r : Fin 256) (d : Fin 128) (s : ℕ → ℝ)
    (hs : ∀ j, sc (qT i x0 x1 g) x2 x3 ⟨r.val, by omega⟩ j = s j) :
    (oTile i x0 x1 x2 x3 x4 g (ix2 ⟨r.val, by omega⟩ d) : EReal)
      = quot x4 (sc (qT i x0 x1 g) x2 x3 ⟨r.val, by omega⟩) d (512 * g + r.val + 1) := by
  match g with
  | 0 =>
    simp only [Nat.mul_zero, Nat.zero_add]
    exact oT0_left (qT i x0 x1 0) x2 x3 x4 r d s hs
  | g + 1 => exact oT_left (qT i x0 x1 (g + 1)) x2 x3 x4 g r d s hs

/-- A row of a tile of results, right half. -/
theorem oTile_right (g : ℕ) (r : Fin 256) (d : Fin 128) (s : ℕ → ℝ)
    (hs : ∀ j, sc (qT i x0 x1 g) x2 x3 ⟨256 + r.val, by omega⟩ j = s j) :
    (oTile i x0 x1 x2 x3 x4 g (ix2 ⟨256 + r.val, by omega⟩ d) : EReal)
      = quot x4 (sc (qT i x0 x1 g) x2 x3 ⟨256 + r.val, by omega⟩) d (512 * g + (256 + r.val) + 1) := by
  match g with
  | 0 =>
    simp only [Nat.mul_zero, Nat.zero_add]
    exact oT0_right (qT i x0 x1 0) x2 x3 x4 r d s hs
  | g + 1 => exact oT_right (qT i x0 x1 (g + 1)) x2 x3 x4 g r d s hs

/-- A row of the block of results: the quotient over the keys no later than it. -/
theorem oBlock_quot (R : Fin 4096) (d : Fin 128) (s : ℕ → ℝ)
    (hs : ∀ j, sc (qT i x0 x1 (R.val / 512)) x2 x3 (Fin.ofNat 512 R.val) j = s j) :
    (oBlock i x0 x1 x2 x3 x4 (ix2 R d) : EReal)
      = quot x4 (sc (qT i x0 x1 (R.val / 512)) x2 x3 (Fin.ofNat 512 R.val)) d (R.val + 1) := by
  have hR := R.isLt
  show (oTile i x0 x1 x2 x3 x4 (R.val / 512) (ix2 (Fin.ofNat 512 R.val) d) : EReal) = _
  by_cases h : R.val % 512 < 256
  · have hr : Fin.ofNat 512 R.val = (⟨(⟨R.val % 512, h⟩ : Fin 256).val, by omega⟩ : Fin 512) := rfl
    rw [hr] at hs ⊢
    rw [oTile_left i x0 x1 x2 x3 x4 _ _ d s hs]
    congr 1
    show 512 * (R.val / 512) + R.val % 512 + 1 = R.val + 1
    omega
  · have hr : Fin.ofNat 512 R.val = (⟨256 + (⟨R.val % 512 - 256, by omega⟩ : Fin 256).val, by omega⟩ : Fin 512) := by
      apply Fin.ext; show R.val % 512 = 256 + (R.val % 512 - 256); omega
    rw [hr] at hs ⊢
    rw [oTile_right i x0 x1 x2 x3 x4 _ _ d s hs]
    congr 1
    show 512 * (R.val / 512) + (256 + (R.val % 512 - 256)) + 1 = R.val + 1
    omega

/-- The scores of a block's row in terms of the query and key blocks. -/
theorem sc_row (p : Fin 2) (hp : kernelRun0_A.sl.v10 i = BitVec.ofNat 32 (64 * p.val)) (R : Fin 4096) (j : ℕ) :
    sc (qT i x0 x1 (R.val / 512)) x2 x3 (Fin.ofNat 512 R.val) j
      = ∑ k : Fin 128, x2 (ix2 (Fin.ofNat 4096 j) k) * x0 (ix2 R k)
        + ∑ y : Fin 64, x3 (ix2 (Fin.ofNat 4096 j) ⟨64 * p.val + y.val, by omega⟩) * x1 (ix2 R ⟨64 * p.val + y.val, by omega⟩) := by
  have hR : Fin.ofNat 4096 (512 * (R.val / 512) + (Fin.ofNat 512 R.val).val) = R := by
    apply Fin.ext
    show (512 * (R.val / 512) + R.val % 512) % 4096 = R.val
    omega
  unfold qT
  rw [hp, sc_q]
  conv_rhs => rw [← hR]
  rfl
end

variable (m : (ℓ : Loc nD τ sig) → Buf (Elt Ideal) ℓ) (c : Dev nD)

/-- The score of key `j` against query `R` of head `h` in batch `b`, as a real. -/
def sR (b : Fin 4) (h : Fin 16) (R : Fin 4096) (j : ℕ) : ℝ :=
  (∑ k : Fin 128, (A0 m c (ix4 b R h k)).toReal * (A2 m c (ix4 b (Fin.ofNat 4096 j) h k)).toReal
    + ∑ y : Fin 64, (A3 m c (ix3 b (Fin.ofNat 4096 j) y)).toReal * (A1 m c (ix4 b R h y)).toReal) * scaleR

/-- Queries and keys are reals. -/
def Fin4 : Prop := (∀ i, A0 m c i = ((A0 m c i).toReal : EReal)) ∧ (∀ i, A1 m c i = ((A1 m c i).toReal : EReal))
  ∧ (∀ i, A2 m c i = ((A2 m c i).toReal : EReal)) ∧ (∀ i, A3 m c i = ((A3 m c i).toReal : EReal))

/-- The attention of one query: the values of the keys no later than it, times the softmax of their scores. -/
def attn (b : Fin 4) (h : Fin 16) (R : Fin 4096) (d : Fin 128) : EReal :=
  ∑ j ∈ range (R.val + 1), A4 m c (ix4 b (Fin.ofNat 4096 j) h d)
    * ((Real.exp (sR m c b h R j) / ∑ k ∈ range (R.val + 1), Real.exp (sR m c b h R k) : ℝ) : EReal)

variable (t : Fin cfg0.N)

/-- The batch of a grid point. -/
def tb : Fin 4 := ⟨t.val / 16, by have := t_lt t; omega⟩

/-- The head of a grid point. -/
def th : Fin 16 := ⟨t.val % 16, by omega⟩

/-- The queries of the tile that holds row `R`. -/
abbrev qq (g : ℕ) : FVec Ideal S1x512x256 .bf16 := qT (grid0.coords t) (iblk m c 0 t) (iblk m c 1 t) g

/-- The kernel's scores are the real scores over the logarithm of two. -/
theorem sc_real (hf : Fin4 m c) (R : Fin 4096) (j : ℕ) :
    sc (qq m c t (R.val / 512)) (iblk m c 2 t) (iblk m c 3 t) (Fin.ofNat 512 R.val) j
      = ((sR m c (tb t) (th t) R j / Real.log 2 : ℝ) : EReal) := by
  obtain ⟨h0, h1, h2, h3⟩ := hf
  have hp : kernelRun0_A.sl.v10 (grid0.coords t) = BitVec.ofNat 32 (64 * (⟨t.val % 2, by omega⟩ : Fin 2).val) := (idx_all t).2.2.2.2.2.2
  unfold qq
  rw [sc_row _ _ _ _ _ ⟨t.val % 2, by omega⟩ hp]
  have e1 : ∀ y : Fin 64, (iblk m c 1 t (ix2 R ⟨64 * (t.val % 2) + y.val, by omega⟩) : EReal)
      = A1 m c (ix4 (tb t) R (th t) y) * ((scaleR / Real.log 2 : ℝ) : EReal) := fun y => by
    have h := x1_at m c t R ⟨64 * (t.val % 2) + y.val, by omega⟩
    have ea : (⟨2 * (t.val % 16 / 2) + (64 * (t.val % 2) + y.val) / 64, by omega⟩ : Fin 16) = th t := by
      apply Fin.ext; show _ = t.val % 16; simp only []; omega
    have eb : (⟨(64 * (t.val % 2) + y.val) % 64, by omega⟩ : Fin 64) = y := by
      apply Fin.ext; simp only []; omega
    simp only [ea, eb] at h
    exact h
  have e3 : ∀ y : Fin 64, (iblk m c 3 t (ix2 (Fin.ofNat 4096 j) ⟨64 * (t.val % 2) + y.val, by omega⟩) : EReal)
      = A3 m c (ix3 (tb t) (Fin.ofNat 4096 j) y) := fun y => by
    have h := x3_at m c t (Fin.ofNat 4096 j) ⟨64 * (t.val % 2) + y.val, by omega⟩
    have eb : (⟨(64 * (t.val % 2) + y.val) % 64, by omega⟩ : Fin 64) = y := by
      apply Fin.ext; simp only []; omega
    simp only [eb] at h
    exact h
  have e0 : ∀ k : Fin 128, (iblk m c 0 t (ix2 R k) : EReal)
      = A0 m c (ix4 (tb t) R (th t) k) * ((scaleR / Real.log 2 : ℝ) : EReal) := fun k => x0_at m c t R k
  have e2 : ∀ k : Fin 128, (iblk m c 2 t (ix2 (Fin.ofNat 4096 j) k) : EReal)
      = A2 m c (ix4 (tb t) (Fin.ofNat 4096 j) (th t) k) := fun k => x2_at m c t _ k
  simp only [e0, e1, e2, e3]
  have f1 : ∀ k : Fin 128, A2 m c (ix4 (tb t) (Fin.ofNat 4096 j) (th t) k) * (A0 m c (ix4 (tb t) R (th t) k) * ((scaleR / Real.log 2 : ℝ) : EReal))
      = (((A0 m c (ix4 (tb t) R (th t) k)).toReal * (A2 m c (ix4 (tb t) (Fin.ofNat 4096 j) (th t) k)).toReal * (scaleR / Real.log 2) : ℝ) : EReal) := fun k => by
    rw [h2, h0, ← EReal.coe_mul, ← EReal.coe_mul]
    simp only [EReal.toReal_coe]
    congr 1
    ring
  have f2 : ∀ y : Fin 64, A3 m c (ix3 (tb t) (Fin.ofNat 4096 j) y) * (A1 m c (ix4 (tb t) R (th t) y) * ((scaleR / Real.log 2 : ℝ) : EReal))
      = (((A3 m c (ix3 (tb t) (Fin.ofNat 4096 j) y)).toReal * (A1 m c (ix4 (tb t) R (th t) y)).toReal * (scaleR / Real.log 2) : ℝ) : EReal) := fun y => by
    rw [h3, h1, ← EReal.coe_mul, ← EReal.coe_mul]
    simp only [EReal.toReal_coe]
    congr 1
    ring
  simp only [f1, f2]
  rw [← coe_sum_real, ← coe_sum_real, ← EReal.coe_add, sR, ← Finset.sum_mul, ← Finset.sum_mul]
  congr 1
  ring

/-- The block of results that one grid point leaves, at an index. -/
theorem oBlock_at (hf : Fin4 m c) (R : Fin 4096) (d : Fin 128) :
    (oBlock (grid0.coords t) (iblk m c 0 t) (iblk m c 1 t) (iblk m c 2 t) (iblk m c 3 t) (iblk m c 4 t) (ix2 R d) : EReal)
      = attn m c (tb t) (th t) R d := by
  have hs := sc_real m c t hf R
  have hv : ∀ j, va (iblk m c 4 t) ⟨d.val, by omega⟩ j = A4 m c (ix4 (tb t) (Fin.ofNat 4096 j) (th t) d) := fun j => by
    unfold va
    rw [x4_at, dif_pos d.isLt]
    refine congrArg (A4 m c) ?_
    have e : (⟨(Fin.ofNat 8 (j / 512)).val * 512 + (Fin.ofNat 512 j).val, by omega⟩ : Fin 4096) = Fin.ofNat 4096 j := by
      apply Fin.ext; show j / 512 % 8 * 512 + j % 512 = j % 4096; omega
    rw [e]
    rfl
  have h1 : ∀ j, va (iblk m c 4 t) 128 j = 1 := fun j => by
    unfold va
    rw [x4_at, dif_neg (by decide)]
  rw [oBlock_quot _ _ _ _ _ _ R d _ hs, quot]
  simp only [hv, h1, one_mul]
  obtain ⟨M, hM⟩ := sup_real (range (R.val + 1)) (by simp) (fun j => sR m c (tb t) (th t) R j / Real.log 2)
  simp only [hs]
  rw [show (sc (qq m c t (R.val / 512)) (iblk m c 2 t) (iblk m c 3 t) (Fin.ofNat 512 R.val))
    = fun j => ((sR m c (tb t) (th t) R j / Real.log 2 : ℝ) : EReal) from funext hs, hM]
  exact ratio (range (R.val + 1)) (by simp) (sR m c (tb t) (th t) R) _ M

/-- The kernel's result after the run. -/
theorem kernel_out (hf : Fin4 m c) : ((dats m 0 c).arrAt 5 cfg0.N : Vec Ideal S16384x2048 .bf16)
    = fun i => attn m c ⟨(i 0).val / 4096, by have := (i 0).isLt; change _ < 16384 at this; omega⟩ ⟨(i 1).val / 128, by have := (i 1).isLt; change _ < 2048 at this; omega⟩
        ⟨(i 0).val % 4096, by omega⟩ ⟨(i 1).val % 128, by omega⟩ := by
  refine (dats m 0 c).arrAt_eq_of_covers 5 _ (by decide +kernel) fun t hf' y => ?_
  blk_simp
  rw [after0_5]
  unfold outsAt0
  rw [out_eq]
  have ht := t_lt t
  have e := (idx_all t).2.2.2.2.2.1
  obtain ⟨R, d, rfl⟩ : ∃ (R : Fin 4096) (d : Fin 128), y = ix2 R d := ⟨y 0, y 1, eq_ix2 y⟩
  refine (oBlock_at m c t hf R d).trans ?_
  have e0 : win0_5.index t 0 = t.val / 16 := congrFun e 0
  have e1 : win0_5.index t 1 = t.val % 16 := congrFun e 1
  have hR := R.isLt
  have hd := d.isLt
  congr 1 <;> apply Fin.ext <;> simp only [e0, e1, tb, th, ix2_0, ix2_1] <;> omega

end Cert.Att
-- ==== Proof.Ref.lean ====
/- The reference's result, element by element: the causal softmax attention of its arguments. -/
module

public import proofs.«01_k».proof.Proof.Gen.ReferenceIdeal.Run
public import proofs.«01_k».proof.Proof.Kern
public import Idealize.ShloMosaic.Lib.WordCmp

@[expose] public section

set_option maxRecDepth 16384

noncomputable section

namespace Cert.Att

open Idealize Idealize.ShloMosaic Idealize.ShloMosaic.TcCoe Cert.ReferenceIdeal Finset

/-- The reference's masked scores. -/
def refS (a0 : FVec Ideal S4x4096x16x128 .f32) (a1 : FVec Ideal S4x4096x16x64 .f32) (a2 : FVec Ideal S4x4096x16x128 .f32)
    (a3 : FVec Ideal S4x4096x64 .f32) : FVec Ideal S4x16x4096x4096 .f32 :=
  select (broadcastInDim S4x16x4096x4096 ![2, 3] Gen.bcast_S4096x4096_S4x16x4096x4096_2_3 (cmpi .sle (broadcastInDim S4096x4096 ![0, 1] Gen.bcast_S1x4096_S4096x4096_0_1 (broadcastInDim S1x4096 ![1] Gen.bcast_S4096_S1x4096_1 (iotaInDim S4096 32 0))) (broadcastInDim S4096x4096 ![0, 1] Gen.bcast_S4096x1_S4096x4096_0_1 (broadcastInDim S4096x1 ![0] Gen.bcast_S4096_S4096x1_0 (iotaInDim S4096 32 0)))))
    (mulf (addf (Host.dotGeneral dot_S4x4096x16x128_S4x4096x16x128_S4x16x4096x4096_3_3_1_1_02_02 none a0 a2) (transpose S4x16x4096x4096 [0, 3, 2, 1] (Host.dotGeneral dot_S4x4096x64_S4x4096x16x64_S4x4096x4096x16_2_3_1_12_0_0 none a3 a1) Gen.transposes_S4x4096x4096x16_S4x16x4096x4096_0_3_2_1)) (broadcastInDim S4x16x4096x4096 ![] Gen.bcast_S_S4x16x4096x4096 (constant S_ .f32 0x3D93CD3A#32)))
    (broadcastInDim S4x16x4096x4096 ![] Gen.bcast_S_S4x16x4096x4096 (id (constant S_ .f32 0xFF800000#32)))

/-- The reference's maxima over the keys. -/
def refM (s : FVec Ideal S4x16x4096x4096 .f32) : FVec Ideal S4x16x4096 .f32 :=
  maximumf (broadcastInDim S4x16x4096 ![] Gen.bcast_S_S4x16x4096 (constant S_ .f32 0xFF800000#32))
    (Host.reduce FloatOps.maximumf s (constant S_ .f32 0xFF800000#32) Gen.reducesTo_S4x16x4096x4096_S4x16x4096_d3 Gen.h_S_)

/-- The reference's exponentials of the scores less their maximum. -/
def refE (s : FVec Ideal S4x16x4096x4096 .f32) : FVec Ideal S4x16x4096x4096 .f32 :=
  Host.exp (subf s (broadcastInDim S4x16x4096x4096 ![0, 1, 2, 3] Gen.bcast_S4x16x4096x1_S4x16x4096x4096_0_1_2_3 (broadcastInDim S4x16x4096x1 ![0, 1, 2] Gen.bcast_S4x16x4096_S4x16x4096x1_0_1_2 (refM s))))

/-- The reference's result from the values and the exponentials. -/
def refO (v : FVec Ideal S4x4096x16x128 .f32) (e : FVec Ideal S4x16x4096x4096 .f32) : FVec Ideal S16384x2048 .bf16 :=
  truncf .bf16 (shapeCast _ (transpose S4x4096x16x128 [0, 3, 1, 2] (Host.dotGeneral dot_S4x4096x16x128_S4x16x4096x4096_S4x16x128x4096_1_3_3_2_02_01 none v
    (Host.divf e (broadcastInDim S4x16x4096x4096 ![0, 1, 2, 3] Gen.bcast_S4x16x4096x1_S4x16x4096x4096_0_1_2_3 (broadcastInDim S4x16x4096x1 ![0, 1, 2] Gen.bcast_S4x16x4096_S4x16x4096x1_0_1_2
      (Host.reduceAdd e (constant S_ .f32 0#32) Gen.reducesTo_S4x16x4096x4096_S4x16x4096_d3 Gen.h_S_)))))
    Gen.transposes_S4x16x128x4096_S4x4096x16x128_0_3_1_2) Gen.shapeCasts_S4x4096x16x128_S16384x2048) Gen.bitsLt_bf16_f32

variable (m : (ℓ : Loc nD τ sig) → Buf (Elt Ideal) ℓ) (c : Dev nD)

/-- The reference's composed term, by its parts. -/
theorem ref_parts : Value.res_main_v27 m c = refO (m ((c.tc : Thread nD τ).loc main_arg4))
    (refE (refS (m ((c.tc : Thread nD τ).loc main_arg0)) (m ((c.tc : Thread nD τ).loc main_arg1)) (m ((c.tc : Thread nD τ).loc main_arg2)) (m ((c.tc : Thread nD τ).loc main_arg3)))) := rfl

/-- A maximum over the last of four axes, at an index. -/
theorem max_last {n0 n1 n2 n3 : ℕ} (s : FVec Ideal ⟨4, ![n0, n1, n2, n3]⟩ .f32) (z : FVec Ideal S_ .f32)
    (hr : (⟨4, ![n0, n1, n2, n3]⟩ : Shape).ReducesTo [3] ⟨3, ![n0, n1, n2]⟩) (hu : 0 < S_.numel) (b : Fin n0) (h : Fin n1) (q : Fin n2) :
    (Host.reduce (α := Ideal .f32) FloatOps.maximumf s z hr hu (ix3 b h q) : EReal) = fold max (z (Shape.Idx.first hu)) (fun k : Fin n3 => (s (ix4 b h q k) : EReal)) univ := by
  rw [Host.reduce_eq_fold, Shape.ReducesTo.fold_fiber_r4_a3]
  rfl

/-- A mask of the keys later than the query, at an index. -/
theorem select_le' (a b : Fin 4096) (x y : EReal) :
    Scalar.select (IntOp.cmpi .sle (BitVec.ofNat 32 a.val) (BitVec.ofNat 32 b.val)) x y = if a.val < b.val + 1 then x else y := by
  unfold Scalar.select
  have h : IntOp.cmpi .sle (BitVec.ofNat 32 a.val) (BitVec.ofNat 32 b.val) = 1 ↔ a.val < b.val + 1 :=
    (WordCmp.cmpi_sle_ofNat_eq_one_iff (by have := a.isLt; norm_num; omega) (by have := b.isLt; norm_num; omega)).trans Nat.lt_succ_iff.symm
  simp only [h]

/-- A maximum of two arrays at an index. -/
theorem max_two {S : Shape} (x y : FVec Ideal S .f32) (i : S.Idx) : (maximumf x y i : EReal) = max (x i : EReal) (y i : EReal) := rfl

/-- A supremum over the indices of a finite type of numbers is one over a range. -/
theorem sup_fin (n : ℕ) (f : ℕ → EReal) : (univ : Finset (Fin n)).sup (fun a => f a.val) = (range n).sup f := by
  apply le_antisymm
  · exact Finset.sup_le fun a _ => Finset.le_sup (f := f) (Finset.mem_range.mpr a.isLt)
  · exact Finset.sup_le fun j hj => Finset.le_sup (f := fun a : Fin n => f a.val) (Finset.mem_univ ⟨j, Finset.mem_range.mp hj⟩)

/-- The reference's maximum at an index. -/
theorem refM_at (s : FVec Ideal S4x16x4096x4096 .f32) (b : Fin 4) (h : Fin 16) (q : Fin 4096) :
    (refM s (ix3 b h q) : EReal) = (univ : Finset (Fin 4096)).sup (fun k => (s (ix4 b h q k) : EReal)) := by
  unfold refM
  rw [max_two, max_last, ← fold_max_sup]
  have e1 : (broadcastInDim S4x16x4096 ![] Gen.bcast_S_S4x16x4096 (constant S_ .f32 0xFF800000#32 : FVec Ideal S_ .f32) (ix3 b h q) : EReal) = ⊥ := by
    pointwise
    exact ofBits_bot
  have e2 : ((constant S_ .f32 0xFF800000#32 : FVec Ideal S_ .f32) (Shape.Idx.first Gen.h_S_) : EReal) = ⊥ := ofBits_bot
  rw [e1, e2, max_eq_right bot_le]

/-- The reference's exponential at an index. -/
theorem refE_exp (s : FVec Ideal S4x16x4096x4096 .f32) (b : Fin 4) (h : Fin 16) (q k : Fin 4096) :
    (refE s (ix4 b h q k) : EReal) = Ideal.exp (s (ix4 b h q k) - refM s (ix3 b h q)) := by
  pointwise [refE]

/-- The reference's result from values and exponentials, at an index. -/
theorem refO_sum (v : FVec Ideal S4x4096x16x128 .f32) (w : FVec Ideal S4x16x4096x4096 .f32) (r : Fin 16384) (d : Fin 2048) :
    (refO v w (ix2 r d) : EReal) = ∑ k : Fin 4096, v (ix4 ⟨r.val / 4096, by omega⟩ k ⟨d.val / 128, by omega⟩ ⟨d.val % 128, by omega⟩)
      * Ideal.div (w (ix4 ⟨r.val / 4096, by omega⟩ ⟨d.val / 128, by omega⟩ ⟨r.val % 4096, by omega⟩ k))
        (∑ y : Fin 4096, (w (ix4 ⟨r.val / 4096, by omega⟩ ⟨d.val / 128, by omega⟩ ⟨r.val % 4096, by omega⟩ y) : EReal)) := by
  pointwise [refO]

section
variable (a0 : S4x4096x16x128.Idx → EReal) (a1 : S4x4096x16x64.Idx → EReal) (a2 : S4x4096x16x128.Idx → EReal) (a3 : S4x4096x64.Idx → EReal)
  (a4 : S4x4096x16x128.Idx → EReal)

/-- The real score of a query and a key. -/
def scoreR (b : Fin 4) (h : Fin 16) (R : Fin 4096) (j : ℕ) : ℝ :=
  (∑ k : Fin 128, (a0 (ix4 b R h k)).toReal * (a2 (ix4 b (Fin.ofNat 4096 j) h k)).toReal
    + ∑ y : Fin 64, (a3 (ix3 b (Fin.ofNat 4096 j) y)).toReal * (a1 (ix4 b R h y)).toReal) * scaleR

variable (h0 : ∀ i, a0 i = ((a0 i).toReal : EReal)) (h1 : ∀ i, a1 i = ((a1 i).toReal : EReal))
  (h2 : ∀ i, a2 i = ((a2 i).toReal : EReal)) (h3 : ∀ i, a3 i = ((a3 i).toReal : EReal))
include h0 h1 h2 h3

/-- The reference's masked scores at an index. -/
theorem refS_at (b : Fin 4) (h : Fin 16) (q k : Fin 4096) :
    (refS a0 a1 a2 a3 (ix4 b h q k) : EReal) = if k.val < q.val + 1 then ((scoreR a0 a1 a2 a3 b h q k.val : ℝ) : EReal) else ⊥ := by
  have e : (refS a0 a1 a2 a3 (ix4 b h q k) : EReal) = Scalar.select (IntOp.cmpi .sle (BitVec.ofNat 32 k.val) (BitVec.ofNat 32 q.val))
      ((∑ x, a0 (ix4 b q h x) * a2 (ix4 b k h x) + ∑ x, a3 (ix3 b k x) * a1 (ix4 b q h x)) * Ideal.ofBits FTy.f32 0x3D93CD3A#32)
      (Ideal.ofBits .f32 0xFF800000#32) := by
    pointwise [refS]
    rfl
  rw [e, select_le', ofBits_bot, scale_word]
  have hk : Fin.ofNat 4096 k.val = k := Fin.ext (Nat.mod_eq_of_lt k.isLt)
  have f1 : ∀ x : Fin 128, a0 (ix4 b q h x) * a2 (ix4 b k h x) = (((a0 (ix4 b q h x)).toReal * (a2 (ix4 b k h x)).toReal : ℝ) : EReal) := fun x => by
    rw [EReal.coe_mul, ← h0, ← h2]
  have f2 : ∀ x : Fin 64, a3 (ix3 b k x) * a1 (ix4 b q h x) = (((a3 (ix3 b k x)).toReal * (a1 (ix4 b q h x)).toReal : ℝ) : EReal) := fun x => by
    rw [EReal.coe_mul, ← h3, ← h1]
  simp only [f1, f2]
  rw [← coe_sum_real, ← coe_sum_real, ← EReal.coe_add, ← EReal.coe_mul]
  unfold scoreR
  rw [hk]

/-- The reference's exponentials at an index, against a real maximum. -/
theorem refE_at (b : Fin 4) (h : Fin 16) (q : Fin 4096) : ∃ M : ℝ, ∀ k : Fin 4096,
    (refE (refS a0 a1 a2 a3) (ix4 b h q k) : EReal)
      = ((if k.val < q.val + 1 then Real.exp (scoreR a0 a1 a2 a3 b h q k.val - M) else 0 : ℝ) : EReal) := by
  obtain ⟨M, hM⟩ := sup_real (range (q.val + 1)) ⟨0, by simp⟩ (scoreR a0 a1 a2 a3 b h q)
  have hm : (refM (refS a0 a1 a2 a3) (ix3 b h q) : EReal) = M := by
    rw [refM_at]
    simp only [refS_at a0 a1 a2 a3 h0 h1 h2 h3]
    rw [sup_fin 4096 (fun j => if j < q.val + 1 then ((scoreR a0 a1 a2 a3 b h q j : ℝ) : EReal) else ⊥), sup_masked _ _ (by omega), hM]
  refine ⟨M, fun k => ?_⟩
  rw [refE_exp, hm, refS_at a0 a1 a2 a3 h0 h1 h2 h3]
  by_cases hk : k.val < q.val + 1
  · rw [if_pos hk, if_pos hk, ← EReal.coe_sub, Ideal.exp_coe]
  · rw [if_neg hk, if_neg hk, EReal.bot_sub, Ideal.exp_bot, EReal.coe_zero]

omit h0 h1 h2 h3 in
/-- A sum of values times weights that are zero after the query, normalized, over the keys no later than the query. -/
theorem weights (n R : ℕ) (hR : R < n) (V : Fin n → EReal) (U : ℕ → EReal) (hV : ∀ k : Fin n, V k = U k.val) (s : ℕ → ℝ) (M : ℝ) :
    ∑ k : Fin n, V k * Ideal.div ((if k.val < R + 1 then Real.exp (s k.val - M) else 0 : ℝ) : EReal)
        (∑ y : Fin n, ((if y.val < R + 1 then Real.exp (s y.val - M) else 0 : ℝ) : EReal))
      = ∑ j ∈ range (R + 1), U j * ((Real.exp (s j) / ∑ k ∈ range (R + 1), Real.exp (s k) : ℝ) : EReal) := by
  have hs : (∑ y : Fin n, (if y.val < R + 1 then Real.exp (s y.val - M) else 0 : ℝ)) = ∑ j ∈ range (R + 1), Real.exp (s j - M) := by
    rw [← sum_masked n (R + 1) (by omega) (fun j => Real.exp (s j - M)), Finset.sum_range]
  rw [← coe_sum_real, hs]
  have hp : (∑ j ∈ range (R + 1), Real.exp (s j - M)) ≠ 0 := (Finset.sum_pos (fun k _ => Real.exp_pos _) ⟨0, by simp⟩).ne'
  rw [← sum_masked n (R + 1) (by omega) (fun j => U j * ((Real.exp (s j) / ∑ k ∈ range (R + 1), Real.exp (s k) : ℝ) : EReal))]
  refine Eq.trans (Finset.sum_congr rfl fun k _ => ?_) (Finset.sum_range _).symm
  show _ = if k.val < R + 1 then _ else _
  rw [Ideal.div_coe hp, ← EReal.coe_mul, hV]
  by_cases hq : k.val < R + 1
  · rw [if_pos hq, if_pos hq, mul_one_div, shift]
  · rw [if_neg hq, if_neg hq, zero_mul, EReal.coe_zero, mul_zero]

/-- The reference's result at an index: the causal softmax attention. -/
theorem refO_at (r : Fin 16384) (d : Fin 2048) (b : Fin 4) (h : Fin 16) (R : Fin 4096) (x : Fin 128)
    (hb : b.val = r.val / 4096) (hh : h.val = d.val / 128) (hR : R.val = r.val % 4096) (hx : x.val = d.val % 128) :
    (refO a4 (refE (refS a0 a1 a2 a3)) (ix2 r d) : EReal)
      = ∑ j ∈ range (R.val + 1), a4 (ix4 b (Fin.ofNat 4096 j) h x)
        * ((Real.exp (scoreR a0 a1 a2 a3 b h R j) / ∑ k ∈ range (R.val + 1), Real.exp (scoreR a0 a1 a2 a3 b h R k) : ℝ) : EReal) := by
  rw [refO_sum, show (⟨r.val / 4096, by omega⟩ : Fin 4) = b from (Fin.ext hb).symm, show (⟨d.val / 128, by omega⟩ : Fin 16) = h from (Fin.ext hh).symm,
      show (⟨r.val % 4096, by omega⟩ : Fin 4096) = R from (Fin.ext hR).symm, show (⟨d.val % 128, by omega⟩ : Fin 128) = x from (Fin.ext hx).symm]
  obtain ⟨M, hM⟩ := refE_at a0 a1 a2 a3 h0 h1 h2 h3 b h R
  simp only [hM]
  exact weights 4096 R.val R.isLt (fun k => a4 (ix4 b k h x)) (fun j => a4 (ix4 b (Fin.ofNat 4096 j) h x))
    (fun k => by rw [show Fin.ofNat 4096 k.val = k from Fin.ext (Nat.mod_eq_of_lt k.isLt)]) (scoreR a0 a1 a2 a3 b h R) M

end

end Cert.Att
-- ==== Proof.Down.lean ====
/- The second product of the feed-forward part: the kernel's result and the reference's are one expression of the arguments. -/
module

public import proofs.«01_k».proof.Proof.Gen.DownIdeal.Value
public import proofs.«01_k».proof.Proof.Gen.DownRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Ffn

open Idealize Idealize.ShloMosaic Idealize.ShloMosaic.TcCoe Finset

/-- A root mean square normalisation of a row of 2048, at one place. -/
def normed (y : Fin 2048 → EReal) (g : EReal) (k : Fin 2048) : EReal :=
  y k * Ideal.rsqrt (Ideal.div (∑ j, y j * y j) (Ideal.ofBits .f32 0x45000000#32) + Ideal.ofBits .f32 0x358637BD#32) * g

section
open Cert.DownIdeal Cert.DownIdeal.Gen

/-- The block a grid point writes, at one place, from its windows. -/
theorem pay_at (x0 : Vec Ideal S256x5632 .bf16) (x1 : Vec Ideal S5632x2048 .bf16) (x2 : Vec Ideal S256x2048 .f32)
    (x3 : Vec Ideal S1x2048 .f32) (x4 : Vec Ideal S1x6x2048 .f32) (R : Fin 256) (k : Fin 2048) :
    (out0_5 x0 x1 x2 x3 x4 (ix2 R k) : EReal)
      = x2 (ix2 R k) + x4 (ix3 0 5 k) * normed (fun k => ∑ j, x0 (ix2 R j) * x1 (ix2 j k)) (x3 (ix2 0 k)) k := by
  unfold out0_5
  rw [View.canon_cons_unit_lit _ _ _ (by decide), View.ld_unit_lit _ x0 (by decide), View.ld_unit_lit _ x1 (by decide),
    View.ld_unit_lit _ x2 (by decide), View.ld_unit_lit _ x3 (by decide)]
  pointwise [k0_pay1]
  rfl

/-- The result at row `r` and column `k`: the residual and the gated, normalised product. -/
def downAt (a : S16384x5632.Idx → EReal) (w : S5632x2048.Idx → EReal) (x : S16384x2048.Idx → EReal) (g : S2048.Idx → EReal)
    (mod : S4x6x2048.Idx → EReal) (r : Fin 16384) (k : Fin 2048) : EReal :=
  x (ix2 r k) + mod (ix3 ⟨r.val / 4096, by omega⟩ 5 k) * normed (fun k => ∑ j, a (ix2 r j) * w (ix2 j k)) (g (ix1 k)) k

variable (m : (ℓ : Loc nD τ sig) → Buf (Elt Ideal) ℓ) (c : Dev nD) (t : Fin cfg0.N)

/-- The activations. -/
def B0 : S16384x5632.Idx → EReal := m ((c : Thread nD τ).loc main_arg0)

/-- The weights. -/
def B1 : S5632x2048.Idx → EReal := m ((c : Thread nD τ).loc main_arg1)

/-- The residual stream. -/
def B2 : S16384x2048.Idx → EReal := m ((c : Thread nD τ).loc main_arg2)

/-- The weights of the normalisation. -/
def B3 : S2048.Idx → EReal := m ((c : Thread nD τ).loc main_arg3)

/-- The modulations of each sequence. -/
def B4 : S4x6x2048.Idx → EReal := m ((c : Thread nD τ).loc main_arg4)

/-- The index maps of the windows at every grid point. -/
theorem idx_down : ∀ t : Fin grid0.N, win0_0.index t = ![t.val, 0] ∧ win0_1.index t = ![0, 0] ∧ win0_2.index t = ![t.val, 0]
    ∧ win0_3.index t = ![0, 0] ∧ win0_4.index t = ![t.val / 16, 0, 0] ∧ win0_5.index t = ![t.val, 0] := by decide +kernel

/-- Every grid point is one of 64. -/
theorem down_lt : t.val < 64 := lt_of_lt_of_le t.isLt (by decide)

/-- The weights as the region finds them. -/
theorem dw_at (j : Fin 5632) (k : Fin 2048) : (V m c main_v0 : Vec Ideal S5632x2048 .bf16) (ix2 j k) = B1 m c (ix2 j k) := by
  unfold V
  after_reads_at
  rfl

/-- The weights of the normalisation as the region finds them. -/
theorem dg_at (k : Fin 2048) : (V m c main_v1 : Vec Ideal S1x2048 .f32) (ix2 0 k) = B3 m c (ix1 k) := by
  unfold V
  after_reads_at
  rfl

/-- The window of activations at an index. -/
theorem d0_at (R : Fin 256) (j : Fin 5632) : (iblk m c 0 t (ix2 R j) : EReal)
    = B0 m c (ix2 ⟨256 * t.val + R.val, by have := down_lt t; omega⟩ j) := by
  have ht := down_lt t
  have h : (iblk m c 0 t (ix2 R j) : EReal) = (V m c main_arg0 : Vec Ideal S16384x5632 .bf16) (ix2 ⟨256 * t.val + R.val, by omega⟩ j) := by
    blk_ext [iblk, (idx_down t).1]
  rw [h, V_main_arg0]
  rfl

/-- The window of weights at an index. -/
theorem d1_at (j : Fin 5632) (k : Fin 2048) : (iblk m c 1 t (ix2 j k) : EReal) = B1 m c (ix2 j k) := by
  have h : (iblk m c 1 t (ix2 j k) : EReal) = (V m c main_v0 : Vec Ideal S5632x2048 .bf16) (ix2 j k) := by
    blk_ext [iblk, (idx_down t).2.1]
  rw [h, dw_at]

/-- The window of the residual stream at an index. -/
theorem d2_at (R : Fin 256) (k : Fin 2048) : (iblk m c 2 t (ix2 R k) : EReal)
    = B2 m c (ix2 ⟨256 * t.val + R.val, by have := down_lt t; omega⟩ k) := by
  have ht := down_lt t
  have h : (iblk m c 2 t (ix2 R k) : EReal) = (V m c main_arg2 : Vec Ideal S16384x2048 .f32) (ix2 ⟨256 * t.val + R.val, by omega⟩ k) := by
    blk_ext [iblk, (idx_down t).2.2.1]
  rw [h, V_main_arg2]
  rfl

/-- The window of the normalisation's weights at an index. -/
theorem d3_at (k : Fin 2048) : (iblk m c 3 t (ix2 0 k) : EReal) = B3 m c (ix1 k) := by
  have h : (iblk m c 3 t (ix2 0 k) : EReal) = (V m c main_v1 : Vec Ideal S1x2048 .f32) (ix2 0 k) := by
    blk_ext [iblk, (idx_down t).2.2.2.1]
  rw [h, dg_at]

/-- The window of modulations at an index. -/
theorem d4_at (q : Fin 6) (k : Fin 2048) : (iblk m c 4 t (ix3 0 q k) : EReal)
    = B4 m c (ix3 ⟨t.val / 16, by have := down_lt t; omega⟩ q k) := by
  have ht := down_lt t
  have h : (iblk m c 4 t (ix3 0 q k) : EReal) = (V m c main_arg4 : Vec Ideal S4x6x2048 .f32) (ix3 ⟨t.val / 16, by omega⟩ q k) := by
    blk_ext [iblk, (idx_down t).2.2.2.2.1]
  rw [h, V_main_arg4]
  rfl

/-- The kernel's result after the run. -/
theorem down_out : ((dats m 0 c).arrAt 5 cfg0.N : Vec Ideal S16384x2048 .f32)
    = fun i => downAt (B0 m c) (B1 m c) (B2 m c) (B3 m c) (B4 m c) (i 0) (i 1) := by
  refine (dats m 0 c).arrAt_eq_of_covers 5 _ (by decide +kernel) fun t hf' y => ?_
  blk_simp
  rw [after0_5]
  have ht := down_lt t
  have e := (idx_down t).2.2.2.2.2
  obtain ⟨R, k, rfl⟩ : ∃ (R : Fin 256) (k : Fin 2048), y = ix2 R k := ⟨y 0, y 1, eq_ix2 y⟩
  refine (pay_at _ _ _ _ _ R k).trans ?_
  simp only [d0_at, d1_at, d2_at, d3_at, d4_at]
  have e0 : win0_5.index t 0 = t.val := congrFun e 0
  have e1 : win0_5.index t 1 = 0 := congrFun e 1
  have hR := R.isLt
  have hq : (256 * t.val + R.val) / 4096 = t.val / 16 := by omega
  have h0 : ((win0_5.blk t).view.emb (ix2 R k) 0 : Fin 16384) = (⟨256 * t.val + R.val, by omega⟩ : Fin 16384) := Fin.ext (by
    show win0_5.index t 0 * 256 + 1 * R.val = 256 * t.val + R.val
    omega)
  have h1 : ((win0_5.blk t).view.emb (ix2 R k) 1 : Fin 2048) = k := Fin.ext (by
    show win0_5.index t 1 * 2048 + 1 * k.val = k.val
    omega)
  refine Eq.trans ?_ (congrArg₂ (downAt (B0 m c) (B1 m c) (B2 m c) (B3 m c) (B4 m c)) h0 h1).symm
  simp only [downAt, hq]

end

section
open Cert.DownRefIdeal Cert.DownRefIdeal.Gen

variable (a : Vec Ideal S16384x5632 .bf16) (w : Vec Ideal S5632x2048 .f32)
  (x : Vec Ideal S16384x2048 .f32) (g : Vec Ideal S2048 .f32) (mod : Vec Ideal S4x6x2048 .f32)

/-- The reference's product. -/
def dP : FVec Ideal S4x4096x2048 .f32 :=
  shapeCast _ (Host.dotGeneral dot_S16384x5632_S5632x2048_S16384x2048_1_0_0_1_n_n none (φ₂ := .f32) (extf .f32 a bitsLt_bf16_f32) w) shapeCasts_S16384x2048_S4x4096x2048

/-- The reference's mean square of each row of a product. -/
def dV (y : FVec Ideal S4x4096x2048 .f32) : FVec Ideal S4x4096x1 .f32 :=
  Host.divf (broadcastInDim S4x4096x1 ![0, 1] bcast_S4x4096_S4x4096x1_0_1 (Host.reduceAdd (mulf y y) (constant S_ .f32 0x00000000#32) reducesTo_S4x4096x2048_S4x4096_d2 h_S_))
    (broadcastInDim S4x4096x1 ![] bcast_S_S4x4096x1 (constant S_ .f32 0x45000000#32))

/-- The reference's result from the product and its mean squares. -/
def dO (y : FVec Ideal S4x4096x2048 .f32) (v : FVec Ideal S4x4096x1 .f32) : FVec Ideal S16384x2048 .f32 :=
  shapeCast _ (addf (shapeCast _ x shapeCasts_S16384x2048_S4x4096x2048) (mulf (broadcastInDim S4x4096x2048 ![0, 1, 2] bcast_S4x1x2048_S4x4096x2048_0_1_2 (broadcastInDim S4x1x2048 ![0, 2] bcast_S4x2048_S4x1x2048_0_2 (shapeCast _ (extractStridedSlice S4x1x2048 ![0, 5, 0] mod slices_S4x6x2048_S4x1x2048_0_5_0) shapeCasts_S4x1x2048_S4x2048))) (mulf (mulf y (broadcastInDim S4x4096x2048 ![0, 1, 2] bcast_S4x4096x1_S4x4096x2048_0_1_2 (Host.rsqrt (addf v (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))))) shapeCasts_S4x4096x2048_S16384x2048

/-- The reference's product at an index. -/
theorem dP_at (b : Fin 4) (R : Fin 4096) (k : Fin 2048) :
    (dP a w (ix3 b R k) : EReal) = ∑ j, a (ix2 ⟨b.val * 4096 + R.val, by omega⟩ j) * w (ix2 j k) := by
  pointwise [dP]

/-- The reference's mean square at an index. -/
theorem dV_at (y : FVec Ideal S4x4096x2048 .f32) (b : Fin 4) (R : Fin 4096) :
    (dV y (ix3 b R 0) : EReal) = Ideal.div (∑ k, (y (ix3 b R k) : EReal) * y (ix3 b R k)) (Ideal.ofBits .f32 0x45000000#32) := by
  pointwise [dV]

/-- The reference's result at an index, from the product and its mean squares. -/
theorem dO_at (y : FVec Ideal S4x4096x2048 .f32) (v : FVec Ideal S4x4096x1 .f32) (r : Fin 16384) (k : Fin 2048)
    (b : Fin 4) (R : Fin 4096) (hb : b.val = r.val / 4096) (hR : R.val = r.val % 4096) :
    (dO x g mod y v (ix2 r k) : EReal) = x (ix2 r k) + mod (ix3 b 5 k)
      * (y (ix3 b R k) * Ideal.rsqrt (v (ix3 b R 0) + Ideal.ofBits .f32 0x358637BD#32) * g (ix1 k)) := by
  rw [show b = ⟨r.val / 4096, by omega⟩ from Fin.ext hb, show R = ⟨r.val % 4096, by omega⟩ from Fin.ext hR]
  pointwise [dO]

/-- The reference's result is the kernel's expression. -/
theorem dO_down : dO x g mod (dP a w) (dV (dP a w)) = fun i => downAt a w x g mod (i 0) (i 1) := by
  funext i
  obtain ⟨r, k, rfl⟩ : ∃ (r : Fin 16384) (k : Fin 2048), i = ix2 r k := ⟨i 0, i 1, eq_ix2 i⟩
  refine (dO_at x g mod _ _ r k ⟨r.val / 4096, by omega⟩ ⟨r.val % 4096, by omega⟩ rfl rfl).trans ?_
  rw [dV_at]
  simp only [dP_at]
  have e : (⟨r.val / 4096 * 4096 + r.val % 4096, by omega⟩ : Fin 16384) = r := Fin.ext (by show r.val / 4096 * 4096 + r.val % 4096 = r.val; omega)
  simp only [e]
  rfl

end

end Cert.Ffn
-- ==== Proof.Mix.lean ====
/- The mixing of the two attentions: the kernel's two results and the reference's are one expression each of the arguments. -/
module

public import proofs.«01_k».proof.Proof.Down
public import proofs.«01_k».proof.Proof.Gen.MixIdeal.Value
public import proofs.«01_k».proof.Proof.Gen.MixRefIdeal.Run
public import Idealize.ShloMosaic.Lib.Pipeline.ReadBack

@[expose] public section

set_option maxRecDepth 16384

noncomputable section

namespace Cert.Ffn

open Idealize Idealize.ShloMosaic Idealize.ShloMosaic.TcCoe Finset

/-- The two gated attentions added. -/
def gated (za zb oa ob : EReal) : EReal := Ideal.logistic za * oa + Ideal.logistic zb * ob

/-- A row of the stream with a normalised, gated product added. -/
def addBack (x gt g y : Fin 2048 → EReal) (k : Fin 2048) : EReal := x k + gt k * normed y (g k) k

/-- A normalised row, scaled and shifted. -/
def modulated (x g sc sh : Fin 2048 → EReal) (k : Fin 2048) : EReal :=
  normed x (g k) k * (1 + sc k) + sh k

section
open Cert.MixIdeal Cert.MixIdeal.Gen

section
variable (x0 x1 x2 x3 : Vec Ideal S512x2048 .bf16) (x4 : Vec Ideal S2048x2048 .bf16) (x5 : Vec Ideal S512x2048 .f32) (x6 x7 : Vec Ideal S1x2048 .f32) (x8 : Vec Ideal S1x6x2048 .f32)

/-- A row of the first result's block. -/
def rowB (R : Fin 512) : Fin 2048 → EReal :=
  addBack (fun k => x5 (ix2 R k)) (fun k => x8 (ix3 0 2 k)) (fun k => x6 (ix2 0 k))
    (fun k => ∑ j, gated (x2 (ix2 R j)) (x3 (ix2 R j)) (x0 (ix2 R j)) (x1 (ix2 R j)) * x4 (ix2 j k))

/-- A row of the second result's block. -/
def rowH (R : Fin 512) : Fin 2048 → EReal :=
  modulated (rowB x0 x1 x2 x3 x4 x5 x6 x8 R) (fun k => x7 (ix2 0 k)) (fun k => x8 (ix3 0 4 k)) (fun k => x8 (ix3 0 3 k))

/-- The upper half of the first result's block. -/
theorem upper_at (R : Fin 256) (k : Fin 2048) :
    (k0_pay9 x0 x1 x2 x3 x4 x5 x6 x7 x8 (ix2 R k) : EReal) = rowB x0 x1 x2 x3 x4 x5 x6 x8 ⟨R.val, by omega⟩ k := by
  pointwise [k0_pay9, k0_pay2]
  rfl

/-- The lower half of the first result's block. -/
theorem lower_at (R : Fin 256) (k : Fin 2048) :
    (k0_pay6 (k0_pay10 x0 x1 x2 x3 x4 x5 x6 x7 x8) (k0_pay11 x0 x1 x2 x3 x4 x5 x6 x7 x8) (View.ld x1 r0_6) (View.ld x4 r0_1) (View.ld x5 r0_6) (View.ld x8 r0_2) (View.ld x6 r0_3) (ix2 R k) : EReal)
      = rowB x0 x1 x2 x3 x4 x5 x6 x8 ⟨256 + R.val, by omega⟩ k := by
  pointwise [k0_pay6, k0_pay10, k0_pay11, k0_pay4, k0_pay5]
  rfl

end

/-- The second result's upper block from the first's. -/
theorem upperH_at (v : FVec Ideal S256x2048 .f32) (x7 : Vec Ideal S1x2048 .f32) (x8 : Vec Ideal S1x6x2048 .f32) (R : Fin 256) (k : Fin 2048) :
    (k0_pay3 v (View.ld x7 r0_3) (View.ld x8 r0_4) (View.ld x8 r0_5) (ix2 R k) : EReal)
      = modulated (fun k => v (ix2 R k)) (fun k => x7 (ix2 0 k)) (fun k => x8 (ix3 0 4 k)) (fun k => x8 (ix3 0 3 k)) k := by
  pointwise [k0_pay3]
  rfl

/-- The second result's lower block from the first's and its mean squares. -/
theorem lowerH_at (v : FVec Ideal S256x2048 .f32) (u : FVec Ideal S256x1 .f32) (x7 : Vec Ideal S1x2048 .f32) (x8 : Vec Ideal S1x6x2048 .f32) (R : Fin 256) (k : Fin 2048)
    (hu : (u (ix2 R 0) : EReal) = Ideal.div (∑ j, (v (ix2 R j) : EReal) * v (ix2 R j)) (Ideal.ofBits .f32 0x45000000#32) + Ideal.ofBits .f32 0x358637BD#32) :
    (k0_pay1 v (k0_pay7 (View.ld x7 r0_3)) u (View.ld x8 r0_4) (View.ld x8 r0_5) (ix2 R k) : EReal)
      = modulated (fun k => v (ix2 R k)) (fun k => x7 (ix2 0 k)) (fun k => x8 (ix3 0 4 k)) (fun k => x8 (ix3 0 3 k)) k := by
  pointwise [k0_pay1, k0_pay7]
  rw [hu]
  rfl

/-- The mean squares of the lower half. -/
theorem meansq_at (v69 v72 : FVec Ideal S256x2048 .f32) (v73 : Vec Ideal S256x2048 .bf16) (v78 : Vec Ideal S2048x2048 .bf16) (v81 : Vec Ideal S256x2048 .f32)
    (v82 : Vec Ideal S1x1x2048 .f32) (v84 : Vec Ideal S1x2048 .f32) (R : Fin 256) :
    (k0_pay8 v69 v72 v73 v78 v81 v82 v84 (ix2 R 0) : EReal)
      = Ideal.div (∑ j, (k0_pay6 v69 v72 v73 v78 v81 v82 v84 (ix2 R j) : EReal) * k0_pay6 v69 v72 v73 v78 v81 v82 v84 (ix2 R j)) (Ideal.ofBits .f32 0x45000000#32)
        + Ideal.ofBits .f32 0x358637BD#32 := by
  unfold k0_pay8
  generalize k0_pay6 v69 v72 v73 v78 v81 v82 v84 = v
  pointwise []

section
variable (x0 x1 x2 x3 : Vec Ideal S512x2048 .bf16) (x4 : Vec Ideal S2048x2048 .bf16) (x5 : Vec Ideal S512x2048 .f32) (x6 x7 : Vec Ideal S1x2048 .f32) (x8 : Vec Ideal S1x6x2048 .f32)

/-- The first result's block. -/
theorem blockB : out0_9 (F := Ideal) x0 x1 x2 x3 x4 x5 x6 x7 x8 = fun y => rowB x0 x1 x2 x3 x4 x5 x6 x8 (y 0) (y 1) := by
  funext y
  unfold out0_9
  refine (congrArg (fun L => View.canon L y) (List.append_nil _).symm).trans ?_
  refine View.canon_append_of_piecesOf (Val := Elt Ideal) (fun y => rowB x0 x1 x2 x3 x4 x5 x6 x8 (y 0) (y 1) : Vec Ideal S512x2048 .f32) [] _ ?_ y (cover0_9 _ _ y)
  refine ⟨fun z => ?_, fun z => ?_, trivial⟩
  · obtain ⟨R, k, rfl⟩ : ∃ (R : Fin 256) (k : Fin 2048), z = ix2 R k := ⟨z 0, z 1, eq_ix2 z⟩
    refine (lower_at x0 x1 x2 x3 x4 x5 x6 x7 x8 R k).trans (congrArg₂ (rowB x0 x1 x2 x3 x4 x5 x6 x8) (Fin.ext ?_) (Fin.ext ?_))
    · show 256 + R.val = 256 + 1 * R.val; omega
    · show k.val = 0 + 1 * k.val; omega
  · obtain ⟨R, k, rfl⟩ : ∃ (R : Fin 256) (k : Fin 2048), z = ix2 R k := ⟨z 0, z 1, eq_ix2 z⟩
    refine (upper_at x0 x1 x2 x3 x4 x5 x6 x7 x8 R k).trans (congrArg₂ (rowB x0 x1 x2 x3 x4 x5 x6 x8) (Fin.ext ?_) (Fin.ext ?_))
    · show R.val = 0 + 1 * R.val; omega
    · show k.val = 0 + 1 * k.val; omega

/-- The second result's block. -/
theorem blockH : out0_10 (F := Ideal) x0 x1 x2 x3 x4 x5 x6 x7 x8 = fun y => rowH x0 x1 x2 x3 x4 x5 x6 x7 x8 (y 0) (y 1) := by
  funext y
  unfold out0_10
  refine (congrArg (fun L => View.canon L y) (List.append_nil _).symm).trans ?_
  refine View.canon_append_of_piecesOf (Val := Elt Ideal) (fun y => rowH x0 x1 x2 x3 x4 x5 x6 x7 x8 (y 0) (y 1) : Vec Ideal S512x2048 .bf16) [] _ ?_ y (cover0_10 _ _ y)
  refine ⟨fun z => ?_, fun z => ?_, trivial⟩
  · obtain ⟨R, k, rfl⟩ : ∃ (R : Fin 256) (k : Fin 2048), z = ix2 R k := ⟨z 0, z 1, eq_ix2 z⟩
    refine (lowerH_at _ _ x7 x8 R k (meansq_at _ _ _ _ _ _ _ R)).trans ?_
    simp only [lower_at]
    refine (congrArg₂ (rowH x0 x1 x2 x3 x4 x5 x6 x7 x8) (Fin.ext ?_) (Fin.ext ?_))
    · show 256 + R.val = 256 + 1 * R.val; omega
    · show k.val = 0 + 1 * k.val; omega
  · obtain ⟨R, k, rfl⟩ : ∃ (R : Fin 256) (k : Fin 2048), z = ix2 R k := ⟨z 0, z 1, eq_ix2 z⟩
    refine (upperH_at _ x7 x8 R k).trans ?_
    simp only [upper_at]
    refine (congrArg₂ (rowH x0 x1 x2 x3 x4 x5 x6 x7 x8) (Fin.ext ?_) (Fin.ext ?_))
    · show R.val = 0 + 1 * R.val; omega
    · show k.val = 0 + 1 * k.val; omega

end

/-- A row of the first result: the stream and the gated, normalised product. -/
def mixAt (oa ob : S16384x2048.Idx → EReal) (z : S16384x8192.Idx → EReal) (w : S2048x2048.Idx → EReal) (x : S16384x2048.Idx → EReal)
    (g : S2048.Idx → EReal) (mod : S4x6x2048.Idx → EReal) (r : Fin 16384) : Fin 2048 → EReal :=
  addBack (fun k => x (ix2 r k)) (fun k => mod (ix3 ⟨r.val / 4096, by omega⟩ 2 k)) (fun k => g (ix1 k))
    (fun k => ∑ j : Fin 2048, gated (z (ix2 r ⟨4096 + j.val, by omega⟩)) (z (ix2 r ⟨6144 + j.val, by omega⟩)) (oa (ix2 r j)) (ob (ix2 r j)) * w (ix2 j k))

/-- A row of the second result: the first, normalised, scaled and shifted. -/
def mixHAt (oa ob : S16384x2048.Idx → EReal) (z : S16384x8192.Idx → EReal) (w : S2048x2048.Idx → EReal) (x : S16384x2048.Idx → EReal)
    (g g2 : S2048.Idx → EReal) (mod : S4x6x2048.Idx → EReal) (r : Fin 16384) : Fin 2048 → EReal :=
  modulated (mixAt oa ob z w x g mod r) (fun k => g2 (ix1 k)) (fun k => mod (ix3 ⟨r.val / 4096, by omega⟩ 4 k)) (fun k => mod (ix3 ⟨r.val / 4096, by omega⟩ 3 k))

variable (m : (ℓ : Loc nD τ sig) → Buf (Elt Ideal) ℓ) (c : Dev nD) (t : Fin cfg0.N)

/-- The first attention's results. -/
def C0 : S16384x2048.Idx → EReal := m ((c : Thread nD τ).loc main_arg0)

/-- The second attention's results. -/
def C1 : S16384x2048.Idx → EReal := m ((c : Thread nD τ).loc main_arg1)

/-- The projections, the gates in the upper half. -/
def C2 : S16384x8192.Idx → EReal := m ((c : Thread nD τ).loc main_arg2)

/-- The weights of the product. -/
def C3 : S2048x2048.Idx → EReal := m ((c : Thread nD τ).loc main_arg3)

/-- The stream. -/
def C4 : S16384x2048.Idx → EReal := m ((c : Thread nD τ).loc main_arg4)

/-- The weights of the first normalisation. -/
def C5 : S2048.Idx → EReal := m ((c : Thread nD τ).loc main_arg5)

/-- The weights of the second normalisation. -/
def C6 : S2048.Idx → EReal := m ((c : Thread nD τ).loc main_arg6)

/-- The modulations of each sequence. -/
def C7 : S4x6x2048.Idx → EReal := m ((c : Thread nD τ).loc main_arg7)

/-- The index maps of the windows at every grid point. -/
theorem idx_mix : ∀ t : Fin grid0.N, win0_0.index t = ![t.val, 0] ∧ win0_1.index t = ![t.val, 0] ∧ win0_2.index t = ![t.val, 2]
    ∧ win0_3.index t = ![t.val, 3] ∧ win0_4.index t = ![0, 0] ∧ win0_5.index t = ![t.val, 0] ∧ win0_6.index t = ![0, 0]
    ∧ win0_7.index t = ![0, 0] ∧ win0_8.index t = ![t.val / 8, 0, 0] ∧ win0_9.index t = ![t.val, 0] ∧ win0_10.index t = ![t.val, 0] := by decide +kernel

/-- Every grid point is one of 32. -/
theorem mix_lt : t.val < 32 := lt_of_lt_of_le t.isLt (by decide)

/-- The product's weights as the region finds them. -/
theorem mw_at (j k : Fin 2048) : (V m c main_v0 : Vec Ideal S2048x2048 .bf16) (ix2 j k) = C3 m c (ix2 j k) := by
  unfold V
  after_reads_at
  rfl

/-- The weights of the first normalisation as the region finds them. -/
theorem mg_at (k : Fin 2048) : (V m c main_v1 : Vec Ideal S1x2048 .f32) (ix2 0 k) = C5 m c (ix1 k) := by
  unfold V
  after_reads_at
  rfl

/-- The weights of the second normalisation as the region finds them. -/
theorem mh_at (k : Fin 2048) : (V m c main_v2 : Vec Ideal S1x2048 .f32) (ix2 0 k) = C6 m c (ix1 k) := by
  unfold V
  after_reads_at
  rfl

/-- The window of the first attention at an index. -/
theorem m0_at (R : Fin 512) (k : Fin 2048) : (iblk m c 0 t (ix2 R k) : EReal) = C0 m c (ix2 ⟨512 * t.val + R.val, by have := mix_lt t; omega⟩ k) := by
  have ht := mix_lt t
  have h : (iblk m c 0 t (ix2 R k) : EReal) = (V m c main_arg0 : Vec Ideal S16384x2048 .bf16) (ix2 ⟨512 * t.val + R.val, by have := mix_lt t; omega⟩ k) := by
    blk_ext [iblk, (idx_mix t).1]
  rw [h, V_main_arg0]
  rfl

/-- The window of the second attention at an index. -/
theorem m1_at (R : Fin 512) (k : Fin 2048) : (iblk m c 1 t (ix2 R k) : EReal) = C1 m c (ix2 ⟨512 * t.val + R.val, by have := mix_lt t; omega⟩ k) := by
  have ht := mix_lt t
  have h : (iblk m c 1 t (ix2 R k) : EReal) = (V m c main_arg1 : Vec Ideal S16384x2048 .bf16) (ix2 ⟨512 * t.val + R.val, by have := mix_lt t; omega⟩ k) := by
    blk_ext [iblk, (idx_mix t).2.1]
  rw [h, V_main_arg1]
  rfl

/-- The window of the first gate at an index. -/
theorem m2_at (R : Fin 512) (k : Fin 2048) : (iblk m c 2 t (ix2 R k) : EReal) = C2 m c (ix2 ⟨512 * t.val + R.val, by have := mix_lt t; omega⟩ ⟨4096 + k.val, by omega⟩) := by
  have ht := mix_lt t
  have h : (iblk m c 2 t (ix2 R k) : EReal) = (V m c main_arg2 : Vec Ideal S16384x8192 .bf16) (ix2 ⟨512 * t.val + R.val, by have := mix_lt t; omega⟩ ⟨4096 + k.val, by omega⟩) := by
    blk_ext [iblk, (idx_mix t).2.2.1]
  rw [h, V_main_arg2]
  rfl

/-- The window of the second gate at an index. -/
theorem m3_at (R : Fin 512) (k : Fin 2048) : (iblk m c 3 t (ix2 R k) : EReal) = C2 m c (ix2 ⟨512 * t.val + R.val, by have := mix_lt t; omega⟩ ⟨6144 + k.val, by omega⟩) := by
  have ht := mix_lt t
  have h : (iblk m c 3 t (ix2 R k) : EReal) = (V m c main_arg2 : Vec Ideal S16384x8192 .bf16) (ix2 ⟨512 * t.val + R.val, by have := mix_lt t; omega⟩ ⟨6144 + k.val, by omega⟩) := by
    blk_ext [iblk, (idx_mix t).2.2.2.1]
  rw [h, V_main_arg2]
  rfl

/-- The window of the product's weights at an index. -/
theorem m4_at (j k : Fin 2048) : (iblk m c 4 t (ix2 j k) : EReal) = C3 m c (ix2 j k) := by
  have ht := mix_lt t
  have h : (iblk m c 4 t (ix2 j k) : EReal) = (V m c main_v0 : Vec Ideal S2048x2048 .bf16) (ix2 j k) := by
    blk_ext [iblk, (idx_mix t).2.2.2.2.1]
  rw [h, mw_at]

/-- The window of the stream at an index. -/
theorem m5_at (R : Fin 512) (k : Fin 2048) : (iblk m c 5 t (ix2 R k) : EReal) = C4 m c (ix2 ⟨512 * t.val + R.val, by have := mix_lt t; omega⟩ k) := by
  have ht := mix_lt t
  have h : (iblk m c 5 t (ix2 R k) : EReal) = (V m c main_arg4 : Vec Ideal S16384x2048 .f32) (ix2 ⟨512 * t.val + R.val, by have := mix_lt t; omega⟩ k) := by
    blk_ext [iblk, (idx_mix t).2.2.2.2.2.1]
  rw [h, V_main_arg4]
  rfl

/-- The window of the first normalisation's weights at an index. -/
theorem m6_at (k : Fin 2048) : (iblk m c 6 t (ix2 0 k) : EReal) = C5 m c (ix1 k) := by
  have ht := mix_lt t
  have h : (iblk m c 6 t (ix2 0 k) : EReal) = (V m c main_v1 : Vec Ideal S1x2048 .f32) (ix2 0 k) := by
    blk_ext [iblk, (idx_mix t).2.2.2.2.2.2.1]
  rw [h, mg_at]

/-- The window of the second normalisation's weights at an index. -/
theorem m7_at (k : Fin 2048) : (iblk m c 7 t (ix2 0 k) : EReal) = C6 m c (ix1 k) := by
  have ht := mix_lt t
  have h : (iblk m c 7 t (ix2 0 k) : EReal) = (V m c main_v2 : Vec Ideal S1x2048 .f32) (ix2 0 k) := by
    blk_ext [iblk, (idx_mix t).2.2.2.2.2.2.2.1]
  rw [h, mh_at]

/-- The window of the modulations at an index. -/
theorem m8_at (q : Fin 6) (k : Fin 2048) : (iblk m c 8 t (ix3 0 q k) : EReal) = C7 m c (ix3 ⟨t.val / 8, by have := mix_lt t; omega⟩ q k) := by
  have ht := mix_lt t
  have h : (iblk m c 8 t (ix3 0 q k) : EReal) = (V m c main_arg7 : Vec Ideal S4x6x2048 .f32) (ix3 ⟨t.val / 8, by omega⟩ q k) := by
    blk_ext [iblk, (idx_mix t).2.2.2.2.2.2.2.2.1]
  rw [h, V_main_arg7]
  rfl

/-- The kernel's first result after the run. -/
theorem mix_out : ((dats m 0 c).arrAt 9 cfg0.N : Vec Ideal S16384x2048 .f32) = fun i => mixAt (C0 m c) (C1 m c) (C2 m c) (C3 m c) (C4 m c) (C5 m c) (C7 m c) (i 0) (i 1) := by
  refine (dats m 0 c).arrAt_eq_of_covers 9 _ (by decide +kernel) fun t hf' y => ?_
  blk_simp
  rw [after0_9, blockB]
  have ht := mix_lt t
  have e := (idx_mix t).2.2.2.2.2.2.2.2.2.1
  obtain ⟨R, k, rfl⟩ : ∃ (R : Fin 512) (k : Fin 2048), y = ix2 R k := ⟨y 0, y 1, eq_ix2 y⟩
  have e0 : win0_9.index t 0 = t.val := congrFun e 0
  have e1 : win0_9.index t 1 = 0 := congrFun e 1
  have hR := R.isLt
  have hq : (512 * t.val + R.val) / 4096 = t.val / 8 := by omega
  have h0 : ((win0_9.blk t).view.emb (ix2 R k) 0 : Fin 16384) = (⟨512 * t.val + R.val, by omega⟩ : Fin 16384) := Fin.ext (by
    show win0_9.index t 0 * 512 + 1 * R.val = 512 * t.val + R.val
    omega)
  have h1 : ((win0_9.blk t).view.emb (ix2 R k) 1 : Fin 2048) = k := Fin.ext (by
    show win0_9.index t 1 * 2048 + 1 * k.val = k.val
    omega)
  refine Eq.trans ?_ (congrArg₂ (mixAt (C0 m c) (C1 m c) (C2 m c) (C3 m c) (C4 m c) (C5 m c) (C7 m c)) h0 h1).symm
  show rowB (iblk m c 0 t) (iblk m c 1 t) (iblk m c 2 t) (iblk m c 3 t) (iblk m c 4 t) (iblk m c 5 t) (iblk m c 6 t) (iblk m c 8 t) R k = _
  simp only [rowB, mixAt, m0_at, m1_at, m2_at, m3_at, m4_at, m5_at, m6_at, m7_at, m8_at, hq]

/-- The kernel's second result after the run. -/
theorem mixH_out : ((dats m 0 c).arrAt 10 cfg0.N : Vec Ideal S16384x2048 .bf16) = fun i => mixHAt (C0 m c) (C1 m c) (C2 m c) (C3 m c) (C4 m c) (C5 m c) (C6 m c) (C7 m c) (i 0) (i 1) := by
  refine (dats m 0 c).arrAt_eq_of_covers 10 _ (by decide +kernel) fun t hf' y => ?_
  blk_simp
  rw [after0_10, blockH]
  have ht := mix_lt t
  have e := (idx_mix t).2.2.2.2.2.2.2.2.2.2
  obtain ⟨R, k, rfl⟩ : ∃ (R : Fin 512) (k : Fin 2048), y = ix2 R k := ⟨y 0, y 1, eq_ix2 y⟩
  have e0 : win0_10.index t 0 = t.val := congrFun e 0
  have e1 : win0_10.index t 1 = 0 := congrFun e 1
  have hR := R.isLt
  have hq : (512 * t.val + R.val) / 4096 = t.val / 8 := by omega
  have h0 : ((win0_10.blk t).view.emb (ix2 R k) 0 : Fin 16384) = (⟨512 * t.val + R.val, by omega⟩ : Fin 16384) := Fin.ext (by
    show win0_10.index t 0 * 512 + 1 * R.val = 512 * t.val + R.val
    omega)
  have h1 : ((win0_10.blk t).view.emb (ix2 R k) 1 : Fin 2048) = k := Fin.ext (by
    show win0_10.index t 1 * 2048 + 1 * k.val = k.val
    omega)
  refine Eq.trans ?_ (congrArg₂ (mixHAt (C0 m c) (C1 m c) (C2 m c) (C3 m c) (C4 m c) (C5 m c) (C6 m c) (C7 m c)) h0 h1).symm
  show rowH (iblk m c 0 t) (iblk m c 1 t) (iblk m c 2 t) (iblk m c 3 t) (iblk m c 4 t) (iblk m c 5 t) (iblk m c 6 t) (iblk m c 7 t) (iblk m c 8 t) R k = _
  simp only [rowH, rowB, mixHAt, mixAt, m0_at, m1_at, m2_at, m3_at, m4_at, m5_at, m6_at, m7_at, m8_at, hq]

end

section
open Cert.MixRefIdeal Cert.MixRefIdeal.Gen

variable (a0 a1 : Vec Ideal S16384x2048 .bf16) (a2 : Vec Ideal S16384x8192 .bf16) (a3 : Vec Ideal S2048x2048 .f32) (a4 : Vec Ideal S16384x2048 .f32)
  (a5 a6 : Vec Ideal S2048 .f32) (a7 : Vec Ideal S4x6x2048 .f32)

/-- The reference's gated product. -/
def gP : FVec Ideal S4x4096x2048 .f32 :=
  shapeCast _ (Host.dotGeneral dot_S16384x2048_S2048x2048_S16384x2048_1_0_0_1_n_n none (φ₂ := .f32) (addf (mulf (extractStridedSlice S16384x2048 ![0, 0] (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extf .f32 (extractStridedSlice S16384x4096 ![0, 4096] a2 slices_S16384x8192_S16384x4096_0_4096) bitsLt_bf16_f32))))) slices_S16384x4096_S16384x2048_0_0) (extf .f32 a0 bitsLt_bf16_f32)) (mulf (extractStridedSlice S16384x2048 ![0, 2048] (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extf .f32 (extractStridedSlice S16384x4096 ![0, 4096] a2 slices_S16384x8192_S16384x4096_0_4096) bitsLt_bf16_f32))))) slices_S16384x4096_S16384x2048_0_2048) (extf .f32 a1 bitsLt_bf16_f32))) a3) shapeCasts_S16384x2048_S4x4096x2048

/-- The reference's mean square of each row. -/
def gV (y : FVec Ideal S4x4096x2048 .f32) : FVec Ideal S4x4096x1 .f32 :=
  Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))

/-- The reference's first result, from the product and its mean squares. -/
def gX (y : FVec Ideal S4x4096x2048 .f32) (v : FVec Ideal S4x4096x1 .f32) : FVec Ideal S4x4096x2048 .f32 :=
  addf (shapeCast _ a4 shapeCasts_S16384x2048_S4x4096x2048) (mulf (broadcastInDim S4x4096x2048 ![0, 1, 2] bcast_S4x1x2048_S4x4096x2048_0_1_2 (broadcastInDim S4x1x2048 ![0, 2] bcast_S4x2048_S4x1x2048_0_2 (shapeCast _ (extractStridedSlice S4x1x2048 ![0, 2, 0] a7 slices_S4x6x2048_S4x1x2048_0_2_0) shapeCasts_S4x1x2048_S4x2048))) (mulf (mulf y (broadcastInDim S4x4096x2048 ![0, 1, 2] bcast_S4x4096x1_S4x4096x2048_0_1_2 (Host.rsqrt (addf v (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a5))))

/-- The reference's first result in its final shape. -/
def gO (x : FVec Ideal S4x4096x2048 .f32) : FVec Ideal S16384x2048 .f32 :=
  shapeCast _ x shapeCasts_S4x4096x2048_S16384x2048

/-- The reference's second result, from the first and its mean squares. -/
def gH (x : FVec Ideal S4x4096x2048 .f32) (u : FVec Ideal S4x4096x1 .f32) : FVec Ideal S16384x2048 .bf16 :=
  truncf .bf16 (shapeCast _ (addf (mulf (mulf (mulf x (broadcastInDim S4x4096x2048 ![0, 1, 2] bcast_S4x4096x1_S4x4096x2048_0_1_2 (Host.rsqrt (addf u (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a6))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (shapeCast _ (extractStridedSlice S4x1x2048 ![0, 4, 0] a7 slices_S4x6x2048_S4x1x2048_0_4_0) shapeCasts_S4x1x2048_S4x2048))))) (broadcastInDim S4x4096x2048 ![0, 1, 2] bcast_S4x1x2048_S4x4096x2048_0_1_2 (broadcastInDim S4x1x2048 ![0, 2] bcast_S4x2048_S4x1x2048_0_2 (shapeCast _ (extractStridedSlice S4x1x2048 ![0, 3, 0] a7 slices_S4x6x2048_S4x1x2048_0_3_0) shapeCasts_S4x1x2048_S4x2048)))) shapeCasts_S4x4096x2048_S16384x2048) bitsLt_bf16_f32

/-- The reference's product at an index. -/
theorem gP_at (b : Fin 4) (R : Fin 4096) (k : Fin 2048) :
    (gP a0 a1 a2 a3 (ix3 b R k) : EReal) = ∑ j : Fin 2048, gated (a2 (ix2 ⟨b.val * 4096 + R.val, by omega⟩ ⟨4096 + j.val, by omega⟩))
      (a2 (ix2 ⟨b.val * 4096 + R.val, by omega⟩ ⟨6144 + j.val, by omega⟩)) (a0 (ix2 ⟨b.val * 4096 + R.val, by omega⟩ j)) (a1 (ix2 ⟨b.val * 4096 + R.val, by omega⟩ j)) * a3 (ix2 j k) := by
  pointwise [gP]
  refine Finset.sum_congr rfl fun j _ => ?_
  have e : (⟨4096 + (2048 + j.val), by omega⟩ : Fin 8192) = ⟨6144 + j.val, by omega⟩ := Fin.ext (by show 4096 + (2048 + j.val) = 6144 + j.val; omega)
  rw [e]
  rfl

/-- The reference's mean square at an index. -/
theorem gV_at (y : FVec Ideal S4x4096x2048 .f32) (b : Fin 4) (R : Fin 4096) :
    (gV y (ix3 b R 0) : EReal) = Ideal.div (∑ k, (y (ix3 b R k) : EReal) * y (ix3 b R k)) (Ideal.ofBits .f32 0x45000000#32) := by
  pointwise [gV]

/-- The reference's first result at an index, from the product and its mean squares. -/
theorem gX_at (y : FVec Ideal S4x4096x2048 .f32) (v : FVec Ideal S4x4096x1 .f32) (b : Fin 4) (R : Fin 4096) (k : Fin 2048)
    (hv : (v (ix3 b R 0) : EReal) = Ideal.div (∑ k, (y (ix3 b R k) : EReal) * y (ix3 b R k)) (Ideal.ofBits .f32 0x45000000#32)) :
    (gX a4 a5 a7 y v (ix3 b R k) : EReal) = addBack (fun k => a4 (ix2 ⟨b.val * 4096 + R.val, by omega⟩ k)) (fun k => a7 (ix3 b 2 k)) (fun k => a5 (ix1 k))
      (fun k => y (ix3 b R k)) k := by
  pointwise [gX]
  rw [hv]
  rfl

/-- The reference's first result in its final shape, at an index. -/
theorem gO_at (x : FVec Ideal S4x4096x2048 .f32) (r : Fin 16384) (k : Fin 2048) :
    (gO x (ix2 r k) : EReal) = x (ix3 ⟨r.val / 4096, by omega⟩ ⟨r.val % 4096, by omega⟩ k) := by
  pointwise [gO]

/-- The reference's second result at an index, from the first and its mean squares. -/
theorem gH_at (x : FVec Ideal S4x4096x2048 .f32) (u : FVec Ideal S4x4096x1 .f32) (r : Fin 16384) (k : Fin 2048)
    (hu : ∀ (b : Fin 4) (R : Fin 4096), (u (ix3 b R 0) : EReal) = Ideal.div (∑ k, (x (ix3 b R k) : EReal) * x (ix3 b R k)) (Ideal.ofBits .f32 0x45000000#32)) :
    (gH a6 a7 x u (ix2 r k) : EReal) = modulated (fun k => x (ix3 ⟨r.val / 4096, by omega⟩ ⟨r.val % 4096, by omega⟩ k)) (fun k => a6 (ix1 k))
      (fun k => a7 (ix3 ⟨r.val / 4096, by omega⟩ 4 k)) (fun k => a7 (ix3 ⟨r.val / 4096, by omega⟩ 3 k)) k := by
  pointwise [gH]
  rw [hu]
  rfl

/-- The reference's first result, unshaped, in the kernel's expression. -/
theorem gX_row (r : Fin 16384) (k : Fin 2048) :
    (gX a4 a5 a7 (gP a0 a1 a2 a3) (gV (gP a0 a1 a2 a3)) (ix3 ⟨r.val / 4096, by omega⟩ ⟨r.val % 4096, by omega⟩ k) : EReal) = mixAt a0 a1 a2 a3 a4 a5 a7 r k := by
  rw [gX_at a4 a5 a7 _ _ _ _ _ (gV_at _ _ _)]
  simp only [gP_at]
  have e : (⟨r.val / 4096 * 4096 + r.val % 4096, by omega⟩ : Fin 16384) = r := Fin.ext (by show r.val / 4096 * 4096 + r.val % 4096 = r.val; omega)
  simp only [e]
  rfl

/-- The reference's first result is the kernel's expression. -/
theorem gO_mix : gO (gX a4 a5 a7 (gP a0 a1 a2 a3) (gV (gP a0 a1 a2 a3))) = fun i => mixAt a0 a1 a2 a3 a4 a5 a7 (i 0) (i 1) := by
  funext i
  obtain ⟨r, k, rfl⟩ : ∃ (r : Fin 16384) (k : Fin 2048), i = ix2 r k := ⟨i 0, i 1, eq_ix2 i⟩
  exact (gO_at _ r k).trans (gX_row a0 a1 a2 a3 a4 a5 a7 r k)

/-- The reference's second result is the kernel's expression. -/
theorem gH_mix : gH a6 a7 (gX a4 a5 a7 (gP a0 a1 a2 a3) (gV (gP a0 a1 a2 a3))) (gV (gX a4 a5 a7 (gP a0 a1 a2 a3) (gV (gP a0 a1 a2 a3))))
    = fun i => mixHAt a0 a1 a2 a3 a4 a5 a6 a7 (i 0) (i 1) := by
  funext i
  obtain ⟨r, k, rfl⟩ : ∃ (r : Fin 16384) (k : Fin 2048), i = ix2 r k := ⟨i 0, i 1, eq_ix2 i⟩
  refine (gH_at a6 a7 _ _ r k fun b R => gV_at _ b R).trans ?_
  simp only [gX_row]
  rfl

end

end Cert.Ffn
-- ==== Proof.Up.lean ====
/- The body of the feed-forward part's first product: what a grid point leaves in its block of results and in its scratch. -/
module

public import proofs.«01_k».proof.Proof.Gen.UpIdeal.Value
public import Idealize.ShloMosaic.Lib.Pointwise
public import Idealize.ShloMosaic.Lib.Pipeline.ReadBack
public import Idealize.ShloMosaic.Lib.WritesUnit

@[expose] public section

set_option maxRecDepth 16384

noncomputable section

namespace Cert.Ffn

open Idealize Idealize.ShloMosaic Idealize.ShloMosaic.TcCoe Finset

/-- An even row of the pairs, in tiles of sixteen. -/
theorem even_row (q : ℕ) : 2 * q / 16 * 16 + 2 * q % 16 = 2 * q := by omega
/-- An odd row of the pairs, in tiles of sixteen. -/
theorem odd_row (q : ℕ) : (2 * q + 1) / 16 * 16 + (2 * q + 1) % 16 = 2 * q + 1 := by omega
/-- Half of an even row. -/
theorem even_half (q : ℕ) : 2 * q / 2 = q := by omega
/-- Half of an odd row, rounded down. -/
theorem odd_half (q : ℕ) : (2 * q + 1) / 2 = q := by omega
/-- An even row's parity. -/
theorem even_bit (q : ℕ) : 2 * q % 2 = 0 := by omega
/-- An odd row's parity. -/
theorem odd_bit (q : ℕ) : ((2 * q + 1) % 2 = 0) = False := by simp
/-- An even row's parity within its tile. -/
theorem even_bit16 (q : ℕ) : 2 * q % 16 % 2 = 0 := by omega
/-- An odd row's parity within its tile. -/
theorem odd_bit16 (q : ℕ) : ((2 * q + 1) % 16 % 2 = 0) = False := by
  have : (2 * q + 1) % 16 % 2 = 1 := by omega
  simp [this]

/-- Row `q` of eight rows over 1024 rows. -/
def tap (a : Vec Ideal Cert.UpIdeal.S8x256 .bf16) (u : Vec Ideal Cert.UpIdeal.S1024x256 .bf16) (q : ℕ) (k : Fin 256) : EReal :=
  if h : q < 8 then a (ix2 ⟨q, h⟩ k) else if h' : q - 8 < 1024 then u (ix2 ⟨q - 8, h'⟩ k) else 0

/-- Three rows against three weights, and a bias. -/
def conv3 (x0 x1 x2 w0 w1 w2 b : EReal) : EReal := x2 * w2 + (x1 * w1 + x0 * w0) + b

/-- A gate and a value. -/
def act (g v : EReal) : EReal :=
  Ideal.div (g * v) (1 + Ideal.exp2 (g * (Named.named Cert.UpIdeal.κ "nlog2e" 0xBFB8AA3B#32 : Ideal .f32)))

section
open Cert.UpIdeal Cert.UpIdeal.Gen

/-- Row `q` of the joined rows, where it lies. -/
theorem tap_in {a : Vec Ideal Cert.UpIdeal.S8x256 .bf16} {u : Vec Ideal Cert.UpIdeal.S1024x256 .bf16} {q : ℕ} {k : Fin 256} (hq : q < 1032) :
    (if h : q < 8 then a (ix2 ⟨q, h⟩ k) else u (ix2 ⟨q - 8, by omega⟩ k) : EReal) = tap a u q k := by
  unfold tap
  split
  · rfl
  · rw [dif_pos (by omega)]

variable (lo hi : FVec Ideal S1024x256 .bf16) (a b : FVec Ideal Cert.UpIdeal.S8x256 .bf16)
  (g0 v0 g1 v1 g2 v2 gb vb : Vec Ideal S1x256 .f32) (r : Fin 1024) (k : Fin 256)

/-- The entry of the array of pairs at row `q`, the gate's. -/
abbrev evn (x : FVec Ideal S129x16x256 .bf16) (q : ℕ) (hq : q < 1032) (k : Fin 256) : EReal :=
  x (ix3 ⟨2 * q / 16, by omega⟩ ⟨2 * q % 16, by omega⟩ k)

/-- The value's. -/
abbrev odd (x : FVec Ideal S129x16x256 .bf16) (q : ℕ) (hq : q < 1032) (k : Fin 256) : EReal :=
  x (ix3 ⟨(2 * q + 1) / 16, by omega⟩ ⟨(2 * q + 1) % 16, by omega⟩ k)

/-- The joined rows of the gate, within the array of pairs. -/
theorem pay12_evn (q : ℕ) (hq : q < 1032) : evn (k0_pay12 lo hi a b) q hq k = tap a lo q k := by
  rw [← tap_in hq]
  pointwise [k0_pay12]
  simp only [even_row, even_half, even_bit, if_true]

/-- The joined rows of the value, within the array of pairs. -/
theorem pay12_odd (q : ℕ) (hq : q < 1032) : odd (k0_pay12 lo hi a b) q hq k = tap b hi q k := by
  rw [← tap_in hq]
  pointwise [k0_pay12]
  simp only [odd_row, odd_half, odd_bit, if_false]

/-- The first two products of the gate's convolution. -/
theorem pay13_evn (q : ℕ) (hq : q + 1 < 1032) :
    evn (k0_pay13 lo hi a b g1 v1 g0 v0) (q + 1) hq k = tap a lo (q + 1) k * g1 (ix2 0 k) + tap a lo q k * g0 (ix2 0 k) := by
  have h1 : (q + 1 + 1032 - 1) % 1032 = q := by omega
  rw [← pay12_evn lo hi a b k (q + 1) hq, ← pay12_evn lo hi a b k q (by omega)]
  pointwise [k0_pay13]
  simp only [even_row, even_half, even_bit, even_bit16, if_true, h1]

/-- The first two products of the value's convolution. -/
theorem pay13_odd (q : ℕ) (hq : q + 1 < 1032) :
    odd (k0_pay13 lo hi a b g1 v1 g0 v0) (q + 1) hq k = tap b hi (q + 1) k * v1 (ix2 0 k) + tap b hi q k * v0 (ix2 0 k) := by
  have h1 : (q + 1 + 1032 - 1) % 1032 = q := by omega
  rw [← pay12_odd lo hi a b k (q + 1) hq, ← pay12_odd lo hi a b k q (by omega)]
  pointwise [k0_pay13]
  simp only [odd_row, odd_half, odd_bit, odd_bit16, if_false, h1]

/-- The third product, the bias, and the gate times the value. -/
theorem pay15_at (x y : FVec Ideal S129x16x256 .bf16) :
    (k0_pay15 x y v2 (k0_pay14 g2) gb vb (ix2 r k) : EReal)
      = act (evn x (8 + r.val) (by omega) k * g2 (ix2 0 k) + evn y (7 + r.val) (by omega) k + gb (ix2 0 k))
          (odd x (8 + r.val) (by omega) k * v2 (ix2 0 k) + odd y (7 + r.val) (by omega) k + vb (ix2 0 k)) := by
  have hr := r.isLt
  have h1 : (8 + r.val + 1032 - 1) % 1032 = 7 + r.val := by omega
  unfold act
  pointwise [k0_pay15, k0_pay14]
  simp only [even_row, odd_row, even_half, odd_half, even_bit, odd_bit, even_bit16, odd_bit16, if_true, if_false, h1]
  rfl

/-- A place of a chunk's result from the joined rows. -/
theorem chunk_at :
    (k0_pay15 (k0_pay12 lo hi a b) (k0_pay13 lo hi a b g1 v1 g0 v0) v2 (k0_pay14 g2) gb vb (ix2 r k) : EReal)
      = act (conv3 (tap a lo (6 + r.val) k) (tap a lo (7 + r.val) k) (tap a lo (8 + r.val) k) (g0 (ix2 0 k)) (g1 (ix2 0 k)) (g2 (ix2 0 k)) (gb (ix2 0 k)))
          (conv3 (tap b hi (6 + r.val) k) (tap b hi (7 + r.val) k) (tap b hi (8 + r.val) k) (v0 (ix2 0 k)) (v1 (ix2 0 k)) (v2 (ix2 0 k)) (vb (ix2 0 k))) := by
  have hr := r.isLt
  have e : 7 + r.val = 6 + r.val + 1 := by omega
  rw [pay15_at, pay12_evn, pay12_odd]
  simp only [e]
  rw [pay13_evn, pay13_odd]
  rfl

/-- The second chunk's pairs are the first chunk's expression. -/
theorem second_pairs (i : grid0.Coords) (x : Vec Ideal S1024x2048 .bf16) (w v : Vec Ideal S2048x256 .bf16) (T : Vec Ideal S1x8x2x256 .bf16) :
    k0_pay19 (BitVec.ofNat 32 (i 1).val) x w v T = k0_pay12 (k0_pay4 x w) (k0_pay5 x v) (k0_pay6 i T) (k0_pay7 i T) := rfl

/-- The second chunk's kept rows are the first chunk's expression. -/
theorem second_tail (x : Vec Ideal S1024x2048 .bf16) (w v : Vec Ideal S2048x256 .bf16) :
    k0_pay18 x w v = k0_pay11 (k0_pay8 x w) (k0_pay9 x v) := rfl

/-- The second chunk's result is the first chunk's expression. -/
theorem second_out :
    k0_pay1 (k0_pay20 (k0_pay12 lo hi a b) g2 v2) (k0_pay22 (k0_pay12 lo hi a b) g1 v1 g0 v0) (k0_pay23 (k0_pay12 lo hi a b) g1 v1 g0 v0) gb vb
      = k0_pay15 (k0_pay12 lo hi a b) (k0_pay13 lo hi a b g1 v1 g0 v0) v2 (k0_pay14 g2) gb vb := rfl

/-- The gate's product at an index. -/
theorem prod_at (x : Vec Ideal S1024x2048 .bf16) (w : Vec Ideal S2048x256 .bf16) :
    (k0_pay4 x w (ix2 r k) : EReal) = ∑ d : Fin 2048, (x (ix2 r d) * w (ix2 d k) : EReal) := by
  pointwise [k0_pay4]

/-- The value's product at an index. -/
theorem prod_at' (x : Vec Ideal S1024x2048 .bf16) (w : Vec Ideal S2048x256 .bf16) :
    (k0_pay5 x w (ix2 r k) : EReal) = ∑ d : Fin 2048, (x (ix2 r d) * w (ix2 d k) : EReal) := by
  pointwise [k0_pay5]

/-- The kernel's test for a sequence's first block. -/
theorem restart : ∀ i : grid0.Coords, Scalar.cmpi CmpIPredicate.eq
        (Scalar.select
          (Scalar.andi
            (Scalar.xori
              (Scalar.cmpi CmpIPredicate.slt
                (Scalar.remsi (BitVec.ofNat 32 (i 1).val)
                  (Scalar.select (Scalar.cmpi CmpIPredicate.eq 4#32 0#32) 1#32 4#32))
                0#32)
              (Scalar.cmpi CmpIPredicate.slt (Scalar.select (Scalar.cmpi CmpIPredicate.eq 4#32 0#32) 1#32 4#32) 0#32))
            (Scalar.cmpi CmpIPredicate.ne
              (Scalar.remsi (BitVec.ofNat 32 (i 1).val) (Scalar.select (Scalar.cmpi CmpIPredicate.eq 4#32 0#32) 1#32 4#32))
              0#32))
          (Scalar.addi
            (Scalar.remsi (BitVec.ofNat 32 (i 1).val) (Scalar.select (Scalar.cmpi CmpIPredicate.eq 4#32 0#32) 1#32 4#32))
            (Scalar.select (Scalar.cmpi CmpIPredicate.eq 4#32 0#32) 1#32 4#32))
          (Scalar.remsi (BitVec.ofNat 32 (i 1).val) (Scalar.select (Scalar.cmpi CmpIPredicate.eq 4#32 0#32) 1#32 4#32)))
        0#32 = if (i 1).val % 4 = 0 then 1#1 else 0#1 := by
  intro i
  generalize i 1 = x
  revert x
  decide +kernel

/-- The gate's rows from the block before. -/
theorem tail_lo (i : grid0.Coords) (T : Vec Ideal S1x8x2x256 .bf16) (s : Fin 8) :
    (k0_pay6 i T (ix2 s k) : EReal) = if (i 1).val % 4 = 0 then (0 : EReal) else T (ix4 0 s 0 k) := by
  pointwise [k0_pay6]
  rw [restart i]
  split <;> rfl

/-- The value's rows from the block before. -/
theorem tail_hi (i : grid0.Coords) (T : Vec Ideal S1x8x2x256 .bf16) (s : Fin 8) :
    (k0_pay7 i T (ix2 s k) : EReal) = if (i 1).val % 4 = 0 then (0 : EReal) else T (ix4 0 s 1 k) := by
  pointwise [k0_pay7]
  rw [restart i]
  split <;> rfl

/-- The rows a chunk keeps. -/
theorem newtail_at (x : Vec Ideal S1024x2048 .bf16) (w v : Vec Ideal S2048x256 .bf16) (s : Fin 8) (p : Fin 2) :
    (k0_pay11 (k0_pay8 x w) (k0_pay9 x v) (ix4 0 s p k) : EReal)
      = ∑ d : Fin 2048, (x (ix2 ⟨1016 + s.val, by omega⟩ d) * (if p.val % 2 = 0 then w (ix2 d k) else v (ix2 d k)) : EReal) := by
  pointwise [k0_pay11, k0_pay8, k0_pay9]
  split
  · exact prod_at _ k x w
  · exact prod_at' _ k x v

/-- The row kept in the scratch or the new row: row `q` of the gate's or the value's half. -/
def row (z : Prop) [Decidable z] (x : Vec Ideal S1024x2048 .bf16) (W : Vec Ideal S2048x512 .bf16) (T : Vec Ideal S2x8x2x256 .bf16) (p : Fin 2) (l : Fin 512) (q : ℕ) : EReal :=
  if h : q < 8 then (if z then 0 else T (ix4 ⟨l.val / 256, by omega⟩ ⟨q, h⟩ p ⟨l.val % 256, by omega⟩))
  else ∑ d : Fin 2048, (x (ix2 (Fin.ofNat 1024 (q - 8)) d) * W (ix2 d l) : EReal)

/-- One entry of the block of results. -/
def cell (z : Prop) [Decidable z] (x : Vec Ideal S1024x2048 .bf16) (W V : Vec Ideal S2048x512 .bf16) (T : Vec Ideal S2x8x2x256 .bf16)
    (x3 x4 : Vec Ideal S3x512 .f32) (x5 x6 : Vec Ideal S1x512 .f32) (r : Fin 1024) (l : Fin 512) : EReal :=
  act (conv3 (row z x W T 0 l (6 + r.val)) (row z x W T 0 l (7 + r.val)) (row z x W T 0 l (8 + r.val)) (x3 (ix2 0 l)) (x3 (ix2 1 l)) (x3 (ix2 2 l)) (x5 (ix2 0 l)))
    (conv3 (row z x V T 1 l (6 + r.val)) (row z x V T 1 l (7 + r.val)) (row z x V T 1 l (8 + r.val)) (x4 (ix2 0 l)) (x4 (ix2 1 l)) (x4 (ix2 2 l)) (x6 (ix2 0 l)))

/-- One entry of the rows kept. -/
def kept (x : Vec Ideal S1024x2048 .bf16) (W V : Vec Ideal S2048x512 .bf16) (n : Fin 2) (s : Fin 8) (p : Fin 2) (k : Fin 256) : EReal :=
  ∑ d : Fin 2048, (x (ix2 ⟨1016 + s.val, by omega⟩ d) * (if p.val % 2 = 0 then W (ix2 d ⟨256 * n.val + k.val, by omega⟩) else V (ix2 d ⟨256 * n.val + k.val, by omega⟩)) : EReal)

variable (i : grid0.Coords)
  (x0 : Vec Ideal S1024x2048 .bf16) (x1 x2 : Vec Ideal S2048x512 .f32) (x3 x4 : Vec Ideal S3x512 .f32) (x5 x6 : Vec Ideal S1x512 .f32)
  (W V : Vec Ideal S2048x512 .bf16) (T : Vec Ideal S2x8x2x256 .bf16)

/-- Row `q` of a chunk. -/
theorem tap_row (l : Fin 512) (p : Fin 2) (w : Vec Ideal S2048x256 .bf16) (hw : ∀ d, (w (ix2 d k) : EReal) = W (ix2 d l))
    (t : Vec Ideal S8x256 .bf16)
    (ht : ∀ s, (t (ix2 s k) : EReal) = if (i 1).val % 4 = 0 then (0 : EReal) else T (ix4 ⟨l.val / 256, by omega⟩ s p ⟨l.val % 256, by omega⟩))
    (u : Vec Ideal S1024x256 .bf16) (hu : ∀ s, (u (ix2 s k) : EReal) = ∑ d : Fin 2048, (x0 (ix2 s d) * w (ix2 d k) : EReal)) (q : ℕ) (hq : q < 1032) :
    tap t u q k = row ((i 1).val % 4 = 0) x0 W T p l q := by
  unfold tap row
  split
  · exact ht _
  · have e : (⟨q - 8, by omega⟩ : Fin 1024) = Fin.ofNat 1024 (q - 8) := Fin.ext (by show q - 8 = (q - 8) % 1024; omega)
    rw [dif_pos (by omega), hu, e]
    exact Finset.sum_congr rfl fun d _ => by rw [hw]

/-- A chunk of the block of results. -/
theorem chunk_cell (l : Fin 512) (w v : Vec Ideal S2048x256 .bf16) (hw : ∀ d, (w (ix2 d k) : EReal) = W (ix2 d l)) (hv : ∀ d, (v (ix2 d k) : EReal) = V (ix2 d l))
    (t : Vec Ideal S1x8x2x256 .bf16)
    (ht : ¬ (i 1).val % 4 = 0 → ∀ s p, (t (ix4 0 s p k) : EReal) = T (ix4 ⟨l.val / 256, by omega⟩ s p ⟨l.val % 256, by omega⟩))
    (h30 : (g0 (ix2 0 k) : EReal) = x3 (ix2 0 l)) (h31 : (g1 (ix2 0 k) : EReal) = x3 (ix2 1 l)) (h32 : (g2 (ix2 0 k) : EReal) = x3 (ix2 2 l))
    (h40 : (v0 (ix2 0 k) : EReal) = x4 (ix2 0 l)) (h41 : (v1 (ix2 0 k) : EReal) = x4 (ix2 1 l)) (h42 : (v2 (ix2 0 k) : EReal) = x4 (ix2 2 l))
    (h5 : (gb (ix2 0 k) : EReal) = x5 (ix2 0 l)) (h6 : (vb (ix2 0 k) : EReal) = x6 (ix2 0 l)) :
    (k0_pay15 (k0_pay12 (k0_pay4 x0 w) (k0_pay5 x0 v) (k0_pay6 i t) (k0_pay7 i t))
      (k0_pay13 (k0_pay4 x0 w) (k0_pay5 x0 v) (k0_pay6 i t) (k0_pay7 i t) g1 v1 g0 v0) v2 (k0_pay14 g2) gb vb (ix2 r k) : EReal)
      = cell ((i 1).val % 4 = 0) x0 W V T x3 x4 x5 x6 r l := by
  have hr := r.isLt
  have hlo := tap_row k i x0 W T l 0 w hw (k0_pay6 i t)
    (fun s => (tail_lo k i t s).trans (by split; · rfl
                                          · exact ht ‹_› s 0)) (k0_pay4 x0 w) (fun s => prod_at s k x0 w)
  have hhi := tap_row k i x0 V T l 1 v hv (k0_pay7 i t)
    (fun s => (tail_hi k i t s).trans (by split; · rfl
                                          · exact ht ‹_› s 1)) (k0_pay5 x0 v) (fun s => prod_at' s k x0 v)
  rw [chunk_at, hlo _ (by omega), hlo _ (by omega), hlo _ (by omega), hhi _ (by omega), hhi _ (by omega), hhi _ (by omega), h30, h31, h32, h40, h41, h42, h5, h6]
  rfl

/-- The rows a chunk keeps. -/
theorem chunk_kept (n : Fin 2) (w v : Vec Ideal S2048x256 .bf16) (hw : ∀ d, (w (ix2 d k) : EReal) = W (ix2 d ⟨256 * n.val + k.val, by omega⟩))
    (hv : ∀ d, (v (ix2 d k) : EReal) = V (ix2 d ⟨256 * n.val + k.val, by omega⟩)) (s : Fin 8) (p : Fin 2) :
    (k0_pay11 (k0_pay8 x0 w) (k0_pay9 x0 v) (ix4 0 s p k) : EReal) = kept x0 W V n s p k := by
  rw [newtail_at]
  exact Finset.sum_congr rfl fun d _ => by rw [hw, hv]

/-- A block of two chunks, chunk by chunk. -/
theorem at_emb (G : Fin 1024 → Fin 512 → EReal) (o : ℕ) (inb : ∀ a, (![0, o] : Fin 2 → ℕ) a + S1024x256.size a ≤ S1024x512.size a) (r : Fin 1024) (k : Fin 256) (l : Fin 512) (hl : l.val = o + k.val) :
    G r l = G ((Rect.unit (s := S1024x512) ![0, o] S1024x256.size inb).emb (ix2 r k) 0) ((Rect.unit (s := S1024x512) ![0, o] S1024x256.size inb).emb (ix2 r k) 1) := by
  refine congrArg₂ G (Fin.ext ?_) (Fin.ext ?_)
  · show r.val = 0 + 1 * r.val; omega
  · show l.val = o + 1 * k.val; omega

section
variable (c : Dev nD)
  (arg2 : Memref sig .tc .vmem S1024x2048 .bf16) (harg2 : arg2.IsWhole) (arg3 : Memref sig .tc .vmem S2048x512 .f32) (harg3 : arg3.IsWhole)
  (arg4 : Memref sig .tc .vmem S2048x512 .f32) (harg4 : arg4.IsWhole) (arg5 : Memref sig .tc .vmem S3x512 .f32) (harg5 : arg5.IsWhole)
  (arg6 : Memref sig .tc .vmem S3x512 .f32) (harg6 : arg6.IsWhole) (arg7 : Memref sig .tc .vmem S1x512 .f32) (harg7 : arg7.IsWhole)
  (arg8 : Memref sig .tc .vmem S1x512 .f32) (harg8 : arg8.IsWhole) (arg9 : Memref sig .tc .vmem S1024x512 .bf16) (harg9 : arg9.IsWhole)
  (arg10 : Memref sig .tc .vmem S2048x512 .bf16) (harg10 : arg10.IsWhole) (arg11 : Memref sig .tc .vmem S2048x512 .bf16) (harg11 : arg11.IsWhole)
  (arg12 : Memref sig .tc .vmem S2x8x2x256 .bf16) (harg12 : arg12.IsWhole)
  (xs0 xs1 : Vec Ideal S2048x512 .bf16) (xs2 : Vec Ideal S2x8x2x256 .bf16)

/-- What a point leaves in its block of results when the weights are loaded there. -/
theorem outA (hc0 : cond0_0 i) (hz : (i 1).val % 4 = 0) (y : S1024x512.Idx) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 y = cell ((i 1).val % 4 = 0) x0 (k0_pay2 x1) (k0_pay3 x2) T x3 x4 x5 x6 (y 0) (y 1) := by
  unfold out0_A_7
  rw [View.read_writes_junk_apply_eq_canon]
  have hc := cover0_A_7 c i arg2 harg2 arg3 harg3 arg4 harg4 arg5 harg5 arg6 harg6 arg7 harg7 arg8 harg8 arg9 harg9 arg10 harg10 arg11 harg11 arg12 harg12 hc0 x0 x1 x2 x3 x4 x5 x6 y
  refine (congrArg (fun L => View.canon L y) (List.append_nil _).symm).trans ?_
  refine View.canon_append_of_piecesOf (Val := Elt Ideal) (fun y => cell ((i 1).val % 4 = 0) x0 (k0_pay2 x1) (k0_pay3 x2) T x3 x4 x5 x6 (y 0) (y 1)) [] _ ?_ y hc
  unfold kernelRun0_A
  dsimp only
  refine ⟨fun z => ?_, fun z => ?_, trivial⟩
  · obtain ⟨r, k, rfl⟩ : ∃ (r : Fin 1024) (k : Fin 256), z = (ix2 r k : S1024x256.Idx) := ⟨z 0, z 1, eq_ix2 z⟩
    unfold kernelRun0_A.sl.r_13 kernelRun0_A.sl.r_14 kernelRun0_A.sl.r_15 kernelRun0_A.sl.r_12 kernelRun0_A.sl.r kernelRun0_A.sl.v107 kernelRun0_A.sl.v109 kernelRun0_A.sl.HS0_1 kernelRun0_A.sl.HS1_1
    rw [second_pairs, second_out]
    simp only [View.readAt_eq_ld, Memref.IsWhole.read_unread]
    rw [View.ld_unit_lit _ x0 (by decide), View.ld_unit_lit _ x1 (by decide), View.ld_unit_lit _ x2 (by decide)]
    refine (chunk_cell _ _ _ _ _ _ _ _ r k i x0 x3 x4 x5 x6 (k0_pay2 x1) (k0_pay3 x2) T ⟨256 + k.val, by omega⟩ _ _ ?_ ?_ _ (absurd hz) ?_ ?_ ?_ ?_ ?_ ?_ ?_ ?_).trans
      (at_emb (cell ((i 1).val % 4 = 0) x0 (k0_pay2 x1) (k0_pay3 x2) T x3 x4 x5 x6) 256 inb_S1024x512_S1024x256_0_256 r k _ rfl)
    all_goals first | ((try intro d); pointwise; done) | (intro d; rw [View.readCov_fill _ _ _ _ _ (by decide)]; pointwise)
  · obtain ⟨r, k, rfl⟩ : ∃ (r : Fin 1024) (k : Fin 256), z = (ix2 r k : S1024x256.Idx) := ⟨z 0, z 1, eq_ix2 z⟩
    unfold kernelRun0_A.sl.r_8 kernelRun0_A.sl.r_9 kernelRun0_A.sl.r_10 kernelRun0_A.sl.r_11 kernelRun0_A.sl.r_1 kernelRun0_A.sl.r_2 kernelRun0_A.sl.r_3 kernelRun0_A.sl.r_4 kernelRun0_A.sl.v4 kernelRun0_A.sl.v6 kernelRun0_A.sl.HS0_1 kernelRun0_A.sl.HS1_1
    simp only [View.readAt_eq_ld, Memref.IsWhole.read_unread]
    rw [View.ld_unit_lit _ x0 (by decide), View.ld_unit_lit _ x1 (by decide), View.ld_unit_lit _ x2 (by decide)]
    refine (chunk_cell _ _ _ _ _ _ _ _ r k i x0 x3 x4 x5 x6 (k0_pay2 x1) (k0_pay3 x2) T ⟨k.val, by omega⟩ _ _ ?_ ?_ _ (absurd hz) ?_ ?_ ?_ ?_ ?_ ?_ ?_ ?_).trans
      (at_emb (cell ((i 1).val % 4 = 0) x0 (k0_pay2 x1) (k0_pay3 x2) T x3 x4 x5 x6) 0 inb_S1024x512_S1024x256_0_0 r k _ (Nat.zero_add _).symm)
    all_goals first | ((try intro d); pointwise; done) | (intro d; rw [View.readCov_fill _ _ _ _ _ (by decide)]; pointwise)

/-- What a point leaves of the gate's weights when it loads them. -/
theorem weightsA0 (hc0 : cond0_0 i) (d : Fin 2048) (l : Fin 512) :
    (sout0_A_0 c i arg2 harg2 arg3 harg3 arg4 harg4 arg5 harg5 arg6 harg6 arg7 harg7 arg8 harg8 arg9 harg9 arg10 harg10 arg11 harg11 arg12 harg12 hc0 x0 x1 x2 x3 x4 x5 x6 (ix2 d l) : EReal) = x1 (ix2 d l) := by
  unfold sout0_A_0 kernelRun0_A
  dsimp only
  unfold kernelRun0_A.sl.HS0_1
  rw [View.read_writes_cons_unit_of_mem (x := (ix2 d l : S2048x512.Idx)) (heq := rfl)
      (hx := fun a => by
        match a with
        | ⟨0, _⟩ => exact (Nat.zero_add _).symm
        | ⟨1, _⟩ => exact (Nat.zero_add _).symm)]
  simp only [View.readAt_eq_ld, Memref.IsWhole.read_unread]
  rw [View.ld_unit_lit _ x1 (by decide)]
  pointwise [k0_pay2]

/-- What a point leaves of the value's weights when it loads them. -/
theorem weightsA1 (hc0 : cond0_0 i) (d : Fin 2048) (l : Fin 512) :
    (sout0_A_1 c i arg2 harg2 arg3 harg3 arg4 harg4 arg5 harg5 arg6 harg6 arg7 harg7 arg8 harg8 arg9 harg9 arg10 harg10 arg11 harg11 arg12 harg12 hc0 x0 x1 x2 x3 x4 x5 x6 (ix2 d l) : EReal) = x2 (ix2 d l) := by
  unfold sout0_A_1 kernelRun0_A
  dsimp only
  unfold kernelRun0_A.sl.HS1_1
  rw [View.read_writes_cons_unit_of_mem (x := (ix2 d l : S2048x512.Idx)) (heq := rfl)
      (hx := fun a => by
        match a with
        | ⟨0, _⟩ => exact (Nat.zero_add _).symm
        | ⟨1, _⟩ => exact (Nat.zero_add _).symm)]
  simp only [View.readAt_eq_ld, Memref.IsWhole.read_unread]
  rw [View.ld_unit_lit _ x2 (by decide)]
  pointwise [k0_pay3]

/-- What a point leaves in the rows kept when the weights are loaded there. -/
theorem tailA (hc0 : cond0_0 i) (n : Fin 2) (s : Fin 8) (p : Fin 2) (k : Fin 256) :
    sout0_A_2 c i arg2 harg2 arg3 harg3 arg4 harg4 arg5 harg5 arg6 harg6 arg7 harg7 arg8 harg8 arg9 harg9 arg10 harg10 arg11 harg11 arg12 harg12 hc0 x0 x1 x2 x3 x4 x5 x6 (ix4 n s p k) = kept x0 (k0_pay2 x1) (k0_pay3 x2) n s p k := by
  unfold sout0_A_2 kernelRun0_A
  dsimp only
  obtain rfl | rfl : n = 1 ∨ n = 0 := by omega
  · rw [View.read_writes_cons_unit_of_mem (x := (ix4 0 s p k : S1x8x2x256.Idx)) (heq := rfl)
      (hx := fun a => by
        match a with
        | ⟨0, _⟩ => rfl
        | ⟨1, _⟩ => exact (Nat.zero_add _).symm
        | ⟨2, _⟩ => exact (Nat.zero_add _).symm
        | ⟨3, _⟩ => exact (Nat.zero_add _).symm)]
    unfold kernelRun0_A.sl.r kernelRun0_A.sl.v107 kernelRun0_A.sl.v109 kernelRun0_A.sl.HS0_1 kernelRun0_A.sl.HS1_1
    rw [second_tail]
    simp only [View.readAt_eq_ld, Memref.IsWhole.read_unread]
    rw [View.ld_unit_lit _ x0 (by decide), View.ld_unit_lit _ x1 (by decide), View.ld_unit_lit _ x2 (by decide)]
    refine chunk_kept k x0 (k0_pay2 x1) (k0_pay3 x2) 1 _ _ ?_ ?_ s p
    all_goals (intro d; rw [View.readCov_fill _ _ _ _ _ (by decide)]; pointwise)
  · rw [View.read_writes_cons_unit_of_not_mem (heq := rfl) (a := 0) (ha := Or.inl Nat.zero_lt_one)]
    unfold kernelRun0_A.sl.HS2_2 kernelRun0_A.sl.r_5 kernelRun0_A.sl.r_6 kernelRun0_A.sl.v4 kernelRun0_A.sl.v6 kernelRun0_A.sl.HS0_1 kernelRun0_A.sl.HS1_1
    rw [View.read_writes_cons_unit_of_mem (x := (ix4 0 s p k : S1x8x2x256.Idx)) (heq := rfl)
      (hx := fun a => by
        match a with
        | ⟨0, _⟩ => rfl
        | ⟨1, _⟩ => exact (Nat.zero_add _).symm
        | ⟨2, _⟩ => exact (Nat.zero_add _).symm
        | ⟨3, _⟩ => exact (Nat.zero_add _).symm)]
    simp only [View.readAt_eq_ld, Memref.IsWhole.read_unread]
    rw [View.ld_unit_lit _ x0 (by decide), View.ld_unit_lit _ x1 (by decide), View.ld_unit_lit _ x2 (by decide)]
    refine chunk_kept k x0 (k0_pay2 x1) (k0_pay3 x2) 0 _ _ ?_ ?_ s p
    all_goals (intro d; rw [View.readCov_fill _ _ _ _ _ (by decide)]; pointwise)

/-- What a point leaves in its block of results. -/
theorem outB (hc0 : ¬ cond0_0 i) (y : S1024x512.Idx) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 y = cell ((i 1).val % 4 = 0) x0 xs0 xs1 xs2 x3 x4 x5 x6 (y 0) (y 1) := by
  unfold out0_B_7
  rw [View.read_writes_junk_apply_eq_canon]
  have hc := cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 y
  refine (congrArg (fun L => View.canon L y) (List.append_nil _).symm).trans ?_
  refine View.canon_append_of_piecesOf (Val := Elt Ideal) (fun y => cell ((i 1).val % 4 = 0) x0 xs0 xs1 xs2 x3 x4 x5 x6 (y 0) (y 1)) [] _ ?_ y hc
  unfold kernelRun0_B
  dsimp only
  refine ⟨fun z => ?_, fun z => ?_, trivial⟩
  · obtain ⟨r, k, rfl⟩ : ∃ (r : Fin 1024) (k : Fin 256), z = (ix2 r k : S1024x256.Idx) := ⟨z 0, z 1, eq_ix2 z⟩
    unfold kernelRun0_B.sl.r_14 kernelRun0_B.sl.r_15 kernelRun0_B.sl.r_16 kernelRun0_B.sl.r_13 kernelRun0_B.sl.r kernelRun0_B.sl.v124_raw
    rw [second_pairs, second_out]
    simp only [View.readAt_eq_ld, Memref.IsWhole.read_unread]
    rw [View.ld_unit_lit _ x0 (by decide)]
    refine (chunk_cell _ _ _ _ _ _ _ _ r k i x0 x3 x4 x5 x6 xs0 xs1 xs2 ⟨256 + k.val, by omega⟩ _ _ ?_ ?_ _ (fun _ s p => ?_) ?_ ?_ ?_ ?_ ?_ ?_ ?_ ?_).trans
      (at_emb (cell ((i 1).val % 4 = 0) x0 xs0 xs1 xs2 x3 x4 x5 x6) 256 inb_S1024x512_S1024x256_0_256 r k _ rfl)
    case refine_3 =>
      pointwise
      exact congrArg₂ (fun a b => xs2 (ix4 a s p b)) (Fin.ext (by show 1 = (256 + k.val) / 256; omega)) (Fin.ext (by show k.val = (256 + k.val) % 256; omega))
    all_goals ((try intro d); pointwise)
  · obtain ⟨r, k, rfl⟩ : ∃ (r : Fin 1024) (k : Fin 256), z = (ix2 r k : S1024x256.Idx) := ⟨z 0, z 1, eq_ix2 z⟩
    unfold kernelRun0_B.sl.r_9 kernelRun0_B.sl.r_10 kernelRun0_B.sl.r_11 kernelRun0_B.sl.r_12 kernelRun0_B.sl.r_1 kernelRun0_B.sl.r_2 kernelRun0_B.sl.r_3 kernelRun0_B.sl.r_4
    simp only [View.readAt_eq_ld, Memref.IsWhole.read_unread]
    rw [View.ld_unit_lit _ x0 (by decide)]
    refine (chunk_cell _ _ _ _ _ _ _ _ r k i x0 x3 x4 x5 x6 xs0 xs1 xs2 ⟨k.val, by omega⟩ _ _ ?_ ?_ _ (fun _ s p => ?_) ?_ ?_ ?_ ?_ ?_ ?_ ?_ ?_).trans
      (at_emb (cell ((i 1).val % 4 = 0) x0 xs0 xs1 xs2 x3 x4 x5 x6) 0 inb_S1024x512_S1024x256_0_0 r k _ (Nat.zero_add _).symm)
    case refine_3 =>
      pointwise
      exact congrArg₂ (fun a b => xs2 (ix4 a s p b)) (Fin.ext (by show 0 = k.val / 256; omega)) (Fin.ext (by show k.val = k.val % 256; omega))
    all_goals ((try intro d); pointwise)

/-- What a point leaves in the rows kept. -/
theorem tailB (hc0 : ¬ cond0_0 i) (n : Fin 2) (s : Fin 8) (p : Fin 2) (k : Fin 256) :
    sout0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 (ix4 n s p k) = kept x0 xs0 xs1 n s p k := by
  unfold sout0_B_2 kernelRun0_B
  dsimp only
  obtain rfl | rfl : n = 1 ∨ n = 0 := by omega
  · rw [View.read_writes_cons_unit_of_mem (x := (ix4 0 s p k : S1x8x2x256.Idx)) (heq := rfl)
      (hx := fun a => by
        match a with
        | ⟨0, _⟩ => rfl
        | ⟨1, _⟩ => exact (Nat.zero_add _).symm
        | ⟨2, _⟩ => exact (Nat.zero_add _).symm
        | ⟨3, _⟩ => exact (Nat.zero_add _).symm)]
    unfold kernelRun0_B.sl.r
    rw [second_tail]
    simp only [View.readAt_eq_ld, Memref.IsWhole.read_unread]
    rw [View.ld_unit_lit _ x0 (by decide)]
    refine chunk_kept k x0 xs0 xs1 1 _ _ ?_ ?_ s p
    all_goals (intro d; pointwise)
  · rw [View.read_writes_cons_unit_of_not_mem (heq := rfl) (a := 0) (ha := Or.inl Nat.zero_lt_one)]
    unfold kernelRun0_B.sl.r_5 kernelRun0_B.sl.r_6
    rw [View.read_writes_cons_unit_of_mem (x := (ix4 0 s p k : S1x8x2x256.Idx)) (heq := rfl)
      (hx := fun a => by
        match a with
        | ⟨0, _⟩ => rfl
        | ⟨1, _⟩ => exact (Nat.zero_add _).symm
        | ⟨2, _⟩ => exact (Nat.zero_add _).symm
        | ⟨3, _⟩ => exact (Nat.zero_add _).symm)]
    simp only [View.readAt_eq_ld, Memref.IsWhole.read_unread]
    rw [View.ld_unit_lit _ x0 (by decide)]
    refine chunk_kept k x0 xs0 xs1 0 _ _ ?_ ?_ s p
    all_goals (intro d; pointwise)
end
end
end Cert.Ffn
-- ==== Proof.UpRun.lean ====
/- The first product of the feed-forward part: the kernel's result and the reference's are one expression of the arguments. -/
module

public import proofs.«01_k».proof.Proof.Up
public import proofs.«01_k».proof.Proof.Gen.UpRefIdeal.Run
public import Idealize.ShloMosaic.Lib.Pipeline.ValueKit
public import Idealize.ShloMosaic.Lib.StableHlo.ReadAt

@[expose] public section

set_option maxRecDepth 16384

noncomputable section

namespace Cert.Ffn

open Idealize Idealize.ShloMosaic Idealize.ShloMosaic.TcCoe Finset

/-- The named constant is minus the inverse of the logarithm of two. -/
theorem nlog2e_eq : (Named.named Cert.UpIdeal.κ "nlog2e" 0xBFB8AA3B#32 : Ideal .f32) = ((-((Real.log 2)⁻¹) : ℝ) : EReal) :=
  IdealRules.named_const.ideal_named_scalar _ _ _ _ rfl

/-- A power of two at a multiple of minus the inverse logarithm is an exponential. -/
theorem exp2_nlog2e (g : EReal) : Ideal.exp2 (g * ((-((Real.log 2)⁻¹) : ℝ) : EReal)) = Ideal.exp (-g) := by
  have h2 : 0 < Real.log 2 := Real.log_pos one_lt_two
  have hn : (-((Real.log 2)⁻¹) : ℝ) < 0 := neg_lt_zero.mpr (inv_pos.mpr h2)
  induction g using EReal.rec with
  | bot => rw [EReal.bot_mul_coe_of_neg hn]; rfl
  | top => rw [EReal.top_mul_coe_of_neg hn]; rfl
  | coe x =>
    rw [← EReal.coe_mul, Ideal.exp2_coe, ← EReal.coe_neg, Ideal.exp_coe]
    refine congrArg _ ?_
    show (2 : ℝ) ^ (x * -(Real.log 2)⁻¹) = _
    rw [Real.rpow_def_of_pos two_pos]
    refine congrArg _ ?_
    field_simp

/-- An exponential is not negative. -/
theorem exp_nonneg (g : EReal) : 0 ≤ Ideal.exp g := by
  induction g using EReal.rec with
  | bot => exact le_refl _
  | top => exact le_top
  | coe x => exact EReal.coe_nonneg.mpr (Real.exp_pos x).le

/-- The gate and the value, as the reference writes them. -/
theorem act_eq (g v : EReal) : act g v = g * Ideal.div 1 (1 + Ideal.exp (-g)) * v := by
  unfold act
  rw [nlog2e_eq, exp2_nlog2e]
  have h : (1 : EReal) + Ideal.exp (-g) ≠ 0 := fun e => by
    have := le_add_of_nonneg_right (a := (1 : EReal)) (exp_nonneg (-g))
    rw [e] at this
    exact absurd this (not_le.mpr zero_lt_one)
  unfold Ideal.div
  rw [if_neg h, if_neg h, one_mul, mul_right_comm]

/-- The three products in the reference's order. -/
theorem conv3_eq (x0 x1 x2 w0 w1 w2 b : EReal) : conv3 x0 x1 x2 w0 w1 w2 b = b + w0 * x0 + w1 * x1 + w2 * x2 := by
  unfold conv3
  rw [mul_comm x0, mul_comm x1, mul_comm x2]
  abel

section
open Cert.UpIdeal Cert.UpIdeal.Gen

variable (h : S16384x2048.Idx → EReal) (w : S2048x11264.Idx → EReal) (cw : S3x11264.Idx → EReal) (cb : S11264.Idx → EReal)

/-- The product. -/
def upU (r : Fin 16384) (n : Fin 11264) : EReal := ∑ d : Fin 2048, h (ix2 r d) * w (ix2 d n)

/-- The product some rows before, zero before a sequence's first row. -/
def upX (r : Fin 16384) (n : Fin 11264) (back : ℕ) : EReal :=
  if r.val % 4096 < back then 0 else upU h w ⟨r.val - back, by omega⟩ n

/-- The convolution over three rows. -/
def upC (r : Fin 16384) (n : Fin 11264) : EReal :=
  conv3 (upX h w r n 2) (upX h w r n 1) (upX h w r n 0) (cw (ix2 0 n)) (cw (ix2 1 n)) (cw (ix2 2 n)) (cb (ix1 n))

/-- The result. -/
def upAt (r : Fin 16384) (l : Fin 5632) : EReal :=
  act (upC h w cw cb r ⟨l.val, by omega⟩) (upC h w cw cb r ⟨5632 + l.val, by omega⟩)

variable (m : (ℓ : Loc nD τ sig) → Buf (Elt Ideal) ℓ) (c : Dev nD) (t : Fin cfg0.N)

/-- The activations. -/
def E0 : S16384x2048.Idx → EReal := m ((c : Thread nD τ).loc main_arg0)

/-- The weights. -/
def E1 : S2048x11264.Idx → EReal := m ((c : Thread nD τ).loc main_arg1)

/-- The weights of the convolution. -/
def E2 : S3x11264.Idx → EReal := m ((c : Thread nD τ).loc main_arg2)

/-- Its bias. -/
def E3 : S11264.Idx → EReal := m ((c : Thread nD τ).loc main_arg3)

/-- The index maps of the windows at every grid point. -/
theorem idx_up : ∀ t : Fin grid0.N, win0_0.index t = ![t.val % 16, 0] ∧ win0_1.index t = ![0, t.val / 16] ∧ win0_2.index t = ![0, t.val / 16 + 11]
    ∧ win0_3.index t = ![0, t.val / 16] ∧ win0_4.index t = ![0, t.val / 16 + 11] ∧ win0_5.index t = ![0, t.val / 16] ∧ win0_6.index t = ![0, t.val / 16 + 11]
    ∧ win0_7.index t = ![t.val % 16, t.val / 16] ∧ (grid0.coords t 1).val = t.val % 16 := by decide +kernel

/-- Every grid point is one of 176. -/
theorem up_lt : t.val < 176 := lt_of_lt_of_le t.isLt (by decide)

/-- The bias as the region finds it. -/
theorem eb_at (n : Fin 11264) : (V m c main_v0 : Vec Ideal S1x11264 .f32) (ix2 0 n) = E3 m c (ix1 n) := by
  unfold V
  after_reads_at
  rfl

/-- The column of the gate that a grid point's column is. -/
abbrev colG (l : Fin 512) : Fin 11264 := ⟨512 * (t.val / 16) + l.val, by have := up_lt t; omega⟩

/-- The column of the value. -/
abbrev colV (l : Fin 512) : Fin 11264 := ⟨5632 + (512 * (t.val / 16) + l.val), by have := up_lt t; omega⟩

/-- The window of activations at an index. -/
theorem e0_at (R : Fin 1024) (d : Fin 2048) : (iblk m c 0 t (ix2 R d) : EReal)
    = E0 m c (ix2 ⟨1024 * (t.val % 16) + R.val, by omega⟩ d) := by
  have h : (iblk m c 0 t (ix2 R d) : EReal) = (V m c main_arg0 : Vec Ideal S16384x2048 .bf16) (ix2 ⟨1024 * (t.val % 16) + R.val, by omega⟩ d) := by
    blk_ext [iblk, (idx_up t).1]
  rw [h, V_main_arg0]
  rfl

/-- The window of the gate's weights at an index. -/
theorem e1_at (d : Fin 2048) (l : Fin 512) : (iblk m c 1 t (ix2 d l) : EReal) = E1 m c (ix2 d (colG t l)) := by
  have ht := up_lt t
  have h : (iblk m c 1 t (ix2 d l) : EReal) = (V m c main_arg1 : Vec Ideal S2048x11264 .f32) (ix2 d (colG t l)) := by
    blk_ext [iblk, (idx_up t).2.1]
  rw [h, V_main_arg1]
  rfl

/-- The window of the value's weights at an index. -/
theorem e2_at (d : Fin 2048) (l : Fin 512) : (iblk m c 2 t (ix2 d l) : EReal) = E1 m c (ix2 d (colV t l)) := by
  have ht := up_lt t
  have h : (iblk m c 2 t (ix2 d l) : EReal) = (V m c main_arg1 : Vec Ideal S2048x11264 .f32) (ix2 d (colV t l)) := by
    blk_ext [iblk, (idx_up t).2.2.1]
  rw [h, V_main_arg1]
  rfl

/-- The window of the gate's convolution weights at an index. -/
theorem e3_at (a : Fin 3) (l : Fin 512) : (iblk m c 3 t (ix2 a l) : EReal) = E2 m c (ix2 a (colG t l)) := by
  have ht := up_lt t
  have h : (iblk m c 3 t (ix2 a l) : EReal) = (V m c main_arg2 : Vec Ideal S3x11264 .f32) (ix2 a (colG t l)) := by
    blk_ext [iblk, (idx_up t).2.2.2.1]
  rw [h, V_main_arg2]
  rfl

/-- The window of the value's convolution weights at an index. -/
theorem e4_at (a : Fin 3) (l : Fin 512) : (iblk m c 4 t (ix2 a l) : EReal) = E2 m c (ix2 a (colV t l)) := by
  have ht := up_lt t
  have h : (iblk m c 4 t (ix2 a l) : EReal) = (V m c main_arg2 : Vec Ideal S3x11264 .f32) (ix2 a (colV t l)) := by
    blk_ext [iblk, (idx_up t).2.2.2.2.1]
  rw [h, V_main_arg2]
  rfl

/-- The window of the gate's bias at an index. -/
theorem e5_at (l : Fin 512) : (iblk m c 5 t (ix2 0 l) : EReal) = E3 m c (ix1 (colG t l)) := by
  have ht := up_lt t
  have h : (iblk m c 5 t (ix2 0 l) : EReal) = (V m c main_v0 : Vec Ideal S1x11264 .f32) (ix2 0 (colG t l)) := by
    blk_ext [iblk, (idx_up t).2.2.2.2.2.1]
  rw [h, eb_at]

/-- The window of the value's bias at an index. -/
theorem e6_at (l : Fin 512) : (iblk m c 6 t (ix2 0 l) : EReal) = E3 m c (ix1 (colV t l)) := by
  have ht := up_lt t
  have h : (iblk m c 6 t (ix2 0 l) : EReal) = (V m c main_v0 : Vec Ideal S1x11264 .f32) (ix2 0 (colV t l)) := by
    blk_ext [iblk, (idx_up t).2.2.2.2.2.2.1]
  rw [h, eb_at]

/-- A row below the window's first, or one of the two before it, is a row of the whole product. -/
theorem row_at (z : Prop) [Decidable z] (x : S1024x2048.Idx → EReal) (W : S2048x512.Idx → EReal) (T : S2x8x2x256.Idx → EReal) (p : Fin 2) (i : Fin 16) (col : Fin 512 → Fin 11264)
    (hx : ∀ R d, x (ix2 R d) = h (ix2 ⟨1024 * i.val + R.val, by omega⟩ d)) (hW : ∀ d l, W (ix2 d l) = w (ix2 d (col l))) (hz : z ↔ i.val % 4 = 0)
    (hT : ¬z → ∀ (n : Fin 2) (s : Fin 8) (k : Fin 256), T (ix4 n s p k) = upU h w ⟨1024 * (i.val - 1) + 1016 + s.val, by omega⟩ (col ⟨256 * n.val + k.val, by omega⟩))
    (l : Fin 512) (r : Fin 1024) (q back : ℕ) (hb : back ≤ 2) (hq : q + back = 8 + r.val) :
    row z x W T p l q = upX h w ⟨1024 * i.val + r.val, by omega⟩ (col l) back := by
  unfold row upX
  by_cases h8 : q < 8
  · rw [dif_pos h8]
    by_cases hz' : z
    · have := hz.mp hz'
      rw [if_pos hz', if_pos (by show (1024 * i.val + r.val) % 4096 < back; omega)]
    · have : ¬i.val % 4 = 0 := fun e => hz' (hz.mpr e)
      rw [if_neg hz', if_neg (by show ¬(1024 * i.val + r.val) % 4096 < back; omega), hT hz']
      have hr : (⟨1024 * (i.val - 1) + 1016 + q, by omega⟩ : Fin 16384) = ⟨1024 * i.val + r.val - back, by omega⟩ := Fin.ext (by
        show 1024 * (i.val - 1) + 1016 + q = 1024 * i.val + r.val - back; omega)
      have hl : (⟨256 * (l.val / 256) + l.val % 256, by omega⟩ : Fin 512) = l := Fin.ext (Nat.div_add_mod _ _)
      show upU h w ⟨1024 * (i.val - 1) + 1016 + q, _⟩ (col ⟨256 * (l.val / 256) + l.val % 256, _⟩) = _
      rw [hr, hl]
  · rw [dif_neg h8, if_neg (by show ¬(1024 * i.val + r.val) % 4096 < back; omega)]
    unfold upU
    refine sum_congr rfl fun d _ => ?_
    rw [hx, hW]
    have hr : (⟨1024 * i.val + (Fin.ofNat 1024 (q - 8)).val, by omega⟩ : Fin 16384) = ⟨1024 * i.val + r.val - back, by omega⟩ := Fin.ext (by
      show 1024 * i.val + (q - 8) % 1024 = 1024 * i.val + r.val - back; omega)
    rw [hr]

/-- What a point leaves of the gate's weights when it loads them. -/
theorem left0 (h0 : t.val % 16 = 0) (d : Fin 2048) (l : Fin 512) : ((outsAt0 m c t.val t.isLt).2.1 (ix2 d l) : EReal) = E1 m c (ix2 d (colG t l)) := by
  rw [outsAt0_A m c t h0, ← e1_at m c t d l]
  dsimp only
  exact weightsA0 (grid0.coords t) (iblk m c 0 t) (iblk m c 1 t) (iblk m c 2 t) (iblk m c 3 t) (iblk m c 4 t) (iblk m c 5 t) (iblk m c 6 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) d l

/-- What a point leaves of the value's weights when it loads them. -/
theorem left1 (h0 : t.val % 16 = 0) (d : Fin 2048) (l : Fin 512) : ((outsAt0 m c t.val t.isLt).2.2.1 (ix2 d l) : EReal) = E1 m c (ix2 d (colV t l)) := by
  rw [outsAt0_A m c t h0, ← e2_at m c t d l]
  dsimp only
  exact weightsA1 (grid0.coords t) (iblk m c 0 t) (iblk m c 1 t) (iblk m c 2 t) (iblk m c 3 t) (iblk m c 4 t) (iblk m c 5 t) (iblk m c 6 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) d l

/-- The weights carried in the scratch are the ones of the point's columns. -/
theorem carried : ∀ (n : ℕ) (hn : n < cfg0.N) (d : Fin 2048) (l : Fin 512),
    ((outsAt0 m c n hn).2.1 (ix2 d l) : EReal) = E1 m c (ix2 d (colG ⟨n, hn⟩ l)) ∧ ((outsAt0 m c n hn).2.2.1 (ix2 d l) : EReal) = E1 m c (ix2 d (colV ⟨n, hn⟩ l)) := by
  intro n
  induction n with
  | zero => exact fun hn d l => ⟨left0 m c ⟨0, hn⟩ rfl d l, left1 m c ⟨0, hn⟩ rfl d l⟩
  | succ n ih =>
    intro hn d l
    by_cases h0 : (n + 1) % 16 = 0
    · exact ⟨left0 m c ⟨n + 1, hn⟩ h0 d l, left1 m c ⟨n + 1, hn⟩ h0 d l⟩
    · have e : n / 16 = (n + 1) / 16 := by omega
      have ih' := ih (Nat.lt_of_succ_lt hn) d l
      have eG : colG ⟨n, Nat.lt_of_succ_lt hn⟩ l = colG ⟨n + 1, hn⟩ l := Fin.ext (by show 512 * (n / 16) + l.val = 512 * ((n + 1) / 16) + l.val; rw [e])
      have eV : colV ⟨n, Nat.lt_of_succ_lt hn⟩ l = colV ⟨n + 1, hn⟩ l := Fin.ext (by show 5632 + (512 * (n / 16) + l.val) = 5632 + (512 * ((n + 1) / 16) + l.val); rw [e])
      rw [eG, eV] at ih'
      rw [outsAt0_B m c ⟨n + 1, hn⟩ h0]
      exact ih'

/-- The eight rows kept of a product. -/
theorem kept_at (x : S1024x2048.Idx → EReal) (W V : S2048x512.Idx → EReal) (hx : ∀ R d, x (ix2 R d) = E0 m c (ix2 ⟨1024 * (t.val % 16) + R.val, by omega⟩ d))
    (hW : ∀ d l, W (ix2 d l) = E1 m c (ix2 d (colG t l))) (hV : ∀ d l, V (ix2 d l) = E1 m c (ix2 d (colV t l))) (n : Fin 2) (s : Fin 8) (p : Fin 2) (k : Fin 256) :
    kept x W V n s p k = upU (E0 m c) (E1 m c) ⟨1024 * (t.val % 16) + (1016 + s.val), by omega⟩ (if p.val % 2 = 0 then colG t ⟨256 * n.val + k.val, by omega⟩ else colV t ⟨256 * n.val + k.val, by omega⟩) := by
  unfold kept upU
  refine sum_congr rfl fun d _ => ?_
  rw [hx, hW, hV]
  by_cases hp : p.val % 2 = 0
  · rw [if_pos hp, if_pos hp]
  · rw [if_neg hp, if_neg hp]

/-- The rows kept in the scratch are the last eight of the point's rows. -/
theorem kept_run (n : Fin 2) (s : Fin 8) (p : Fin 2) (k : Fin 256) : ((outsAt0 m c t.val t.isLt).2.2.2 (ix4 n s p k) : EReal)
    = upU (E0 m c) (E1 m c) ⟨1024 * (t.val % 16) + (1016 + s.val), by omega⟩ (if p.val % 2 = 0 then colG t ⟨256 * n.val + k.val, by omega⟩ else colV t ⟨256 * n.val + k.val, by omega⟩) := by
  by_cases h0 : t.val % 16 = 0
  · rw [outsAt0_A m c t h0]
    dsimp only
    have key := tailA (grid0.coords t) (iblk m c 0 t) (iblk m c 1 t) (iblk m c 2 t) (iblk m c 3 t) (iblk m c 4 t) (iblk m c 5 t) (iblk m c 6 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) n s p k
    refine key.trans (kept_at m c t _ _ _ (e0_at m c t) (fun d l => ?_) (fun d l => ?_) n s p k)
    · refine Eq.trans ?_ (e1_at m c t d l)
      pointwise [k0_pay2]
    · refine Eq.trans ?_ (e2_at m c t d l)
      pointwise [k0_pay3]
  · have hc := carried m c t.val t.isLt
    rw [outsAt0_B m c t h0] at hc ⊢
    dsimp only at hc ⊢
    have key := tailB (grid0.coords t) (iblk m c 0 t) (iblk m c 1 t) (iblk m c 2 t) (iblk m c 3 t) (iblk m c 4 t) (iblk m c 5 t) (iblk m c 6 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) n s p k
    exact key.trans (kept_at m c t _ _ _ (e0_at m c t) (fun d l => (hc d l).1) (fun d l => (hc d l).2) n s p k)

/-- A place of a point's result from the rows of the product. -/
theorem cell_at (z : Prop) [Decidable z] (x : S1024x2048.Idx → EReal) (W V : S2048x512.Idx → EReal) (T : S2x8x2x256.Idx → EReal) (x3 x4 : S3x512.Idx → EReal) (x5 x6 : S1x512.Idx → EReal)
    (hx : ∀ R d, x (ix2 R d) = E0 m c (ix2 ⟨1024 * (t.val % 16) + R.val, by omega⟩ d)) (hW : ∀ d l, W (ix2 d l) = E1 m c (ix2 d (colG t l))) (hV : ∀ d l, V (ix2 d l) = E1 m c (ix2 d (colV t l)))
    (hz : z ↔ t.val % 16 % 4 = 0)
    (hT : ¬z → ∀ (n : Fin 2) (s : Fin 8) (p : Fin 2) (k : Fin 256), T (ix4 n s p k) = upU (E0 m c) (E1 m c) ⟨1024 * (t.val % 16 - 1) + 1016 + s.val, by omega⟩ (if p.val % 2 = 0 then colG t ⟨256 * n.val + k.val, by omega⟩ else colV t ⟨256 * n.val + k.val, by omega⟩))
    (h3 : ∀ a l, x3 (ix2 a l) = E2 m c (ix2 a (colG t l))) (h4 : ∀ a l, x4 (ix2 a l) = E2 m c (ix2 a (colV t l)))
    (h5 : ∀ l, x5 (ix2 0 l) = E3 m c (ix1 (colG t l))) (h6 : ∀ l, x6 (ix2 0 l) = E3 m c (ix1 (colV t l))) (R : Fin 1024) (l : Fin 512) :
    cell z x W V T x3 x4 x5 x6 R l = upAt (E0 m c) (E1 m c) (E2 m c) (E3 m c) ⟨1024 * (t.val % 16) + R.val, by omega⟩ ⟨512 * (t.val / 16) + l.val, by have := up_lt t; omega⟩ := by
  have g := fun q back => row_at (E0 m c) (E1 m c) z x W T 0 ⟨t.val % 16, by omega⟩ (colG t) hx hW hz (fun hz' n s k => hT hz' n s 0 k) l R q back
  have v := fun q back => row_at (E0 m c) (E1 m c) z x V T 1 ⟨t.val % 16, by omega⟩ (colV t) hx hV hz (fun hz' n s k => hT hz' n s 1 k) l R q back
  unfold cell
  rw [g (6 + R.val) 2 (by omega) (by omega), g (7 + R.val) 1 (by omega) (by omega), g (8 + R.val) 0 (by omega) (by omega),
    v (6 + R.val) 2 (by omega) (by omega), v (7 + R.val) 1 (by omega) (by omega), v (8 + R.val) 0 (by omega) (by omega), h3, h3, h3, h4, h4, h4, h5, h6]
  rfl

/-- The kernel's result. -/
theorem up_out : ((dats m 0 c).arrAt 7 cfg0.N : Vec Ideal S16384x5632 .bf16) = fun i => upAt (E0 m c) (E1 m c) (E2 m c) (E3 m c) (i 0) (i 1) := by
  refine (dats m 0 c).arrAt_eq_of_covers 7 _ (by decide +kernel) fun t hf' y => ?_
  blk_simp
  rw [after0_7]
  have ht := up_lt t
  have e := (idx_up t).2.2.2.2.2.2.2.1
  have ec := (idx_up t).2.2.2.2.2.2.2.2
  obtain ⟨R, k, rfl⟩ : ∃ (R : Fin 1024) (k : Fin 512), y = ix2 R k := ⟨y 0, y 1, eq_ix2 y⟩
  have e0 : win0_7.index t 0 = t.val % 16 := congrFun e 0
  have e1 : win0_7.index t 1 = t.val / 16 := congrFun e 1
  have h0 : ((win0_7.blk t).view.emb (ix2 R k) 0 : Fin 16384) = (⟨1024 * (t.val % 16) + R.val, by omega⟩ : Fin 16384) := Fin.ext (by
    show win0_7.index t 0 * 1024 + 1 * R.val = 1024 * (t.val % 16) + R.val; omega)
  have h1 : ((win0_7.blk t).view.emb (ix2 R k) 1 : Fin 5632) = (⟨512 * (t.val / 16) + k.val, by omega⟩ : Fin 5632) := Fin.ext (by
    show win0_7.index t 1 * 512 + 1 * k.val = 512 * (t.val / 16) + k.val; omega)
  refine Eq.trans ?_ (congrArg₂ (upAt (E0 m c) (E1 m c) (E2 m c) (E3 m c)) h0 h1).symm
  by_cases hA : t.val % 16 = 0
  · rw [outsAt0_A m c t hA]
    dsimp only
    have key := outA (grid0.coords t) (iblk m c 0 t) (iblk m c 1 t) (iblk m c 2 t) (iblk m c 3 t) (iblk m c 4 t) (iblk m c 5 t) (iblk m c 6 t) (fun _ => 0) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr hA) (by rw [ec, hA]) (ix2 R k)
    refine key.trans (cell_at m c t _ _ _ _ _ _ _ _ _ (e0_at m c t) (fun d l => ?_) (fun d l => ?_) (by rw [ec])
      (fun hz' => absurd (by rw [ec, hA]) hz') (e3_at m c t) (e4_at m c t) (e5_at m c t) (e6_at m c t) R k)
    · refine Eq.trans ?_ (e1_at m c t d l)
      pointwise [k0_pay2]
    · refine Eq.trans ?_ (e2_at m c t d l)
      pointwise [k0_pay3]
  · have hn : t.val - 1 < cfg0.N := Nat.lt_of_le_of_lt (Nat.sub_le _ _) t.isLt
    have hc := carried m c (t.val - 1) hn
    have hk := kept_run m c ⟨t.val - 1, hn⟩
    have ed : (t.val - 1) / 16 = t.val / 16 := by omega
    have em : (t.val - 1) % 16 = t.val % 16 - 1 := by omega
    have eG : ∀ l, colG ⟨t.val - 1, hn⟩ l = colG t l := fun l => Fin.ext (by show 512 * ((t.val - 1) / 16) + l.val = 512 * (t.val / 16) + l.val; rw [ed])
    have eV : ∀ l, colV ⟨t.val - 1, hn⟩ l = colV t l := fun l => Fin.ext (by show 5632 + (512 * ((t.val - 1) / 16) + l.val) = 5632 + (512 * (t.val / 16) + l.val); rw [ed])
    simp only [eG, eV] at hc hk
    rw [outsAt0_B m c t hA]
    dsimp only
    have key := outB (grid0.coords t) (iblk m c 0 t) (iblk m c 1 t) (iblk m c 2 t) (iblk m c 3 t) (iblk m c 4 t) (iblk m c 5 t) (iblk m c 6 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => hA ((hcond0_0 t).mp h)) (ix2 R k)
    refine key.trans (cell_at m c t _ _ _ _ _ _ _ _ _ (e0_at m c t) (fun d l => (hc d l).1) (fun d l => (hc d l).2) (by rw [ec])
      (fun hz' n s p k => (hk n s p k).trans (congrArg (fun a => upU (E0 m c) (E1 m c) a _) (Fin.ext ?_))) (e3_at m c t) (e4_at m c t) (e5_at m c t) (e6_at m c t) R k)
    show 1024 * ((t.val - 1) % 16) + (1016 + s.val) = 1024 * (t.val % 16 - 1) + 1016 + s.val
    omega

end

section
open Cert.UpRefIdeal Cert.UpRefIdeal.Gen

variable (h : S16384x2048.Idx → EReal) (w : S2048x11264.Idx → EReal) (cw : S3x11264.Idx → EReal) (cb : S11264.Idx → EReal)

/-- The product with two rows of zeros before each sequence. -/
def uP (h : Vec Ideal S16384x2048 .bf16) (w : Vec Ideal S2048x11264 .f32) : FVec Ideal S4x4098x11264 .f32 :=
  pad S4x4098x11264 ![0, 2, 0] ![0, 0, 0] ![0, 0, 0] (shapeCast _ (Host.dotGeneral dot_S16384x2048_S2048x11264_S16384x11264_1_0_0_1_n_n none (φ₂ := .f32) (extf .f32 h bitsLt_bf16_f32) w) shapeCasts_S16384x11264_S4x4096x11264) (sitofp (F := Ideal) .f32 (constantI S_ 32 0#32)) pads_S4x4096x11264_S4x4098x11264_000_200_000 h_S_

/-- One weight of the convolution over all rows. -/
def uW (a : Vec Ideal S11264 .f32) : FVec Ideal S4x4096x11264 .f32 :=
  broadcastInDim S4x4096x11264 ![0, 1, 2] bcast_S1x1x11264_S4x4096x11264_0_1_2 (broadcastInDim S1x1x11264 ![2] bcast_S11264_S1x1x11264_2 a)

/-- The convolution. -/
def uC (P : FVec Ideal S4x4098x11264 .f32) (cw : Vec Ideal S3x11264 .f32) (cb : Vec Ideal S11264 .f32) : FVec Ideal S4x4096x11264 .f32 :=
  addf (addf (addf (uW cb) (mulf (uW (shapeCast _ (extractStridedSlice S1x11264 ![0, 0] cw slices_S3x11264_S1x11264_0_0) shapeCasts_S1x11264_S11264)) (extractStridedSlice S4x4096x11264 ![0, 0, 0] P slices_S4x4098x11264_S4x4096x11264_0_0_0)))
    (mulf (uW (shapeCast _ (extractStridedSlice S1x11264 ![1, 0] cw slices_S3x11264_S1x11264_1_0) shapeCasts_S1x11264_S11264)) (extractStridedSlice S4x4096x11264 ![0, 1, 0] P slices_S4x4098x11264_S4x4096x11264_0_1_0)))
    (mulf (uW (shapeCast _ (extractStridedSlice S1x11264 ![2, 0] cw slices_S3x11264_S1x11264_2_0) shapeCasts_S1x11264_S11264)) (extractStridedSlice S4x4096x11264 ![0, 2, 0] P slices_S4x4098x11264_S4x4096x11264_0_2_0))

/-- The gate times the value. -/
def uO (C : FVec Ideal S4x4096x11264 .f32) : FVec Ideal S16384x5632 .bf16 :=
  truncf .bf16 (shapeCast _ (mulf (mulf (extractStridedSlice S4x4096x5632 ![0, 0, 0] C slices_S4x4096x11264_S4x4096x5632_0_0_0) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 0] C slices_S4x4096x11264_S4x4096x5632_0_0_0)))))) (extractStridedSlice S4x4096x5632 ![0, 0, 5632] C slices_S4x4096x11264_S4x4096x5632_0_0_5632)) shapeCasts_S4x4096x5632_S16384x5632) bitsLt_bf16_f32

variable (b : Fin 4) (n : Fin 11264)

/-- The padded product at an index. -/
theorem uP_at (q : Fin 4098) : (uP h w (ix3 b q n) : EReal) = if hq : 2 ≤ q.val then upU h w ⟨b.val * 4096 + (q.val - 2), by omega⟩ n else 0 := by
  have z : (FloatOps.sitofp .f32 0#32 : Ideal .f32) = (0 : EReal) := by
    show ((((0#32 : BitVec 32).toInt : ℤ) : ℝ) : EReal) = 0
    simp
  unfold upU
  pointwise [uP]
  rw [z]
  by_cases hq : 2 ≤ q.val
  · rw [dif_pos ⟨hq, by omega⟩, dif_pos hq]
  · rw [dif_neg (fun e => hq e.1), dif_neg hq]

/-- The convolution at an index. -/
theorem uC_at (P : S4x4098x11264.Idx → EReal) (s : Fin 4096) : (uC P cw cb (ix3 b s n) : EReal)
    = cb (ix1 n) + cw (ix2 0 n) * P (ix3 b ⟨s.val, by omega⟩ n) + cw (ix2 1 n) * P (ix3 b ⟨1 + s.val, by omega⟩ n) + cw (ix2 2 n) * P (ix3 b ⟨2 + s.val, by omega⟩ n) := by
  pointwise [uC, uW]

/-- The gate times the value at an index. -/
theorem uO_at (C : S4x4096x11264.Idx → EReal) (r : Fin 16384) (l : Fin 5632) : (uO C (ix2 r l) : EReal)
    = act (C (ix3 ⟨r.val / 4096, by omega⟩ ⟨r.val % 4096, by omega⟩ ⟨l.val, by omega⟩)) (C (ix3 ⟨r.val / 4096, by omega⟩ ⟨r.val % 4096, by omega⟩ ⟨5632 + l.val, by omega⟩)) := by
  rw [act_eq]
  pointwise [uO]

/-- A row of the padded product is a row of the product some rows before. -/
theorem uP_row (r : Fin 16384) (back : ℕ) (q : Fin 4098) (hb : back ≤ 2) (hq : q.val + back = r.val % 4096 + 2) :
    (uP h w (ix3 ⟨r.val / 4096, by omega⟩ q n) : EReal) = upX h w r n back := by
  rw [uP_at]
  unfold upX
  by_cases h2 : 2 ≤ q.val
  · rw [dif_pos h2, if_neg (by omega)]
    exact congrArg (fun a => upU h w a n) (Fin.ext (by show r.val / 4096 * 4096 + (q.val - 2) = r.val - back; omega))
  · rw [dif_neg h2, if_pos (by omega)]

/-- The reference's convolution. -/
theorem uC_row (r : Fin 16384) : (uC (uP h w) cw cb (ix3 ⟨r.val / 4096, by omega⟩ ⟨r.val % 4096, by omega⟩ n) : EReal) = upC h w cw cb r n := by
  rw [uC_at, uP_row h w n r 2 _ (by omega) rfl, uP_row h w n r 1 _ (by omega) (by show 1 + r.val % 4096 + 1 = _; omega), uP_row h w n r 0 _ (by omega) (by show 2 + r.val % 4096 + 0 = _; omega)]
  unfold upC
  rw [conv3_eq]

/-- The reference's result. -/
theorem uO_up : uO (uC (uP h w) cw cb) = fun i => upAt h w cw cb (i 0) (i 1) := by
  funext i
  obtain ⟨r, l, rfl⟩ : ∃ (r : Fin 16384) (l : Fin 5632), i = ix2 r l := ⟨i 0, i 1, eq_ix2 i⟩
  refine (uO_at _ r l).trans ?_
  rw [uC_row, uC_row]
  rfl

end
end Cert.Ffn
-- ==== Proof.Inp.lean ====
/- The first projection's kernel at one grid point: the rows of weights it keeps in the scratch, and the product with them. -/
module

public import proofs.«01_k».proof.Proof.Gen.InpIdeal.Frame
public import Idealize.ShloMosaic.Lib.Pointwise
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.Proj

open Idealize Idealize.ShloMosaic Idealize.ShloMosaic.TcCoe Finset
open Cert.InpIdeal Cert.InpIdeal.Gen

/-- The factor of the queries' weights. -/
def qs : EReal := (Named.named κ "qscale" 0x3E38AA3B#32 : Ideal .f32)

/-- The factor of the weights in window `w` of 512 columns. -/
def fct (w : ℕ) : EReal := if 3 ≤ w ∧ w < 7 then qs else 1

/-- The kernel's test on the first half of a block of columns. -/
theorem pick_lo : ∀ (i : Fin 8) (a b : EReal), Scalar.select
        (Scalar.andi (Scalar.cmpi CmpIPredicate.sge (Scalar.addi (Scalar.muli (BitVec.ofNat 32 i.val) 2#32) 0#32) 3#32)
          (Scalar.cmpi CmpIPredicate.slt (Scalar.addi (Scalar.muli (BitVec.ofNat 32 i.val) 2#32) 0#32) 7#32)) a b
      = if 3 ≤ 2 * i.val ∧ 2 * i.val < 7 then a else b := fun i a b => by fin_cases i <;> rfl

/-- The kernel's test on the second half. -/
theorem pick_hi : ∀ (i : Fin 8) (a b : EReal), Scalar.select
        (Scalar.andi (Scalar.cmpi CmpIPredicate.sge (Scalar.addi (Scalar.muli (BitVec.ofNat 32 i.val) 2#32) 1#32) 3#32)
          (Scalar.cmpi CmpIPredicate.slt (Scalar.addi (Scalar.muli (BitVec.ofNat 32 i.val) 2#32) 1#32) 7#32)) a b
      = if 3 ≤ 2 * i.val + 1 ∧ 2 * i.val + 1 < 7 then a else b := fun i a b => by fin_cases i <;> rfl

/-- A row of the shared key's weights, once, twice, then rotated, twice. -/
def keyRow (X : Fin 64 → EReal) (q : Fin 256) : EReal :=
  if q.val < 128 then X ⟨q.val % 64, by omega⟩
  else if h : q.val % 64 < 32 then 0 - X ⟨32 + q.val % 64, by omega⟩ else X ⟨q.val % 64 - 32, by omega⟩

/-- A row of the shared key's weights. -/
theorem keyRow_lo (X : Fin 64 → EReal) (q : Fin 256) (h : q.val < 128) : keyRow X q = X ⟨q.val % 64, by omega⟩ := if_pos h

/-- A row of the rotated weights, the first half. -/
theorem keyRow_neg (X : Fin 64 → EReal) (q : Fin 256) (h : ¬q.val < 128) (h' : q.val % 64 < 32) : keyRow X q = 0 - X ⟨32 + q.val % 64, by omega⟩ :=
  (if_neg h).trans (dif_pos h')

/-- A row of the rotated weights, the second half. -/
theorem keyRow_hi (X : Fin 64 → EReal) (q : Fin 256) (h : ¬q.val < 128) (h' : ¬q.val % 64 < 32) : keyRow X q = X ⟨q.val % 64 - 32, by omega⟩ :=
  (if_neg h).trans (dif_neg h')

variable (i : grid0.Coords)
  (x0 : Vec Ideal S1024x2048 .bf16) (x1 : Vec Ideal S512x2048 .f32) (x2 : Vec Ideal S512x2048 .f32) (xs0 : Vec Ideal S1024x2048 .bf16)

/-- The first half of the rows kept. -/
theorem first_at (q : Fin 512) (d : Fin 2048) : (k0_pay1 i x1 (ix2 q d) : EReal) = x1 (ix2 q d) * fct (2 * (i 0).val) := by
  pointwise [k0_pay1]
  rw [pick_lo (i 0)]
  rfl

/-- The second half of the rows kept. -/
theorem second_at (q : Fin 512) (d : Fin 2048) : (k0_pay3 i x2 (ix2 q d) : EReal) = x2 (ix2 q d) * fct (2 * (i 0).val + 1) := by
  pointwise [k0_pay3]
  rw [pick_hi (i 0)]
  rfl

/-- The rows of the shared key from its weights. -/
def keyT (w : FVec Ideal S64x2048 .f32) : FVec Ideal S256x2048 .bf16 :=
  truncf .bf16 (concatenate S256x2048 0 [⟨S64x2048, w⟩, ⟨S64x2048, w⟩,
    ⟨S64x2048, concatenate S64x2048 0 [⟨S32x2048, subf (broadcast S32x2048 (Scalar.ofBits .f32 0x00000000#32)) (extractStridedSlice S32x2048 ![32, 0] w slices_S64x2048_o32_0_S32x2048)⟩, ⟨S32x2048, extractStridedSlice S32x2048 ![0, 0] w slices_S64x2048_o0_0_S32x2048⟩] concatenates_S32x2048_S32x2048_S64x2048_d0⟩,
    ⟨S64x2048, concatenate S64x2048 0 [⟨S32x2048, subf (broadcast S32x2048 (Scalar.ofBits .f32 0x00000000#32)) (extractStridedSlice S32x2048 ![32, 0] w slices_S64x2048_o32_0_S32x2048)⟩, ⟨S32x2048, extractStridedSlice S32x2048 ![0, 0] w slices_S64x2048_o0_0_S32x2048⟩] concatenates_S32x2048_S32x2048_S64x2048_d0⟩]
    concatenates_S64x2048_S64x2048_S64x2048_S64x2048_S256x2048_d0) bitsLt_bf16_f32

/-- The kernel's rows of the shared key. -/
theorem key_eq (v : Vec Ideal S64x2048 .f32) : k0_pay2 v = keyT v := by
  refine Eq.trans (b := shapeCast S256x2048 (keyT (shapeCast S64x2048 v shapeCasts_S64x2048_S64x2048)) shapeCasts_S256x2048_S256x2048) rfl ?_
  rw [shapeCast_id, shapeCast_id]

/-- The rows of the shared key, piece by piece. -/
def keyPieces (X : Fin 64 → EReal) (q : Fin 256) : EReal :=
  if h : q.val < 64 then X ⟨q.val, h⟩
  else if h : q.val - 64 < 64 then X ⟨q.val - 64, h⟩
  else if h : q.val - 64 - 64 < 64 then
    if h' : q.val - 64 - 64 < 32 then 0 - X ⟨32 + (q.val - 64 - 64), by omega⟩ else X ⟨q.val - 64 - 64 - 32, by omega⟩
  else if h' : q.val - 64 - 64 - 64 < 32 then 0 - X ⟨32 + (q.val - 64 - 64 - 64), by omega⟩ else X ⟨q.val - 64 - 64 - 64 - 32, by omega⟩

/-- The pieces are the rows. -/
theorem keyPieces_eq (X : Fin 64 → EReal) (q : Fin 256) : keyPieces X q = keyRow X q := by
  have e : ∀ (a b : ℕ) (ha : a < 64) (hb : b < 64), a = b → X ⟨a, ha⟩ = X ⟨b, hb⟩ := fun a b ha hb h => by subst h; rfl
  have hq := q.isLt
  unfold keyPieces
  by_cases h1 : q.val < 128
  · rw [keyRow_lo X q h1]
    by_cases h : q.val < 64
    · rw [dif_pos h]
      exact e _ _ _ _ (by omega)
    · rw [dif_neg h, dif_pos (by omega)]
      exact e _ _ _ _ (by omega)
  · rw [dif_neg (by omega), dif_neg (by omega)]
    by_cases h2 : q.val % 64 < 32
    · rw [keyRow_neg X q h1 h2]
      by_cases h : q.val - 64 - 64 < 64
      · rw [dif_pos h, dif_pos (by omega)]
        exact congrArg (fun a : EReal => 0 - a) (e _ _ _ _ (by omega))
      · rw [dif_neg h, dif_pos (by omega)]
        exact congrArg (fun a : EReal => 0 - a) (e _ _ _ _ (by omega))
    · rw [keyRow_hi X q h1 h2]
      by_cases h : q.val - 64 - 64 < 64
      · rw [dif_pos h, dif_neg (by omega)]
        exact e _ _ _ _ (by omega)
      · rw [dif_neg h, dif_neg (by omega)]
        exact e _ _ _ _ (by omega)

/-- The rows of the shared key. -/
theorem key_at (v : Vec Ideal S64x2048 .f32) (q : Fin 256) (d : Fin 2048) : (k0_pay2 v (ix2 q d) : EReal) = keyRow (fun a => v (ix2 a d)) q := by
  rw [key_eq, ← keyPieces_eq]
  unfold keyPieces
  pointwise [keyT]

/-- The product. -/
theorem dot_at (r : Fin 1024) (l : Fin 1024) : (k0_pay4 x0 xs0 (ix2 r l) : EReal) = ∑ d : Fin 2048, x0 (ix2 r d) * xs0 (ix2 l d) := by
  pointwise [k0_pay4]

/-- The rows a point keeps where they hold no shared key. -/
def keepA (i : grid0.Coords) (x1 x2 : S512x2048.Idx → EReal) (q : Fin 1024) (d : Fin 2048) : EReal :=
  if h : q.val < 512 then x1 (ix2 ⟨q.val, h⟩ d) * fct (2 * (i 0).val) else x2 (ix2 ⟨q.val - 512, by omega⟩ d) * fct (2 * (i 0).val + 1)

/-- The rows a point keeps where they hold the shared key. -/
def keepC (i : grid0.Coords) (x1 x2 : S512x2048.Idx → EReal) (q : Fin 1024) (d : Fin 2048) : EReal :=
  if h : 256 ≤ q.val ∧ q.val < 512 then keyRow (fun a => x1 (ix2 ⟨256 + a.val, by omega⟩ d)) ⟨q.val - 256, by omega⟩ else keepA i x1 x2 q d

variable (c : Dev nD)
  (arg2 : Memref sig .tc .vmem S1024x2048 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1024x1024 .bf16) (harg5 : arg5.IsWhole) (arg6 : Memref sig .tc .vmem S1024x2048 .bf16) (harg6 : arg6.IsWhole)

/-- What a point leaves in the scratch where it holds no shared key. -/
theorem leftA (hc0 : cond0_0 i) (hc1 : ¬cond0_1 i) (q : Fin 1024) (d : Fin 2048) :
    (sout0_A_0 c i arg2 harg2 arg3 harg3 arg4 harg4 arg5 harg5 arg6 harg6 hc0 hc1 x0 x1 x2 (ix2 q d) : EReal) = keepA i x1 x2 q d := by
  unfold sout0_A_0 kernelRun0_A keepA
  dsimp only
  unfold kernelRun0_A.sl.HS0_2
  by_cases hq : q.val < 512
  · rw [dif_pos hq, View.read_writes_cons_unit_of_not_mem (heq := rfl) (a := 0) (ha := Or.inl hq),
      View.read_writes_cons_unit_of_mem (x := (ix2 ⟨q.val, hq⟩ d : S512x2048.Idx)) (heq := rfl)
      (hx := fun a => by
        match a with
        | ⟨0, _⟩ => exact (Nat.zero_add _).symm
        | ⟨1, _⟩ => exact (Nat.zero_add _).symm)]
    simp only [View.readAt_eq_ld, Memref.IsWhole.read_unread]
    rw [View.ld_unit_lit _ x1 (by decide)]
    exact first_at i x1 _ d
  · rw [dif_neg hq, View.read_writes_cons_unit_of_mem (x := (ix2 ⟨q.val - 512, by omega⟩ d : S512x2048.Idx)) (heq := rfl)
      (hx := fun a => by
        match a with
        | ⟨0, _⟩ => show q.val = 512 + (q.val - 512); omega
        | ⟨1, _⟩ => exact (Nat.zero_add _).symm)]
    simp only [View.readAt_eq_ld, Memref.IsWhole.read_unread]
    rw [View.ld_unit_lit _ x2 (by decide)]
    exact second_at i x2 _ d

/-- What a point leaves in the scratch where it holds the shared key. -/
theorem leftC (hc0 : cond0_0 i) (hc1 : cond0_1 i) (q : Fin 1024) (d : Fin 2048) :
    (sout0_C_0 c i arg2 harg2 arg3 harg3 arg4 harg4 arg5 harg5 arg6 harg6 hc0 hc1 x0 x1 x2 (ix2 q d) : EReal) = keepC i x1 x2 q d := by
  unfold sout0_C_0 kernelRun0_C keepC keepA
  dsimp only
  unfold kernelRun0_C.sl.HS0_3
  by_cases hq : q.val < 512
  · rw [View.read_writes_cons_unit_of_not_mem (heq := rfl) (a := 0) (ha := Or.inl hq)]
    by_cases hk : 256 ≤ q.val
    · rw [dif_pos ⟨hk, hq⟩, View.read_writes_cons_unit_of_mem (x := (ix2 ⟨q.val - 256, by omega⟩ d : S256x2048.Idx)) (heq := rfl)
        (hx := fun a => by
          match a with
          | ⟨0, _⟩ => show q.val = 256 + (q.val - 256); omega
          | ⟨1, _⟩ => exact (Nat.zero_add _).symm)]
      simp only [View.readAt_eq_ld, Memref.IsWhole.read_unread]
      refine (key_at _ _ d).trans ?_
      congr 1
      funext a
      pointwise
    · rw [dif_neg (fun h => hk h.1), dif_pos hq, View.read_writes_cons_unit_of_not_mem (heq := rfl) (a := 0) (ha := Or.inl (by show q.val < 256; omega)),
        View.read_writes_cons_unit_of_mem (x := (ix2 ⟨q.val, hq⟩ d : S512x2048.Idx)) (heq := rfl)
        (hx := fun a => by
          match a with
          | ⟨0, _⟩ => exact (Nat.zero_add _).symm
          | ⟨1, _⟩ => exact (Nat.zero_add _).symm)]
      simp only [View.readAt_eq_ld, Memref.IsWhole.read_unread]
      rw [View.ld_unit_lit _ x1 (by decide)]
      exact first_at i x1 _ d
  · rw [dif_neg (fun h => hq h.2), dif_neg hq, View.read_writes_cons_unit_of_mem (x := (ix2 ⟨q.val - 512, by omega⟩ d : S512x2048.Idx)) (heq := rfl)
      (hx := fun a => by
        match a with
        | ⟨0, _⟩ => show q.val = 512 + (q.val - 512); omega
        | ⟨1, _⟩ => exact (Nat.zero_add _).symm)]
    simp only [View.readAt_eq_ld, Memref.IsWhole.read_unread]
    rw [View.ld_unit_lit _ x2 (by decide)]
    exact second_at i x2 _ d

/-- The place an index of the whole scratch is read at. -/
theorem whole_idx (inb : ∀ a, (![0, 0] : Fin 2 → ℕ) a + S1024x2048.size a ≤ S1024x2048.size a) (l : Fin 1024) (d : Fin 2048) :
    (Rect.unit (s := S1024x2048) ![0, 0] S1024x2048.size inb).toLoadRect.idx (ix2 l d) = ix2 l d := by
  funext a
  refine Fin.ext ?_
  match a with
  | ⟨0, _⟩ => show 0 + 1 * l.val = l.val; omega
  | ⟨1, _⟩ => show 0 + 1 * d.val = d.val; omega

/-- What a point leaves in its block of results where the rows hold no shared key. -/
theorem outA (hc0 : cond0_0 i) (hc1 : ¬cond0_1 i) (r l : Fin 1024) :
    (out0_A_3 c i arg2 harg2 arg3 harg3 arg4 harg4 arg5 harg5 arg6 harg6 hc0 hc1 x0 x1 x2 (ix2 r l) : EReal) = ∑ d : Fin 2048, x0 (ix2 r d) * keepA i x1 x2 l d := by
  have hS := leftA i x0 x1 x2 c arg2 harg2 arg3 harg3 arg4 harg4 arg5 harg5 arg6 harg6 hc0 hc1
  unfold sout0_A_0 kernelRun0_A at hS
  dsimp only at hS
  rw [View.read_writes_junk_eq_canon] at hS
  unfold out0_A_3 kernelRun0_A
  dsimp only
  unfold kernelRun0_A.sl.v4
  rw [View.read_writes_cons_unit_of_mem (x := (ix2 r l : S1024x1024.Idx)) (heq := rfl)
      (hx := fun a => by
        match a with
        | ⟨0, _⟩ => exact (Nat.zero_add _).symm
        | ⟨1, _⟩ => exact (Nat.zero_add _).symm)]
  simp only [View.readAt_eq_ld, Memref.IsWhole.read_unread]
  rw [View.ld_unit_lit _ x0 (by decide)]
  refine (dot_at _ _ r l).trans (sum_congr rfl fun d _ => congrArg (fun a : EReal => x0 (ix2 r d) * a) ?_)
  rw [View.readCov_eq_canon', ← hS l d]
  exact congrArg _ (whole_idx _ l d)

/-- What a point leaves in its block of results where the rows hold the shared key. -/
theorem outC (hc0 : cond0_0 i) (hc1 : cond0_1 i) (r l : Fin 1024) :
    (out0_C_3 c i arg2 harg2 arg3 harg3 arg4 harg4 arg5 harg5 arg6 harg6 hc0 hc1 x0 x1 x2 (ix2 r l) : EReal) = ∑ d : Fin 2048, x0 (ix2 r d) * keepC i x1 x2 l d := by
  have hS := leftC i x0 x1 x2 c arg2 harg2 arg3 harg3 arg4 harg4 arg5 harg5 arg6 harg6 hc0 hc1
  unfold sout0_C_0 kernelRun0_C at hS
  dsimp only at hS
  rw [View.read_writes_junk_eq_canon] at hS
  unfold out0_C_3 kernelRun0_C
  dsimp only
  unfold kernelRun0_C.sl.v4
  rw [View.read_writes_cons_unit_of_mem (x := (ix2 r l : S1024x1024.Idx)) (heq := rfl)
      (hx := fun a => by
        match a with
        | ⟨0, _⟩ => exact (Nat.zero_add _).symm
        | ⟨1, _⟩ => exact (Nat.zero_add _).symm)]
  simp only [View.readAt_eq_ld, Memref.IsWhole.read_unread]
  rw [View.ld_unit_lit _ x0 (by decide)]
  refine (dot_at _ _ r l).trans (sum_congr rfl fun d _ => congrArg (fun a : EReal => x0 (ix2 r d) * a) ?_)
  rw [View.readCov_eq_canon', ← hS l d]
  exact congrArg _ (whole_idx _ l d)

/-- What a point leaves in its block of results. -/
theorem outB (hc0 : ¬cond0_0 i) (r l : Fin 1024) :
    (out0_B_3 c i arg2 harg2 arg3 harg3 arg4 harg4 arg5 harg5 arg6 harg6 hc0 x0 x1 x2 xs0 (ix2 r l) : EReal) = ∑ d : Fin 2048, x0 (ix2 r d) * xs0 (ix2 l d) := by
  unfold out0_B_3 kernelRun0_B
  dsimp only
  rw [View.read_writes_cons_unit_of_mem (x := (ix2 r l : S1024x1024.Idx)) (heq := rfl)
      (hx := fun a => by
        match a with
        | ⟨0, _⟩ => exact (Nat.zero_add _).symm
        | ⟨1, _⟩ => exact (Nat.zero_add _).symm)]
  simp only [View.readAt_eq_ld, Memref.IsWhole.read_unread]
  rw [View.ld_unit_lit _ x0 (by decide), View.ld_unit_lit _ xs0 (by decide)]
  exact dot_at _ _ r l

end Cert.Proj
-- ==== Proof.InpRun.lean ====
/- The first projection: the kernel's result and the reference's are one expression of the arguments. -/
module

public import proofs.«01_k».proof.Proof.Inp
public import proofs.«01_k».proof.Proof.Gen.InpRefIdeal.Run
public import proofs.«01_k».proof.Proof.Gen.Pre_finite_key
public import proofs.«01_k».proof.Proof.Pre
public import proofs.«01_k».proof.Proof.Math
public import Idealize.ShloMosaic.Lib.Pipeline.Value
public import Idealize.ShloMosaic.Lib.StableHlo.ReadAt

@[expose] public section

set_option maxRecDepth 16384

noncomputable section

namespace Cert.Proj

open Idealize Idealize.ShloMosaic Idealize.ShloMosaic.TcCoe Idealize.SL.Sem Finset

section
open Cert.InpIdeal Cert.InpIdeal.Gen

variable (h : S16384x2048.Idx → EReal) (w : S2048x8000.Idx → EReal)

/-- The weights of a column of the result. -/
def wcol (n : Fin 8192) (d : Fin 2048) : EReal :=
  if n.val < 1280 then w (ix2 d ⟨n.val % 8000, by omega⟩)
  else if hn : n.val < 1536 then keyRow (fun a => w (ix2 d ⟨1280 + a.val, by omega⟩)) ⟨(n.val - 1280) % 256, by omega⟩
  else w (ix2 d ⟨n.val - 192, by omega⟩) * (if n.val < 3584 then qs else 1)

/-- The result. -/
def projAt (r : Fin 16384) (n : Fin 8192) : EReal := ∑ d : Fin 2048, h (ix2 r d) * wcol w n d

variable (m : (ℓ : Loc nD τ sig) → Buf (Elt Ideal) ℓ) (c : Dev nD) (t : Fin cfg0.N)

/-- The activations. -/
def E0 : S16384x2048.Idx → EReal := m ((c : Thread nD τ).loc main_arg0)

/-- The weights. -/
def E1 : S2048x8000.Idx → EReal := m ((c : Thread nD τ).loc main_arg1)

/-- The index maps of the windows at every grid point. -/
theorem idx_proj : ∀ t : Fin grid0.N, win0_0.index t = ![t.val % 16, 0]
    ∧ win0_1.index t = ![if 2 * (t.val / 16) ≤ 2 then 512 * (2 * (t.val / 16)) else 512 * (2 * (t.val / 16)) - 192, 0]
    ∧ win0_2.index t = ![if 2 * (t.val / 16) + 1 ≤ 2 then 512 * (2 * (t.val / 16) + 1) else 512 * (2 * (t.val / 16) + 1) - 192, 0]
    ∧ win0_3.index t = ![t.val % 16, t.val / 16] ∧ (grid0.coords t 0).val = t.val / 16 := by decide +kernel

/-- Every grid point is one of 128. -/
theorem proj_lt : t.val < 128 := lt_of_lt_of_le t.isLt (by decide)

/-- The weights as the region finds them. -/
theorem ew_at (n : Fin 8000) (d : Fin 2048) : (V m c main_v0 : Vec Ideal S8000x2048 .f32) (ix2 n d) = E1 m c (ix2 d n) := by
  unfold V
  after_reads_at
  rfl

/-- The window of activations at an index. -/
theorem e0_at (R : Fin 1024) (d : Fin 2048) : (iblk m c 0 t (ix2 R d) : EReal)
    = E0 m c (ix2 ⟨1024 * (t.val % 16) + R.val, by omega⟩ d) := by
  have h : (iblk m c 0 t (ix2 R d) : EReal) = (V m c main_arg0 : Vec Ideal S16384x2048 .bf16) (ix2 ⟨1024 * (t.val % 16) + R.val, by omega⟩ d) := by
    blk_ext [iblk, (idx_proj t).1]
  rw [h, V_main_arg0]
  rfl

/-- The first window of weights at an index. -/
theorem e1_at (q : Fin 512) (d : Fin 2048) (n : Fin 8000) (hn : n.val = (if 2 * (t.val / 16) ≤ 2 then 512 * (2 * (t.val / 16)) else 512 * (2 * (t.val / 16)) - 192) + q.val) :
    (iblk m c 1 t (ix2 q d) : EReal) = E1 m c (ix2 d n) := by
  have e0 : win0_1.index t 0 = _ := congrFun (idx_proj t).2.1 0
  have e1 : win0_1.index t 1 = 0 := congrFun (idx_proj t).2.1 1
  rw [← ew_at m c n d]
  refine congrArg (V m c main_v0 : Vec Ideal S8000x2048 .f32) (funext fun a => Fin.ext ?_)
  match a with
  | ⟨0, _⟩ => show win0_1.index t 0 + 1 * q.val = n.val; rw [e0, hn, Nat.one_mul]; rfl
  | ⟨1, _⟩ => show win0_1.index t 1 + 1 * d.val = d.val; rw [e1]; omega

/-- The second window of weights at an index. -/
theorem e2_at (q : Fin 512) (d : Fin 2048) (n : Fin 8000) (hn : n.val = (if 2 * (t.val / 16) + 1 ≤ 2 then 512 * (2 * (t.val / 16) + 1) else 512 * (2 * (t.val / 16) + 1) - 192) + q.val) :
    (iblk m c 2 t (ix2 q d) : EReal) = E1 m c (ix2 d n) := by
  have e0 : win0_2.index t 0 = _ := congrFun (idx_proj t).2.2.1 0
  have e1 : win0_2.index t 1 = 0 := congrFun (idx_proj t).2.2.1 1
  rw [← ew_at m c n d]
  refine congrArg (V m c main_v0 : Vec Ideal S8000x2048 .f32) (funext fun a => Fin.ext ?_)
  match a with
  | ⟨0, _⟩ => show win0_2.index t 0 + 1 * q.val = n.val; rw [e0, hn, Nat.one_mul]; rfl
  | ⟨1, _⟩ => show win0_2.index t 1 + 1 * d.val = d.val; rw [e1]; omega

/-- The column of the result that a grid point's row of weights is. -/
abbrev colN (l : Fin 1024) : Fin 8192 := ⟨1024 * (t.val / 16) + l.val, by have := proj_lt t; omega⟩

/-- A factor is the queries' or one. -/
theorem fct_eq (v : ℕ) (p : Prop) [Decidable p] (e : (3 ≤ v ∧ v < 7) ↔ p) : fct v = if p then qs else 1 := if_congr e rfl rfl

/-- The columns before the shared key. -/
theorem wcol_lo (n : Fin 8192) (d : Fin 2048) (hn : n.val < 1280) (n' : Fin 8000) (e : n.val = n'.val) : wcol w n d = w (ix2 d n') :=
  (if_pos hn).trans (congrArg (fun a => w (ix2 d a)) (Fin.ext (by show n.val % 8000 = n'.val; omega)))

/-- The columns of the shared key. -/
theorem wcol_key (n : Fin 8192) (d : Fin 2048) (h1 : ¬n.val < 1280) (h2 : n.val < 1536) (q : Fin 256) (e : n.val = 1280 + q.val) :
    wcol w n d = keyRow (fun a => w (ix2 d ⟨1280 + a.val, by omega⟩)) q :=
  ((if_neg h1).trans (dif_pos h2)).trans (congrArg (keyRow _) (Fin.ext (by show (n.val - 1280) % 256 = q.val; omega)))

/-- The columns after the shared key. -/
theorem wcol_hi (n : Fin 8192) (d : Fin 2048) (hn : ¬n.val < 1536) (n' : Fin 8000) (e : n.val = 192 + n'.val) :
    wcol w n d = w (ix2 d n') * (if n.val < 3584 then qs else 1) :=
  ((if_neg (by omega)).trans (dif_neg hn)).trans (congrArg (fun a => w (ix2 d a) * (if n.val < 3584 then qs else 1)) (Fin.ext (by show n.val - 192 = n'.val; omega)))

/-- The rows kept are columns of the weights. -/
theorem keepA_col (l : Fin 1024) (d : Fin 2048) (hk : (colN t l).val < 1280 ∨ ¬(colN t l).val < 1536) :
    keepA (grid0.coords t) (iblk m c 1 t) (iblk m c 2 t) l d = wcol (E1 m c) (colN t l) d := by
  have ht := proj_lt t
  have ec : (grid0.coords t 0).val = t.val / 16 := (idx_proj t).2.2.2.2
  have hl := l.isLt
  have hn : (colN t l).val = 1024 * (t.val / 16) + l.val := rfl
  unfold keepA
  rw [ec]
  by_cases hq : l.val < 512
  · rw [dif_pos hq]
    by_cases h1 : (colN t l).val < 1280
    · rw [e1_at m c t ⟨l.val, hq⟩ d ⟨(colN t l).val, by omega⟩ (by rw [if_pos (by omega)]; show (colN t l).val = 512 * (2 * (t.val / 16)) + l.val; omega),
        wcol_lo _ _ d h1 ⟨(colN t l).val, by omega⟩ rfl]
      unfold fct
      rw [if_neg (by omega), mul_one]
    · have h2 : ¬(colN t l).val < 1536 := hk.resolve_left h1
      rw [e1_at m c t ⟨l.val, hq⟩ d ⟨(colN t l).val - 192, by omega⟩ (by rw [if_neg (by omega)]; show (colN t l).val - 192 = 512 * (2 * (t.val / 16)) - 192 + l.val; omega),
        wcol_hi _ _ d h2 ⟨(colN t l).val - 192, by omega⟩ (by show (colN t l).val = 192 + ((colN t l).val - 192); omega), fct_eq _ ((colN t l).val < 3584) (by omega)]
  · rw [dif_neg hq]
    by_cases h1 : (colN t l).val < 1280
    · rw [e2_at m c t ⟨l.val - 512, by omega⟩ d ⟨(colN t l).val, by omega⟩ (by rw [if_pos (by omega)]; show (colN t l).val = 512 * (2 * (t.val / 16) + 1) + (l.val - 512); omega),
        wcol_lo _ _ d h1 ⟨(colN t l).val, by omega⟩ rfl]
      unfold fct
      rw [if_neg (by omega), mul_one]
    · have h2 : ¬(colN t l).val < 1536 := hk.resolve_left h1
      rw [e2_at m c t ⟨l.val - 512, by omega⟩ d ⟨(colN t l).val - 192, by omega⟩ (by rw [if_neg (by omega)]; show (colN t l).val - 192 = 512 * (2 * (t.val / 16) + 1) - 192 + (l.val - 512); omega),
        wcol_hi _ _ d h2 ⟨(colN t l).val - 192, by omega⟩ (by show (colN t l).val = 192 + ((colN t l).val - 192); omega), fct_eq _ ((colN t l).val < 3584) (by omega)]

/-- The rows kept with the shared key are columns of the weights. -/
theorem keepC_col (hj : t.val / 16 % 8 = 1) (l : Fin 1024) (d : Fin 2048) :
    keepC (grid0.coords t) (iblk m c 1 t) (iblk m c 2 t) l d = wcol (E1 m c) (colN t l) d := by
  have ht := proj_lt t
  have hn : (colN t l).val = 1024 * (t.val / 16) + l.val := rfl
  unfold keepC
  by_cases hk : 256 ≤ l.val ∧ l.val < 512
  · rw [dif_pos hk, wcol_key _ _ d (by omega) (by omega) ⟨l.val - 256, by omega⟩ (by show (colN t l).val = 1280 + (l.val - 256); omega)]
    exact congrArg (fun X => keyRow X _) (funext fun a => e1_at m c t ⟨256 + a.val, by omega⟩ d ⟨1280 + a.val, by omega⟩
      (by rw [if_pos (by omega)]; show 1280 + a.val = 512 * (2 * (t.val / 16)) + (256 + a.val); omega))
  · rw [dif_neg hk]
    exact keepA_col m c t l d (by omega)

/-- What a point that loads the weights leaves in the scratch. -/
theorem left_at (h0 : t.val % 16 = 0) (l : Fin 1024) (d : Fin 2048) : ((outsAt0 m c t.val t.isLt).2 (ix2 l d) : EReal) = wcol (E1 m c) (colN t l) d := by
  have ht := proj_lt t
  by_cases h1 : t.val / 16 % 8 = 1
  · rw [outsAt0_C m c t h0 h1]
    dsimp only
    have key := leftC (grid0.coords t) (iblk m c 0 t) (iblk m c 1 t) (iblk m c 2 t) c (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) l d
    exact key.trans (keepC_col m c t h1 l d)
  · rw [outsAt0_A m c t h0 h1]
    dsimp only
    have key := leftA (grid0.coords t) (iblk m c 0 t) (iblk m c 1 t) (iblk m c 2 t) c (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) l d
    exact key.trans (keepA_col m c t l d (by show 1024 * (t.val / 16) + l.val < 1280 ∨ ¬1024 * (t.val / 16) + l.val < 1536; omega))

/-- The scratch holds the columns of the point's block. -/
theorem carried : ∀ (n : ℕ) (hn : n < cfg0.N) (l : Fin 1024) (d : Fin 2048), ((outsAt0 m c n hn).2 (ix2 l d) : EReal) = wcol (E1 m c) (colN ⟨n, hn⟩ l) d := by
  intro n
  induction n with
  | zero => exact fun hn l d => left_at m c ⟨0, hn⟩ rfl l d
  | succ n ih =>
    intro hn l d
    by_cases h0 : (n + 1) % 16 = 0
    · exact left_at m c ⟨n + 1, hn⟩ h0 l d
    · have e : n / 16 = (n + 1) / 16 := by omega
      have ih' := ih (Nat.lt_of_succ_lt hn) l d
      have eN : colN ⟨n, Nat.lt_of_succ_lt hn⟩ l = colN ⟨n + 1, hn⟩ l := Fin.ext (by show 1024 * (n / 16) + l.val = 1024 * ((n + 1) / 16) + l.val; rw [e])
      rw [eN] at ih'
      rw [outsAt0_B m c ⟨n + 1, hn⟩ h0]
      exact ih'

/-- A place of a point's block. -/
theorem block_at (R : Fin 1024) (l : Fin 1024) : ((outsAt0 m c t.val t.isLt).1 (ix2 R l) : EReal)
    = projAt (E0 m c) (E1 m c) ⟨1024 * (t.val % 16) + R.val, by omega⟩ (colN t l) := by
  have ht := proj_lt t
  have hs := fun d => carried m c t.val t.isLt l d
  unfold projAt
  by_cases h0 : t.val % 16 = 0
  · by_cases h1 : t.val / 16 % 8 = 1
    · rw [outsAt0_C m c t h0 h1]
      dsimp only
      have key := outC (grid0.coords t) (iblk m c 0 t) (iblk m c 1 t) (iblk m c 2 t) c (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) R l
      exact key.trans (sum_congr rfl fun d _ => congrArg₂ (· * ·) (e0_at m c t R d) (keepC_col m c t h1 l d))
    · rw [outsAt0_A m c t h0 h1]
      dsimp only
      have key := outA (grid0.coords t) (iblk m c 0 t) (iblk m c 1 t) (iblk m c 2 t) c (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) R l
      exact key.trans (sum_congr rfl fun d _ => congrArg₂ (· * ·) (e0_at m c t R d) (keepA_col m c t l d (by show 1024 * (t.val / 16) + l.val < 1280 ∨ ¬1024 * (t.val / 16) + l.val < 1536; omega)))
  · rw [outsAt0_B m c t h0] at hs ⊢
    dsimp only at hs ⊢
    have key := outB (grid0.coords t) (iblk m c 0 t) (iblk m c 1 t) (iblk m c 2 t) (outsAt0 m c (t.val - 1) (Nat.lt_of_le_of_lt (Nat.sub_le _ _) t.isLt)).2 c (ms0_0 t) (hs0_0 t) (ms0_1 t) (hs0_1 t) (ms0_2 t) (hs0_2 t) (ms0_3 t) (hs0_3 t) scM0_0 (Memref.isWhole_whole _) (fun h => h0 ((hcond0_0 t).mp h)) R l
    exact key.trans (sum_congr rfl fun d _ => congrArg₂ (· * ·) (e0_at m c t R d) (hs d))

/-- The kernel's result. -/
theorem proj_out : ((dats m 0 c).arrAt 3 cfg0.N : Vec Ideal S16384x8192 .bf16) = fun i => projAt (E0 m c) (E1 m c) (i 0) (i 1) := by
  refine (dats m 0 c).arrAt_eq_of_covers 3 _ (by decide +kernel) fun t hf' y => ?_
  blk_simp
  rw [after0_3]
  have ht := proj_lt t
  have e := (idx_proj t).2.2.2.1
  obtain ⟨R, k, rfl⟩ : ∃ (R : Fin 1024) (k : Fin 1024), y = ix2 R k := ⟨y 0, y 1, eq_ix2 y⟩
  have e0 : win0_3.index t 0 = t.val % 16 := congrFun e 0
  have e1 : win0_3.index t 1 = t.val / 16 := congrFun e 1
  have h0 : ((win0_3.blk t).view.emb (ix2 R k) 0 : Fin 16384) = (⟨1024 * (t.val % 16) + R.val, by omega⟩ : Fin 16384) := Fin.ext (by
    show win0_3.index t 0 * 1024 + 1 * R.val = 1024 * (t.val % 16) + R.val; omega)
  have h1 : ((win0_3.blk t).view.emb (ix2 R k) 1 : Fin 8192) = colN t k := Fin.ext (by
    show win0_3.index t 1 * 1024 + 1 * k.val = 1024 * (t.val / 16) + k.val; omega)
  exact (block_at m c t R k).trans (congrArg₂ (projAt (E0 m c) (E1 m c)) h0 h1).symm

/-- After a run the result's buffer holds the blocks written back and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end
section
open Cert.InpRefIdeal Cert.InpRefIdeal.Gen

variable (h : S16384x2048.Idx → EReal) (w : S2048x8000.Idx → EReal)

/-- The product of the activations and the weights. -/
def zT (h : Vec Ideal S16384x2048 .bf16) (w : Vec Ideal S2048x8000 .f32) : FVec Ideal S16384x8000 .f32 :=
  Host.dotGeneral dot_S16384x2048_S2048x8000_S16384x8000_1_0_0_1_n_n none (φ₂ := .f32) (extf .f32 h bitsLt_bf16_f32) w

/-- The shared key rotated. -/
def rotT (z : FVec Ideal S16384x8000 .f32) : FVec Ideal S16384x64 .f32 :=
  concatenate S16384x64 1 [⟨S16384x32, Host.negf (extractStridedSlice S16384x32 ![0, 32] (extractStridedSlice S16384x64 ![0, 1280] z slices_S16384x8000_S16384x64_0_1280) slices_S16384x64_S16384x32_0_32)⟩,
    ⟨S16384x32, extractStridedSlice S16384x32 ![0, 0] (extractStridedSlice S16384x64 ![0, 1280] z slices_S16384x8000_S16384x64_0_1280) slices_S16384x64_S16384x32_0_0⟩] concatenates_S16384x32_S16384x32_S16384x64_d1

/-- The scale of the queries. -/
def sclT : FVec Ideal S_ .f32 := id (Host.divf (constant S_ .f32 0x3E000000#32) (Host.log (constant S_ .f32 0x40000000#32)))

/-- The result from the product. -/
def pO (z : FVec Ideal S16384x8000 .f32) : FVec Ideal S16384x8192 .bf16 :=
  truncf .bf16 (concatenate S16384x8192 1 [⟨S16384x1344, extractStridedSlice S16384x1344 ![0, 0] z slices_S16384x8000_S16384x1344_0_0⟩,
    ⟨S16384x64, extractStridedSlice S16384x64 ![0, 1280] z slices_S16384x8000_S16384x64_0_1280⟩, ⟨S16384x64, rotT z⟩, ⟨S16384x64, rotT z⟩,
    ⟨S16384x2048, mulf (extractStridedSlice S16384x2048 ![0, 1344] z slices_S16384x8000_S16384x2048_0_1344) (broadcastInDim S16384x2048 ![] bcast_S_S16384x2048 sclT)⟩,
    ⟨S16384x4608, extractStridedSlice S16384x4608 ![0, 3392] z slices_S16384x8000_S16384x4608_0_3392⟩]
    concatenates_S16384x1344_S16384x64_S16384x64_S16384x64_S16384x2048_S16384x4608_S16384x8192_d1) bitsLt_bf16_f32

/-- The scale is the kernel's factor. -/
theorem scl_eq : (sclT ix0 : EReal) = qs := by
  have hl : Real.log 2 ≠ 0 := (Real.log_pos (by norm_num)).ne'
  have h2 : (Ideal.ofBits .f32 0x40000000#32 : EReal) = ((2 : ℝ) : EReal) := by
    simp [Ideal.ofBits, Ideal.ieee, -EReal.coe_mul]
    norm_num
  have h8 : (Ideal.ofBits .f32 0x3E000000#32 : EReal) = ((1 / 8 : ℝ) : EReal) := by
    simp [Ideal.ofBits, Ideal.ieee, -EReal.coe_mul]
    norm_num
  have hq : qs = (((8 * Real.log 2)⁻¹ : ℝ) : EReal) := IdealRules.named_const.ideal_named_scalar _ _ _ _ rfl
  rw [hq]
  show Ideal.div (Ideal.ofBits .f32 0x3E000000#32) (Ideal.log (Ideal.ofBits .f32 0x40000000#32)) = _
  rw [h2, h8, Ideal.log_coe, if_neg (by norm_num), Ideal.div_coe hl, ← EReal.coe_mul]
  congr 1
  field_simp

/-- The product at an index. -/
theorem zT_at (r : Fin 16384) (n : Fin 8000) : (zT h w (ix2 r n) : EReal) = ∑ d : Fin 2048, h (ix2 r d) * w (ix2 d n) := by
  pointwise [zT]

/-- The result from a row of the product, piece by piece. -/
def pieces (Z : Fin 8000 → EReal) (n : Fin 8192) : EReal :=
  if h : n.val < 1344 then Z ⟨n.val, by omega⟩
  else if h : n.val - 1344 < 64 then Z ⟨1280 + (n.val - 1344), by omega⟩
  else if h : n.val - 1344 - 64 < 64 then
    if h' : n.val - 1344 - 64 < 32 then -Z ⟨1280 + (32 + (n.val - 1344 - 64)), by omega⟩ else Z ⟨1280 + (n.val - 1344 - 64 - 32), by omega⟩
  else if h : n.val - 1344 - 64 - 64 < 64 then
    if h' : n.val - 1344 - 64 - 64 < 32 then -Z ⟨1280 + (32 + (n.val - 1344 - 64 - 64)), by omega⟩ else Z ⟨1280 + (n.val - 1344 - 64 - 64 - 32), by omega⟩
  else if h : n.val - 1344 - 64 - 64 - 64 < 2048 then Z ⟨1344 + (n.val - 1344 - 64 - 64 - 64), by omega⟩ * (sclT ix0 : EReal)
  else Z ⟨3392 + (n.val - 1344 - 64 - 64 - 64 - 2048), by omega⟩

/-- The result at an index. -/
theorem pO_at (z : S16384x8000.Idx → EReal) (r : Fin 16384) (n : Fin 8192) : (pO z (ix2 r n) : EReal) = pieces (fun a => z (ix2 r a)) n := by
  unfold pieces
  pointwise [pO, rotT]

/-- A sum of products with weights negated is the sum negated, for reals. -/
theorem sum_neg (f g : Fin 2048 → EReal) (hf : ∀ d, f d = (((f d).toReal : ℝ) : EReal)) (hg : ∀ d, g d = (((g d).toReal : ℝ) : EReal)) :
    ∑ d, f d * (0 - g d) = -∑ d, f d * g d := by
  have e1 : ∀ d, f d * (0 - g d) = ((-((f d).toReal * (g d).toReal) : ℝ) : EReal) := fun d => by
    rw [hf d, hg d, zero_sub, ← EReal.coe_neg, ← EReal.coe_mul, EReal.toReal_coe, EReal.toReal_coe, mul_neg]
  have e2 : ∀ d, f d * g d = (((f d).toReal * (g d).toReal : ℝ) : EReal) := fun d => by
    rw [hf d, hg d, ← EReal.coe_mul, EReal.toReal_coe, EReal.toReal_coe]
  rw [sum_congr rfl fun d _ => e1 d, sum_congr rfl fun d _ => e2 d, ← Cert.Att.coe_sum_real, ← Cert.Att.coe_sum_real, ← EReal.coe_neg, Finset.sum_neg_distrib]

/-- A sum of products with scaled weights is the sum scaled. -/
theorem sum_qs (f g : Fin 2048 → EReal) : ∑ d, f d * (g d * qs) = (∑ d, f d * g d) * qs := by
  have hq : qs = (((8 * Real.log 2)⁻¹ : ℝ) : EReal) := IdealRules.named_const.ideal_named_scalar _ _ _ _ rfl
  have h0 : (0 : ℝ) ≤ (8 * Real.log 2)⁻¹ := inv_nonneg.mpr (mul_nonneg (by norm_num) (Real.log_pos (by norm_num)).le)
  rw [hq, mul_comm (∑ d, f d * g d), Cert.Att.mul_sum_real _ h0]
  exact sum_congr rfl fun d _ => by rw [← mul_assoc, mul_comm]

/-- The columns of the shared key and of its rotation. -/
theorem key_sum (r : Fin 16384) (hh : ∀ d, h (ix2 r d) = (((h (ix2 r d)).toReal : ℝ) : EReal))
    (hw : ∀ (a : Fin 64) (d : Fin 2048), w (ix2 d ⟨1280 + a.val, by omega⟩) = (((w (ix2 d ⟨1280 + a.val, by omega⟩)).toReal : ℝ) : EReal)) (q : Fin 256) :
    ∑ d : Fin 2048, h (ix2 r d) * keyRow (fun a => w (ix2 d ⟨1280 + a.val, by omega⟩)) q
      = if q.val < 128 then (zT h w (ix2 r ⟨1280 + q.val % 64, by omega⟩) : EReal)
        else if hq : q.val % 64 < 32 then -(zT h w (ix2 r ⟨1280 + (32 + q.val % 64), by omega⟩) : EReal) else (zT h w (ix2 r ⟨1280 + (q.val % 64 - 32), by omega⟩) : EReal) := by
  by_cases h1 : q.val < 128
  · rw [if_pos h1, zT_at]
    exact sum_congr rfl fun d _ => congrArg _ (keyRow_lo _ q h1)
  · rw [if_neg h1]
    by_cases h2 : q.val % 64 < 32
    · rw [dif_pos h2, zT_at, ← sum_neg _ _ hh (fun d => hw ⟨32 + q.val % 64, by omega⟩ d)]
      exact sum_congr rfl fun d _ => congrArg _ (keyRow_neg _ q h1 h2)
    · rw [dif_neg h2, zT_at]
      exact sum_congr rfl fun d _ => congrArg _ (keyRow_hi _ q h1 h2)

/-- The reference's result. -/
theorem pO_proj (hh : ∀ i, h i = (((h i).toReal : ℝ) : EReal))
    (hw : ∀ (a : Fin 64) (d : Fin 2048), w (ix2 d ⟨1280 + a.val, by omega⟩) = (((w (ix2 d ⟨1280 + a.val, by omega⟩)).toReal : ℝ) : EReal)) :
    pO (zT h w) = fun i => projAt h w (i 0) (i 1) := by
  funext i
  obtain ⟨r, n, rfl⟩ : ∃ (r : Fin 16384) (n : Fin 8192), i = ix2 r n := ⟨i 0, i 1, eq_ix2 i⟩
  refine (pO_at _ r n).trans ?_
  show pieces _ n = projAt h w r n
  have hn := n.isLt
  have e : ∀ (a b : ℕ) (ha : a < 8000) (hb : b < 8000), a = b → (zT h w (ix2 r ⟨a, ha⟩) : EReal) = zT h w (ix2 r ⟨b, hb⟩) := fun a b ha hb h => by subst h; rfl
  unfold projAt pieces
  by_cases h1 : n.val < 1280
  · rw [dif_pos (by omega)]
    refine (zT_at h w r ⟨n.val, by omega⟩).trans ?_
    exact sum_congr rfl fun d _ => congrArg _ (wcol_lo w n d h1 ⟨n.val, by omega⟩ rfl).symm
  · by_cases h2 : n.val < 1536
    · have hq : n.val = 1280 + (⟨n.val - 1280, by omega⟩ : Fin 256).val := by show n.val = 1280 + (n.val - 1280); omega
      rw [sum_congr rfl fun d _ => congrArg (fun a => h (ix2 r d) * a) (wcol_key w n d h1 h2 _ hq), key_sum h w r (fun d => hh _) hw]
      by_cases h3 : n.val < 1408
      · rw [if_pos (by show n.val - 1280 < 128; omega)]
        by_cases h4 : n.val < 1344
        · rw [dif_pos h4]
          exact e _ _ _ _ (by show n.val = 1280 + (n.val - 1280) % 64; omega)
        · rw [dif_neg h4, dif_pos (by omega)]
          exact e _ _ _ _ (by show 1280 + (n.val - 1344) = 1280 + (n.val - 1280) % 64; omega)
      · rw [if_neg (by show ¬n.val - 1280 < 128; omega), dif_neg (by omega), dif_neg (by omega)]
        by_cases h4 : (n.val - 1280) % 64 < 32
        · rw [dif_pos h4]
          by_cases h5 : n.val < 1472
          · rw [dif_pos (by omega), dif_pos (by omega)]
            exact congrArg (fun a : EReal => -a) (e _ _ _ _ (by show _ = 1280 + (32 + (n.val - 1280) % 64); omega))
          · rw [dif_neg (by omega), dif_pos (by omega), dif_pos (by omega)]
            exact congrArg (fun a : EReal => -a) (e _ _ _ _ (by show _ = 1280 + (32 + (n.val - 1280) % 64); omega))
        · rw [dif_neg h4]
          by_cases h5 : n.val < 1472
          · rw [dif_pos (by omega), dif_neg (by omega)]
            exact e _ _ _ _ (by show _ = 1280 + ((n.val - 1280) % 64 - 32); omega)
          · rw [dif_neg (by omega), dif_pos (by omega), dif_neg (by omega)]
            exact e _ _ _ _ (by show _ = 1280 + ((n.val - 1280) % 64 - 32); omega)
    · have hq : n.val = 192 + (⟨n.val - 192, by omega⟩ : Fin 8000).val := by show n.val = 192 + (n.val - 192); omega
      rw [sum_congr rfl fun d _ => congrArg (fun a => h (ix2 r d) * a) (wcol_hi w n d h2 _ hq), dif_neg (by omega), dif_neg (by omega), dif_neg (by omega), dif_neg (by omega)]
      by_cases h3 : n.val < 3584
      · rw [dif_pos (by omega), scl_eq, if_pos h3, sum_qs, ← zT_at]
        exact congrArg (fun a : EReal => a * qs) (e _ _ _ _ (by omega))
      · rw [dif_neg (by omega), if_neg h3]
        simp only [mul_one]
        rw [← zT_at]
        exact e _ _ _ _ (by omega)

end

section
open Cert.Pre_finite_key

/-- Under the precondition every activation and every weight of the shared key is a real. -/
theorem key_real (a0 : FVec Ideal S16384x2048 .bf16) (a1 : FVec Ideal S2048x8000 .f32) (h : fn a0 a1 = fun _ => 1#1) :
    (∀ i, (a0 i : EReal) = ((EReal.toReal (a0 i) : ℝ) : EReal))
      ∧ ∀ (a : Fin 64) (d : Fin 2048), (a1 (ix2 d ⟨1280 + a.val, by omega⟩) : EReal) = ((EReal.toReal (a1 (ix2 d ⟨1280 + a.val, by omega⟩)) : ℝ) : EReal) := by
  have hs : Subsingleton S_.Idx := ⟨fun x y => funext fun a => a.elim0⟩
  obtain ⟨e0, e1⟩ := Cert.Att.and_one _ _ (congrFun h (fun a => a.elim0))
  refine ⟨fun i => Cert.Att.real_of_lt _ (Host.reduce_andi_all _ _ _ _ _ e0 i), fun a d => ?_⟩
  have key := Cert.Att.real_of_lt _ (Host.reduce_andi_all _ _ _ _ _ e1 (ix2 d a : S2048x64.Idx))
  have ex : (extractStridedSlice S2048x64 ![0, 1280] a1 Facts.slices_S2048x8000_S2048x64_0_1280 (ix2 d a : S2048x64.Idx) : EReal) = a1 (ix2 d ⟨1280 + a.val, by omega⟩) := by
    pointwise
  dsimp only at key
  rwa [ex] at key

end
end Cert.Proj
-- ==== Proof.Que.lean ====
/- The projection of the queries: what a grid point writes, from its windows. -/
module

public import proofs.«01_k».proof.Proof.Gen.QueIdeal.Value
public import Idealize.ShloMosaic.Lib.Pointwise
public import Idealize.ShloMosaic.Lib.KernelVsHost
public import Idealize.ShloMosaic.Lib.Pipeline.ValueKit
public import Idealize.ShloMosaic.Lib.StableHlo.ReadAt
public import Idealize.ShloMosaic.Lib.Pipeline.ReadBack
public import Idealize.ShloMosaic.Lib.WritesUnit

@[expose] public section

set_option maxRecDepth 16384

noncomputable section

namespace Cert.Query

open Idealize Idealize.ShloMosaic Idealize.ShloMosaic.TcCoe Finset

/-- A root mean square normalisation of a row of 768, at one place. -/
def latent (z : Fin 768 → EReal) (g : EReal) (j : Fin 768) : EReal :=
  z j * Ideal.rsqrt (Ideal.div (∑ i, z i * z i) (Ideal.ofBits .f32 0x44400000#32) + Ideal.ofBits .f32 0x358637BD#32) * g

/-- A row of heads of 64 turned by an angle for each pair of places 32 apart. -/
def turned (a : Fin 1024 → EReal) (cs sn : Fin 32 → EReal) (n : Fin 1024) : EReal :=
  a n * cs ⟨n.val % 32, by omega⟩ + (if n.val % 64 < 32 then -a ⟨(n.val + 32) % 1024, by omega⟩ else a ⟨n.val - 32, by omega⟩) * sn ⟨n.val % 32, by omega⟩

open Cert.QueIdeal Cert.QueIdeal.Gen

/-- The lanes in the first half of their head. -/
def firstT : IVec S1024x128 1 := k0_pay9 64#32 k0_pay6 k0_pay7 k0_pay8

/-- A lane's place in its head decides its half. -/
theorem first_at (R : Fin 1024) (l : Fin 128) : firstT (ix2 R l) = if l.val % 64 < 32 then 1#1 else 0#1 := by
  pointwise [firstT, k0_pay9, k0_pay6, k0_pay7, k0_pay8]
  revert l
  decide

section
variable (x0 : Vec Ideal S1024x768 .bf16) (x1 : Vec Ideal S1x768 .f32) (x2 : Vec Ideal S2048x768 .bf16) (x3 : Vec Ideal S1024x768 .bf16)

/-- The normalised latent rows. -/
theorem lat_at (R : Fin 1024) (j : Fin 768) : (k0_pay2 x0 x1 (ix2 R j) : EReal) = latent (fun j => x0 (ix2 R j)) (x1 (ix2 0 j)) j := by
  pointwise [k0_pay2]
  rfl

/-- The queries' first columns. -/
theorem nope_at (R : Fin 1024) (n : Fin 2048) : (k0_pay4 x0 x1 x2 (ix2 R n) : EReal) = ∑ j, latent (fun j => x0 (ix2 R j)) (x1 (ix2 0 j)) j * x2 (ix2 n j) := by
  unfold k0_pay4
  rw [← sum_congr rfl fun j _ => congrArg (fun a : EReal => a * x2 (ix2 n j)) (lat_at x0 x1 R j)]
  generalize k0_pay2 x0 x1 = v
  pointwise []

/-- The queries' last columns before they are turned. -/
theorem rope_at (R : Fin 1024) (n : Fin 1024) : (k0_pay3 x0 x1 x3 (ix2 R n) : EReal) = ∑ j, latent (fun j => x0 (ix2 R j)) (x1 (ix2 0 j)) j * x3 (ix2 n j) := by
  unfold k0_pay3
  rw [← sum_congr rfl fun j _ => congrArg (fun a : EReal => a * x3 (ix2 n j)) (lat_at x0 x1 R j)]
  generalize k0_pay2 x0 x1 = v
  pointwise []
end

section
variable (a : FVec Ideal S1024x1024 .f32) (cs sn : Vec Ideal S1024x128 .f32)

/-- A block of 128 lanes turned. -/
def turnT (x : FVec Ideal S1024x128 .f32) : FVec Ideal S1024x128 .f32 :=
  addf (mulf x (k0_pay5 cs)) (mulf (select firstT (dynamicRotate 1 96#32 none x rotates_S1024x128_d1) (dynamicRotate 1 32#32 none x rotates_S1024x128_d1))
    (k0_pay10 64#32 k0_pay6 k0_pay7 k0_pay8 sn sn))

/-- The sines with the sign of the half. -/
theorem sine_at (R : Fin 1024) (l : Fin 128) :
    (k0_pay10 (F := Ideal) 64#32 k0_pay6 k0_pay7 k0_pay8 sn sn (ix2 R l) : EReal)
      = if l.val % 64 < 32 then -(sn (ix2 R l) : EReal) else sn (ix2 R l) := by
  have e : k0_pay10 (F := Ideal) 64#32 k0_pay6 k0_pay7 k0_pay8 sn sn (ix2 R l)
      = if firstT (ix2 R l) = 1#1 then subf (broadcast S1024x128 (Scalar.ofBits .f32 0x00000000#32)) (shapeCast S1024x128 sn shapeCasts_S1024x128_S1024x128) (ix2 R l) else shapeCast S1024x128 sn shapeCasts_S1024x128_S1024x128 (ix2 R l) := rfl
  rw [e, first_at, shapeCast_id]
  by_cases h : l.val % 64 < 32
  · rw [if_pos h, if_pos rfl, if_pos h]
    pointwise []
    exact zero_sub _
  · rw [if_neg h, if_neg (by decide), if_neg h]

/-- A block of lanes turned, at an index. -/
theorem turn_at (x : FVec Ideal S1024x128 .f32) (R : Fin 1024) (l : Fin 128) :
    (turnT cs sn x (ix2 R l) : EReal) = x (ix2 R l) * cs (ix2 R l)
      + (if l.val % 64 < 32 then -(x (ix2 R ⟨(l.val + 32) % 128, by omega⟩) : EReal) else x (ix2 R ⟨l.val - 32, by omega⟩)) * sn (ix2 R l) := by
  have e : (turnT cs sn x (ix2 R l) : EReal) = x (ix2 R l) * (k0_pay5 cs (ix2 R l) : EReal)
      + (if firstT (ix2 R l) = 1#1 then dynamicRotate 1 96#32 none x rotates_S1024x128_d1 (ix2 R l) else dynamicRotate 1 32#32 none x rotates_S1024x128_d1 (ix2 R l))
        * k0_pay10 (F := Ideal) 64#32 k0_pay6 k0_pay7 k0_pay8 sn sn (ix2 R l) := rfl
  have ec : (k0_pay5 cs : Vec Ideal S1024x128 .f32) = cs := shapeCast_id _ _
  rw [e, ec, sine_at, first_at]
  by_cases h : l.val % 64 < 32
  · rw [if_pos h, if_pos rfl, if_pos h, if_pos h, dynamicRotate_apply _ _ _ _ _ (ix2 R ⟨(l.val + 32) % 128, by omega⟩)
      (fun b => by
        match b with
        | ⟨0, _⟩ => rfl
        | ⟨1, _⟩ => show (l.val + 32) % 128 = (l.val + 128 - 96 % 128) % 128; omega),
      mul_neg, neg_mul]
  · rw [if_neg h, if_neg (by decide), if_neg h, if_neg h, dynamicRotate_apply _ _ _ _ _ (ix2 R ⟨l.val - 32, by omega⟩)
      (fun b => by
        match b with
        | ⟨0, _⟩ => rfl
        | ⟨1, _⟩ => show l.val - 32 = (l.val + 128 - 32 % 128) % 128; omega)]

/-- Eight blocks of 128 lanes side by side. -/
def sideT (p : Fin 8 → FVec Ideal S1024x128 .f32) : FVec Ideal S1024x1024 .f32 :=
  concatenate S1024x1024 1 [⟨S1024x128, p 0⟩, ⟨S1024x128, p 1⟩, ⟨S1024x128, p 2⟩, ⟨S1024x128, p 3⟩, ⟨S1024x128, p 4⟩, ⟨S1024x128, p 5⟩, ⟨S1024x128, p 6⟩, ⟨S1024x128, p 7⟩] concatenates_S1024x128_S1024x128_S1024x128_S1024x128_S1024x128_S1024x128_S1024x128_S1024x128_S1024x1024_d1

/-- Eight blocks side by side, at an index. -/
theorem side_at (p : Fin 8 → FVec Ideal S1024x128 .f32) (R : Fin 1024) (q : Fin 8) (l : Fin 128) :
    (sideT p (ix2 R ⟨128 * q.val + l.val, by omega⟩) : EReal) = p q (ix2 R l) := by
  have hl := l.isLt
  fin_cases q
  all_goals
    pointwise [sideT]
    repeat rw [dif_neg (by omega)]
    try rw [dif_pos (by omega)]
    try exact congrArg _ (congrArg (ix2 R) (Fin.ext (by dsimp only; omega)))

/-- The blocks of 128 lanes of the product. -/
def sliceT (q : Fin 8) : FVec Ideal S1024x128 .f32 :=
  match q with
  | 0 => extractStridedSlice S1024x128 ![0, 0] a slices_S1024x1024_o0_0_S1024x128
  | 1 => extractStridedSlice S1024x128 ![0, 128] a slices_S1024x1024_o0_128_S1024x128
  | 2 => extractStridedSlice S1024x128 ![0, 256] a slices_S1024x1024_o0_256_S1024x128
  | 3 => extractStridedSlice S1024x128 ![0, 384] a slices_S1024x1024_o0_384_S1024x128
  | 4 => extractStridedSlice S1024x128 ![0, 512] a slices_S1024x1024_o0_512_S1024x128
  | 5 => extractStridedSlice S1024x128 ![0, 640] a slices_S1024x1024_o0_640_S1024x128
  | 6 => extractStridedSlice S1024x128 ![0, 768] a slices_S1024x1024_o0_768_S1024x128
  | 7 => extractStridedSlice S1024x128 ![0, 896] a slices_S1024x1024_o0_896_S1024x128

/-- A block of lanes of the product, at an index. -/
theorem slice_at (q : Fin 8) (R : Fin 1024) (l : Fin 128) : (sliceT a q (ix2 R l) : EReal) = a (ix2 R ⟨128 * q.val + l.val, by omega⟩) := by
  fin_cases q
  all_goals
    dsimp only [sliceT]
    pointwise []

/-- The lanes of a row turned, from the product, where the angles repeat after 32. -/
theorem side_turned (R : Fin 1024) (C S : Fin 32 → EReal) (hc : ∀ l : Fin 128, (cs (ix2 R l) : EReal) = C ⟨l.val % 32, by omega⟩)
    (hs : ∀ l : Fin 128, (sn (ix2 R l) : EReal) = S ⟨l.val % 32, by omega⟩) (n : Fin 1024) :
    (sideT (fun q => turnT cs sn (sliceT a q)) (ix2 R n) : EReal) = turned (fun n => a (ix2 R n)) C S n := by
  obtain ⟨q, l, rfl⟩ : ∃ (q : Fin 8) (l : Fin 128), n = ⟨128 * q.val + l.val, by omega⟩ :=
    ⟨⟨n.val / 128, by omega⟩, ⟨n.val % 128, by omega⟩, Fin.ext (by show n.val = 128 * (n.val / 128) + n.val % 128; omega)⟩
  have hm : (128 * q.val + l.val) % 32 = l.val % 32 := by omega
  have hm' : (128 * q.val + l.val) % 64 = l.val % 64 := by omega
  rw [side_at, turn_at, hc, hs, slice_at, slice_at, slice_at]
  unfold turned
  dsimp only
  simp only [hm, hm']
  by_cases h : l.val % 64 < 32
  · rw [if_pos h, if_pos h]
    have e : (⟨128 * q.val + (l.val + 32) % 128, by omega⟩ : Fin 1024) = ⟨(128 * q.val + l.val + 32) % 1024, by omega⟩ := Fin.ext (by dsimp only; omega)
    rw [e]
  · rw [if_neg h, if_neg h]
    have e : (⟨128 * q.val + (l.val - 32), by omega⟩ : Fin 1024) = ⟨128 * q.val + l.val - 32, by omega⟩ := Fin.ext (by dsimp only; omega)
    rw [e]

end

section
variable (c : Dev nD) (i : grid0.Coords) (arg1 : Memref sig .tc .vmem S1024x768 .bf16) (harg1 : arg1.IsWhole) (arg2 : Memref sig .tc .vmem S1x768 .f32) (harg2 : arg2.IsWhole)
  (arg3 : Memref sig .tc .vmem S2048x768 .bf16) (harg3 : arg3.IsWhole) (arg4 : Memref sig .tc .vmem S1024x768 .bf16) (harg4 : arg4.IsWhole)
  (arg5 : Memref sig .tc .vmem S1024x128 .f32) (harg5 : arg5.IsWhole) (arg6 : Memref sig .tc .vmem S1024x128 .f32) (harg6 : arg6.IsWhole)
  (arg7 : Memref sig .tc .vmem S1024x2048 .bf16) (harg7 : arg7.IsWhole) (arg8 : Memref sig .tc .vmem S1024x1024 .bf16) (harg8 : arg8.IsWhole)
  (x0 : Vec Ideal S1024x768 .bf16) (x1 : Vec Ideal S1x768 .f32) (x2 : Vec Ideal S2048x768 .bf16) (x3 : Vec Ideal S1024x768 .bf16) (x4 x5 : Vec Ideal S1024x128 .f32)

/-- The first result's block at an index. -/
theorem out6_at (R : Fin 1024) (n : Fin 2048) :
    (out0_A_6 c i arg1 harg1 arg2 harg2 arg3 harg3 arg4 harg4 arg5 harg5 arg6 harg6 arg7 harg7 arg8 harg8 x0 x1 x2 x3 x4 x5 (ix2 R n) : EReal)
      = ∑ j, latent (fun j => x0 (ix2 R j)) (x1 (ix2 0 j)) j * x2 (ix2 n j) := by
  unfold out0_A_6 kernelRun0_A
  dsimp only
  rw [View.read_writes_cons_unit_of_mem (x := (ix2 R n : S1024x2048.Idx)) (heq := rfl)
      (hx := fun a => by
        match a with
        | ⟨0, _⟩ => exact (Nat.zero_add _).symm
        | ⟨1, _⟩ => exact (Nat.zero_add _).symm)]
  simp only [View.readAt_eq_ld, Memref.IsWhole.read_unread]
  rw [View.ld_unit_lit _ x0 (by decide), View.ld_unit_lit _ x1 (by decide), View.ld_unit_lit _ x2 (by decide)]
  exact nope_at x0 x1 x2 R n

/-- The second result's block at an index. -/
theorem out7_at (R : Fin 1024) (C S : Fin 32 → EReal) (hc : ∀ l : Fin 128, (x4 (ix2 R l) : EReal) = C ⟨l.val % 32, by omega⟩)
    (hs : ∀ l : Fin 128, (x5 (ix2 R l) : EReal) = S ⟨l.val % 32, by omega⟩) (n : Fin 1024) :
    (out0_A_7 c i arg1 harg1 arg2 harg2 arg3 harg3 arg4 harg4 arg5 harg5 arg6 harg6 arg7 harg7 arg8 harg8 x0 x1 x2 x3 x4 x5 (ix2 R n) : EReal)
      = turned (fun n => ∑ j, latent (fun j => x0 (ix2 R j)) (x1 (ix2 0 j)) j * x3 (ix2 n j)) C S n := by
  unfold out0_A_7 kernelRun0_A kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  unfold kernelRun0_A.sl.r kernelRun0_A.sl.r_1
  dsimp only
  rw [View.read_writes_cons_unit_of_mem (x := (ix2 R n : S1024x1024.Idx)) (heq := rfl)
      (hx := fun a => by
        match a with
        | ⟨0, _⟩ => exact (Nat.zero_add _).symm
        | ⟨1, _⟩ => exact (Nat.zero_add _).symm)]
  simp only [View.readAt_eq_ld, Memref.IsWhole.read_unread]
  rw [View.ld_unit_lit _ x0 (by decide), View.ld_unit_lit _ x1 (by decide), View.ld_unit_lit _ x3 (by decide), View.ld_unit_lit _ x4 (by decide), View.ld_unit_lit _ x5 (by decide)]
  refine (show _ = (sideT (fun q => turnT x4 x5 (sliceT (k0_pay3 x0 x1 x3) q)) (ix2 R n) : EReal) from rfl).trans ?_
  rw [side_turned (k0_pay3 x0 x1 x3) x4 x5 R C S hc hs n]
  exact congrArg (fun a => turned a C S n) (funext fun n => rope_at x0 x1 x3 R n)

end

end Cert.Query
-- ==== Proof.QueRun.lean ====
/- The projection of the queries: the kernel's two results and the reference's are one expression each of the arguments. -/
module

public import proofs.«01_k».proof.Proof.Que
public import proofs.«01_k».proof.Proof.Gen.QueRefIdeal.Run

@[expose] public section

set_option maxRecDepth 16384

noncomputable section

namespace Cert.Query

open Idealize Idealize.ShloMosaic Idealize.ShloMosaic.TcCoe Finset

/-- A column of the queries, before its head's last places are turned. -/
def queryAt (z : Cert.QueIdeal.S16384x8192.Idx → EReal) (g : Cert.QueIdeal.S768.Idx → EReal) (w : Cert.QueIdeal.S768x3072.Idx → EReal) (r : Fin 16384) (n : Fin 3072) : EReal :=
  ∑ j : Fin 768, latent (fun j => z (ix2 r ⟨j.val, by omega⟩)) (g (ix1 j)) j * w (ix2 j n)

/-- The columns of each head's first 128 places. -/
def nopeAt (q : Fin 16384 → Fin 3072 → EReal) (r : Fin 16384) (n : Fin 2048) : EReal :=
  q r ⟨n.val / 128 * 192 + n.val % 128, by omega⟩

/-- The columns of each head's last 64 places, turned by the angles of the row's position. -/
def ropeAt (q : Fin 16384 → Fin 3072 → EReal) (θ : Fin 4096 → Fin 32 → EReal) (r : Fin 16384) : Fin 1024 → EReal :=
  turned (fun n => q r ⟨n.val / 64 * 192 + (128 + n.val % 64), by omega⟩) (fun d => Ideal.cos (θ ⟨r.val % 4096, by omega⟩ d)) (fun d => Ideal.sin (θ ⟨r.val % 4096, by omega⟩ d))

section
open Cert.QueRefIdeal Cert.QueRefIdeal.Gen

variable (a0 : Vec Ideal S16384x8192 .bf16) (a1 : Vec Ideal S768 .f32) (a2 : Vec Ideal S768x3072 .f32)

/-- The reference's product. -/
def qP : FVec Ideal S16384x3072 .f32 := Host.dotGeneral dot_S16384x768_S768x3072_S16384x3072_1_0_0_1_n_n none (φ₂ := .f32) (mulf (mulf (extf .f32 (extractStridedSlice S16384x768 ![0, 0] a0 slices_S16384x8192_S16384x768_0_0) bitsLt_bf16_f32) (broadcastInDim S16384x768 ![0, 1] bcast_S16384x1_S16384x768_0_1 (Host.rsqrt (addf (Host.divf (broadcastInDim S16384x1 ![0] bcast_S16384_S16384x1_0 (Host.reduceAdd (mulf (extf .f32 (extractStridedSlice S16384x768 ![0, 0] a0 slices_S16384x8192_S16384x768_0_0) bitsLt_bf16_f32) (extf .f32 (extractStridedSlice S16384x768 ![0, 0] a0 slices_S16384x8192_S16384x768_0_0) bitsLt_bf16_f32)) (constant S_ .f32 0x00000000#32) reducesTo_S16384x768_S16384_d1 h_S_)) (broadcastInDim S16384x1 ![] bcast_S_S16384x1 (constant S_ .f32 0x44400000#32))) (broadcastInDim S16384x1 ![] bcast_S_S16384x1 (constant S_ .f32 0x358637BD#32)))))) (broadcastInDim S16384x768 ![0, 1] bcast_S1x768_S16384x768_0_1 (broadcastInDim S1x768 ![1] bcast_S768_S1x768_1 a1))) a2

/-- The reference's first result, from the product. -/
def qN (y : FVec Ideal S16384x3072 .f32) : FVec Ideal S16384x2048 .bf16 :=
  truncf .bf16 (shapeCast _ (extractStridedSlice S4x4096x16x128 ![0, 0, 0, 0] (shapeCast _ y shapeCasts_S16384x3072_S4x4096x16x192) slices_S4x4096x16x192_S4x4096x16x128_0_0_0_0) shapeCasts_S4x4096x16x128_S16384x2048) bitsLt_bf16_f32

/-- The last places of each head of the product. -/
def qS (y : FVec Ideal S16384x3072 .f32) : FVec Ideal S4x4096x16x64 .f32 := extractStridedSlice S4x4096x16x64 ![0, 0, 0, 128] (shapeCast _ y shapeCasts_S16384x3072_S4x4096x16x192) slices_S4x4096x16x192_S4x4096x16x64_0_0_0_128

/-- The angles of each position. -/
def qA : FVec Ideal S4096x32 .f32 := mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The reference's second result, from the last places and the angles. -/
def qR (x : FVec Ideal S4x4096x16x64 .f32) (θ : FVec Ideal S4096x32 .f32) : FVec Ideal S16384x1024 .bf16 :=
  truncf .bf16 (shapeCast _ (addf (mulf x (broadcastInDim S4x4096x16x64 ![0, 1, 2, 3] bcast_S1x4096x1x64_S4x4096x16x64_0_1_2_3 (broadcastInDim S1x4096x1x64 ![1, 2, 3] bcast_S4096x1x64_S1x4096x1x64_1_2_3 (broadcastInDim S4096x1x64 ![0, 2] bcast_S4096x64_S4096x1x64_0_2 (Host.cos (concatenate S4096x64 1 [⟨S4096x32, θ⟩, ⟨S4096x32, θ⟩] concatenates_S4096x32_S4096x32_S4096x64_d1)))))) (mulf (concatenate S4x4096x16x64 3 [⟨S4x4096x16x32, (Host.negf (extractStridedSlice S4x4096x16x32 ![0, 0, 0, 32] x slices_S4x4096x16x64_S4x4096x16x32_0_0_0_32))⟩, ⟨S4x4096x16x32, (extractStridedSlice S4x4096x16x32 ![0, 0, 0, 0] x slices_S4x4096x16x64_S4x4096x16x32_0_0_0_0)⟩] concatenates_S4x4096x16x32_S4x4096x16x32_S4x4096x16x64_d3) (broadcastInDim S4x4096x16x64 ![0, 1, 2, 3] bcast_S1x4096x1x64_S4x4096x16x64_0_1_2_3 (broadcastInDim S1x4096x1x64 ![1, 2, 3] bcast_S4096x1x64_S1x4096x1x64_1_2_3 (broadcastInDim S4096x1x64 ![0, 2] bcast_S4096x64_S4096x1x64_0_2 (Host.sin (concatenate S4096x64 1 [⟨S4096x32, θ⟩, ⟨S4096x32, θ⟩] concatenates_S4096x32_S4096x32_S4096x64_d1))))))) shapeCasts_S4x4096x16x64_S16384x1024) bitsLt_bf16_f32

/-- The reference's product at an index. -/
theorem qP_at (r : Fin 16384) (n : Fin 3072) : (qP a0 a1 a2 (ix2 r n) : EReal) = queryAt a0 a1 a2 r n := by
  pointwise [qP]
  rfl

/-- The reference's first result at an index. -/
theorem qN_at (y : FVec Ideal S16384x3072 .f32) (r : Fin 16384) (n : Fin 2048) : (qN y (ix2 r n) : EReal) = nopeAt (fun r n => y (ix2 r n)) r n := by
  unfold nopeAt
  pointwise [qN]

/-- The last places at an index. -/
theorem qS_at (y : FVec Ideal S16384x3072 .f32) (b : Fin 4) (p : Fin 4096) (h : Fin 16) (l : Fin 64) :
    (qS y (ix4 b p h l) : EReal) = y (ix2 ⟨b.val * 4096 + p.val, by omega⟩ ⟨h.val * 192 + (128 + l.val), by omega⟩) := by
  pointwise [qS]

/-- A head's halves exchanged, the first negated, and multiplied by angles that repeat after 32 places. -/
theorem pair_at (X : Fin 16 → Fin 64 → EReal) (T : Fin 32 → EReal) (n : Fin 1024) :
    X ⟨n.val / 64, by omega⟩ ⟨n.val % 64, by omega⟩ * Ideal.cos (if h : n.val % 64 < 32 then T ⟨n.val % 64, h⟩ else T ⟨n.val % 64 - 32, by omega⟩)
      + (if h : n.val % 64 < 32 then -X ⟨n.val / 64, by omega⟩ ⟨32 + n.val % 64, by omega⟩ else X ⟨n.val / 64, by omega⟩ ⟨n.val % 64 - 32, by omega⟩)
        * Ideal.sin (if h : n.val % 64 < 32 then T ⟨n.val % 64, h⟩ else T ⟨n.val % 64 - 32, by omega⟩)
      = turned (fun n => X ⟨n.val / 64, by omega⟩ ⟨n.val % 64, by omega⟩) (fun d => Ideal.cos (T d)) (fun d => Ideal.sin (T d)) n := by
  have hn := n.isLt
  unfold turned
  by_cases h : n.val % 64 < 32
  · rw [dif_pos h, dif_pos h, if_pos h]
    have e : (⟨n.val % 64, h⟩ : Fin 32) = ⟨n.val % 32, by omega⟩ := Fin.ext (by dsimp only; omega)
    have e1 : (⟨(n.val + 32) % 1024 / 64, by omega⟩ : Fin 16) = ⟨n.val / 64, by omega⟩ := Fin.ext (by dsimp only; omega)
    have e2 : (⟨(n.val + 32) % 1024 % 64, by omega⟩ : Fin 64) = ⟨32 + n.val % 64, by omega⟩ := Fin.ext (by dsimp only; omega)
    simp only [e, e1, e2]
  · rw [dif_neg h, dif_neg h, if_neg h]
    have e : (⟨n.val % 64 - 32, by omega⟩ : Fin 32) = ⟨n.val % 32, by omega⟩ := Fin.ext (by dsimp only; omega)
    have e1 : (⟨(n.val - 32) / 64, by omega⟩ : Fin 16) = ⟨n.val / 64, by omega⟩ := Fin.ext (by dsimp only; omega)
    have e2 : (⟨(n.val - 32) % 64, by omega⟩ : Fin 64) = ⟨n.val % 64 - 32, by omega⟩ := Fin.ext (by dsimp only; omega)
    simp only [e, e1, e2]

/-- The reference's second result at an index. -/
theorem qR_at (x : FVec Ideal S4x4096x16x64 .f32) (θ : FVec Ideal S4096x32 .f32) (r : Fin 16384) (n : Fin 1024) : (qR x θ (ix2 r n) : EReal) =
    turned (fun n => x (ix4 ⟨r.val / 4096, by omega⟩ ⟨r.val % 4096, by omega⟩ ⟨n.val / 64, by omega⟩ ⟨n.val % 64, by omega⟩))
      (fun d => Ideal.cos (θ (ix2 ⟨r.val % 4096, by omega⟩ d))) (fun d => Ideal.sin (θ (ix2 ⟨r.val % 4096, by omega⟩ d))) n := by
  pointwise [qR]
  exact pair_at (fun h l => x (ix4 ⟨r.val / 4096, by omega⟩ ⟨r.val % 4096, by omega⟩ h l)) (fun d => θ (ix2 ⟨r.val % 4096, by omega⟩ d)) n

/-- The reference's first result is the kernel's expression. -/
theorem qN_que : qN (qP a0 a1 a2) = fun i => nopeAt (queryAt a0 a1 a2) (i 0) (i 1) := by
  funext i
  obtain ⟨r, n, rfl⟩ : ∃ (r : Fin 16384) (n : Fin 2048), i = ix2 r n := ⟨i 0, i 1, eq_ix2 i⟩
  refine (qN_at _ r n).trans ?_
  simp only [qP_at]
  rfl

/-- The reference's second result is the kernel's expression. -/
theorem qR_que : qR (qS (qP a0 a1 a2)) qA = fun i => ropeAt (queryAt a0 a1 a2) (fun p d => qA (ix2 p d)) (i 0) (i 1) := by
  funext i
  obtain ⟨r, n, rfl⟩ : ∃ (r : Fin 16384) (n : Fin 1024), i = ix2 r n := ⟨i 0, i 1, eq_ix2 i⟩
  refine (qR_at _ _ r n).trans ?_
  have e : (⟨r.val / 4096 * 4096 + r.val % 4096, by omega⟩ : Fin 16384) = r := Fin.ext (by show r.val / 4096 * 4096 + r.val % 4096 = r.val; omega)
  simp only [qS_at, qP_at, e]
  rfl

end

section
open Cert.QueIdeal Cert.QueIdeal.Gen

variable (m : (ℓ : Loc nD τ sig) → Buf (Elt Ideal) ℓ) (c : Dev nD) (t : Fin cfg0.N)

/-- The projections, the queries' latents in the first columns. -/
def F0 : S16384x8192.Idx → EReal := m ((c : Thread nD τ).loc main_arg0)

/-- The weights of the normalisation. -/
def F1 : S768.Idx → EReal := m ((c : Thread nD τ).loc main_arg1)

/-- The weights of the product. -/
def F2 : S768x3072.Idx → EReal := m ((c : Thread nD τ).loc main_arg2)

/-- The index maps of the windows at every grid point. -/
theorem idx_que : ∀ t : Fin grid0.N, win0_0.index t = ![t.val, 0] ∧ win0_1.index t = ![0, 0] ∧ win0_2.index t = ![0, 0]
    ∧ win0_3.index t = ![0, 0] ∧ win0_4.index t = ![t.val % 4, 0] ∧ win0_5.index t = ![t.val % 4, 0] ∧ win0_6.index t = ![t.val, 0]
    ∧ win0_7.index t = ![t.val, 0] := by decide +kernel

/-- Every grid point is one of 16. -/
theorem que_lt : t.val < 16 := lt_of_lt_of_le t.isLt (by decide)

/-- The weights of the normalisation as the region finds them. -/
theorem fg_at (k : Fin 768) : (V m c main_v27 : Vec Ideal S1x768 .f32) (ix2 0 k) = F1 m c (ix1 k) := by
  unfold V
  after_reads_at
  rfl

/-- The weights of the first columns as the region finds them. -/
theorem fn_at (n : Fin 2048) (j : Fin 768) : (V m c main_v25 : Vec Ideal S2048x768 .bf16) (ix2 n j) = F2 m c (ix2 j ⟨n.val / 128 * 192 + n.val % 128, by omega⟩) := by
  unfold V
  after_reads_at
  rfl

/-- The weights of the last columns as the region finds them. -/
theorem fr_at (n : Fin 1024) (j : Fin 768) : (V m c main_v26 : Vec Ideal S1024x768 .bf16) (ix2 n j) = F2 m c (ix2 j ⟨n.val / 64 * 192 + (128 + n.val % 64), by omega⟩) := by
  unfold V
  after_reads_at
  rfl

/-- The angles as the host operations leave them. -/
theorem angles_eq : (StableHlo.upto hostOps0 (fun b => m (c, b)) 20 ((Proc.tc : Proc τ).devRef main_v15) : FVec Ideal S4096x32 .f32) = qA := by
  funext i
  obtain ⟨p, d, rfl⟩ : ∃ (p : Fin 4096) (d : Fin 32), i = ix2 p d := ⟨i 0, i 1, eq_ix2 i⟩
  after_reads_at
  pointwise [qA]

/-- Four tables of 32 columns side by side repeat after 32. -/
theorem four_at (θ : Fin 32 → EReal) (l : Fin 128) :
    (if h : l.val < 32 then θ ⟨l.val, h⟩ else if h : l.val - 32 < 32 then θ ⟨l.val - 32, h⟩
      else if h : l.val - 32 - 32 < 32 then θ ⟨l.val - 32 - 32, h⟩ else θ ⟨l.val - 32 - 32 - 32, by omega⟩) = θ ⟨l.val % 32, by omega⟩ := by
  have hl := l.isLt
  split_ifs <;> exact congrArg θ (Fin.ext (by dsimp only; omega))

/-- The cosines as the region finds them. -/
theorem fc_at (p : Fin 4096) (l : Fin 128) : ((V m c main_v17 : Vec Ideal S4096x128 .f32) (ix2 p l) : EReal) = Ideal.cos (qA (ix2 p ⟨l.val % 32, by omega⟩)) := by
  unfold V
  after_reads_at
  have e := angles_eq m c
  generalize StableHlo.upto (hostOps0 (F := Ideal)) (fun b => m (c, b)) 20 ((Proc.tc : Proc τ).devRef main_v15) = θ at e ⊢
  rw [← e]
  exact congrArg Ideal.cos (four_at (fun d => (θ : FVec Ideal S4096x32 .f32) (ix2 p d)) l)

/-- The sines as the region finds them. -/
theorem fs_at (p : Fin 4096) (l : Fin 128) : ((V m c main_v18 : Vec Ideal S4096x128 .f32) (ix2 p l) : EReal) = Ideal.sin (qA (ix2 p ⟨l.val % 32, by omega⟩)) := by
  unfold V
  after_reads_at
  have e := angles_eq m c
  generalize StableHlo.upto (hostOps0 (F := Ideal)) (fun b => m (c, b)) 20 ((Proc.tc : Proc τ).devRef main_v15) = θ at e ⊢
  rw [← e]
  exact congrArg Ideal.sin (four_at (fun d => (θ : FVec Ideal S4096x32 .f32) (ix2 p d)) l)

/-- The window of the latents at an index. -/
theorem f0_at (R : Fin 1024) (j : Fin 768) : (X0_0 m c t (ix2 R j) : EReal) = F0 m c (ix2 ⟨1024 * t.val + R.val, by have := que_lt t; omega⟩ ⟨j.val, by omega⟩) := by
  have ht := que_lt t
  have e0 : win0_0.index t 0 = t.val := congrFun (idx_que t).1 0
  have e1 : win0_0.index t 1 = 0 := congrFun (idx_que t).1 1
  unfold X0_0 Pipeline.Window.fill
  rw [dif_pos (moved0_0 t _)]
  refine (congrArg (V m c main_arg0 : Vec Ideal S16384x8192 .bf16) (funext fun a => Fin.ext ?_)).trans (congrFun (V_main_arg0 m c) _)
  match a with
  | ⟨0, _⟩ => show win0_0.index t 0 * 1024 + 1 * R.val = 1024 * t.val + R.val; omega
  | ⟨1, _⟩ => show win0_0.index t 1 * 768 + 1 * j.val = j.val; omega

/-- The window of the normalisation's weights at an index. -/
theorem f1_at (k : Fin 768) : (iblk m c 1 t (ix2 0 k) : EReal) = F1 m c (ix1 k) := by
  have ht := que_lt t
  have h : (iblk m c 1 t (ix2 0 k) : EReal) = (V m c main_v27 : Vec Ideal S1x768 .f32) (ix2 0 k) := by
    blk_ext [iblk, (idx_que t).2.1]
  rw [h, fg_at]

/-- The window of the first columns' weights at an index. -/
theorem f2_at (n : Fin 2048) (j : Fin 768) : (iblk m c 2 t (ix2 n j) : EReal) = F2 m c (ix2 j ⟨n.val / 128 * 192 + n.val % 128, by omega⟩) := by
  have ht := que_lt t
  have h : (iblk m c 2 t (ix2 n j) : EReal) = (V m c main_v25 : Vec Ideal S2048x768 .bf16) (ix2 n j) := by
    blk_ext [iblk, (idx_que t).2.2.1]
  rw [h, fn_at]

/-- The window of the last columns' weights at an index. -/
theorem f3_at (n : Fin 1024) (j : Fin 768) : (iblk m c 3 t (ix2 n j) : EReal) = F2 m c (ix2 j ⟨n.val / 64 * 192 + (128 + n.val % 64), by omega⟩) := by
  have ht := que_lt t
  have h : (iblk m c 3 t (ix2 n j) : EReal) = (V m c main_v26 : Vec Ideal S1024x768 .bf16) (ix2 n j) := by
    blk_ext [iblk, (idx_que t).2.2.2.1]
  rw [h, fr_at]

/-- The window of cosines at an index. -/
theorem f4_at (R : Fin 1024) (l : Fin 128) : (iblk m c 4 t (ix2 R l) : EReal) = Ideal.cos (qA (ix2 ⟨1024 * (t.val % 4) + R.val, by omega⟩ ⟨l.val % 32, by omega⟩)) := by
  have ht := que_lt t
  have h : (iblk m c 4 t (ix2 R l) : EReal) = (V m c main_v17 : Vec Ideal S4096x128 .f32) (ix2 ⟨1024 * (t.val % 4) + R.val, by omega⟩ l) := by
    blk_ext [iblk, (idx_que t).2.2.2.2.1]
  rw [h, fc_at]

/-- The window of sines at an index. -/
theorem f5_at (R : Fin 1024) (l : Fin 128) : (iblk m c 5 t (ix2 R l) : EReal) = Ideal.sin (qA (ix2 ⟨1024 * (t.val % 4) + R.val, by omega⟩ ⟨l.val % 32, by omega⟩)) := by
  have ht := que_lt t
  have h : (iblk m c 5 t (ix2 R l) : EReal) = (V m c main_v18 : Vec Ideal S4096x128 .f32) (ix2 ⟨1024 * (t.val % 4) + R.val, by omega⟩ l) := by
    blk_ext [iblk, (idx_que t).2.2.2.2.2.1]
  rw [h, fs_at]

/-- What a grid point writes of the first result. -/
theorem nope_blk (R : Fin 1024) (k : Fin 2048) :
    ((outsAt0 m c t).1 (ix2 R k) : EReal) = nopeAt (queryAt (F0 m c) (F1 m c) (F2 m c)) ⟨1024 * t.val + R.val, by have := que_lt t; omega⟩ k := by
  unfold outsAt0
  dsimp only
  rw [out6_at]
  unfold nopeAt queryAt
  simp only [f0_at, f1_at, f2_at]

/-- What a grid point writes of the second result. -/
theorem rope_blk (R : Fin 1024) (k : Fin 1024) : ((outsAt0 m c t).2 (ix2 R k) : EReal)
    = ropeAt (queryAt (F0 m c) (F1 m c) (F2 m c)) (fun p d => qA (ix2 p d)) ⟨1024 * t.val + R.val, by have := que_lt t; omega⟩ k := by
  have ht := que_lt t
  have hp : (1024 * t.val + R.val) % 4096 = 1024 * (t.val % 4) + R.val := by omega
  unfold outsAt0
  dsimp only
  rw [out7_at (C := fun d => Ideal.cos (qA (ix2 ⟨1024 * (t.val % 4) + R.val, by omega⟩ d))) (S := fun d => Ideal.sin (qA (ix2 ⟨1024 * (t.val % 4) + R.val, by omega⟩ d)))
    (hc := fun l => f4_at m c t R l) (hs := fun l => f5_at m c t R l)]
  unfold ropeAt queryAt
  simp only [f0_at, f1_at, f3_at, hp]

/-- The kernel's first result after the run. -/
theorem nope_out : ((dats m 0 c).arrAt 6 cfg0.N : Vec Ideal S16384x2048 .bf16) = fun i => nopeAt (queryAt (F0 m c) (F1 m c) (F2 m c)) (i 0) (i 1) := by
  refine (dats m 0 c).arrAt_eq_of_covers 6 _ (by decide +kernel) fun t hf' y => ?_
  blk_simp
  rw [after0_6]
  have ht := que_lt t
  have e := (idx_que t).2.2.2.2.2.2.1
  obtain ⟨R, k, rfl⟩ : ∃ (R : Fin 1024) (k : Fin 2048), y = ix2 R k := ⟨y 0, y 1, eq_ix2 y⟩
  have e0 : win0_6.index t 0 = t.val := congrFun e 0
  have e1 : win0_6.index t 1 = 0 := congrFun e 1
  have hR := R.isLt
  have h0 : ((win0_6.blk t).view.emb (ix2 R k) 0 : Fin 16384) = (⟨1024 * t.val + R.val, by omega⟩ : Fin 16384) := Fin.ext (by
    show win0_6.index t 0 * 1024 + 1 * R.val = 1024 * t.val + R.val
    omega)
  have h1 : ((win0_6.blk t).view.emb (ix2 R k) 1 : Fin 2048) = k := Fin.ext (by
    show win0_6.index t 1 * 2048 + 1 * k.val = k.val
    omega)
  refine Eq.trans ?_ (congrArg₂ (nopeAt (queryAt (F0 m c) (F1 m c) (F2 m c))) h0 h1).symm
  exact nope_blk m c t R k

/-- The kernel's second result after the run. -/
theorem rope_out : ((dats m 0 c).arrAt 7 cfg0.N : Vec Ideal S16384x1024 .bf16)
    = fun i => ropeAt (queryAt (F0 m c) (F1 m c) (F2 m c)) (fun p d => qA (ix2 p d)) (i 0) (i 1) := by
  refine (dats m 0 c).arrAt_eq_of_covers 7 _ (by decide +kernel) fun t hf' y => ?_
  blk_simp
  rw [after0_7]
  have ht := que_lt t
  have e := (idx_que t).2.2.2.2.2.2.2
  obtain ⟨R, k, rfl⟩ : ∃ (R : Fin 1024) (k : Fin 1024), y = ix2 R k := ⟨y 0, y 1, eq_ix2 y⟩
  have e0 : win0_7.index t 0 = t.val := congrFun e 0
  have e1 : win0_7.index t 1 = 0 := congrFun e 1
  have hR := R.isLt
  have h0 : ((win0_7.blk t).view.emb (ix2 R k) 0 : Fin 16384) = (⟨1024 * t.val + R.val, by omega⟩ : Fin 16384) := Fin.ext (by
    show win0_7.index t 0 * 1024 + 1 * R.val = 1024 * t.val + R.val
    omega)
  have h1 : ((win0_7.blk t).view.emb (ix2 R k) 1 : Fin 1024) = k := Fin.ext (by
    show win0_7.index t 1 * 1024 + 1 * k.val = k.val
    omega)
  refine Eq.trans ?_ (congrArg₂ (ropeAt (queryAt (F0 m c) (F1 m c) (F2 m c)) (fun p d => qA (ix2 p d))) h0 h1).symm
  exact rope_blk m c t R k

end

end Cert.Query
-- ==== Proof.Results.lean ====
/- The value claims of the calls after the attentions: at equal arguments, kernel and reference end with equal results. -/
module

public import proofs.«01_k».proof.Defs
public import proofs.«01_k».proof.Proof.Down
public import proofs.«01_k».proof.Proof.Mix
public import proofs.«01_k».proof.Proof.UpRun
public import proofs.«01_k».proof.Proof.InpRun
public import proofs.«01_k».proof.Proof.QueRun
public import Idealize.ShloMosaic.Lib.Bf16Pair
public import Idealize.ShloMosaic.Lib.Bf16PairInverse

@[expose] public section

set_option maxRecDepth 16384

noncomputable section

namespace Cert.Ffn

open Idealize Idealize.ShloMosaic Idealize.ShloMosaic.TcCoe Idealize.SL.Sem

/-- The reference's first mixing result is the expression `mixAt` of its arguments. -/
theorem mixRef_first (m' : (ℓ : Loc Cert.MixRefIdeal.nD Cert.MixRefIdeal.τ Cert.MixRefIdeal.sig) → Buf (Elt Ideal) ℓ) (c : Dev Cert.MixRefIdeal.nD) :
    (Cert.MixRefIdeal.Value.res_out0 m' c : Vec Ideal Cert.MixRefIdeal.S16384x2048 .f32)
      = fun i => mixAt (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg7)) (i 0) (i 1) :=
  gO_mix _ _ _ _ _ _ _

/-- The reference's second mixing result is the expression `mixHAt` of its arguments. -/
theorem mixRef_second (m' : (ℓ : Loc Cert.MixRefIdeal.nD Cert.MixRefIdeal.τ Cert.MixRefIdeal.sig) → Buf (Elt Ideal) ℓ) (c : Dev Cert.MixRefIdeal.nD) :
    (Cert.MixRefIdeal.Value.res_out1 m' c : Vec Ideal Cert.MixRefIdeal.S16384x2048 .bf16)
      = fun i => mixHAt (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (i 0) (i 1) :=
  gH_mix _ _ _ _ _ _ _ _

/-- The second product of the feed-forward part: kernel and reference end with equal results. -/
theorem value_down : Cert.algebraic_DownIdeal_DownRefIdeal := fun m g m' g' _ hm => ⟨fun c => (Cert.DownIdeal.Gen.dats m 0 c).arrAt 5 Cert.DownIdeal.cfg0.N,
  (θ_run Cert.DownIdeal.defs _ _).mono (fun r h c => h c) (Cert.DownIdeal.Value.run_blocks m g),
  (θ_run Cert.DownRefIdeal.defs _ _).mono (fun r h c => ⟨(h c).1.trans (by
    obtain ⟨e0, e1, e2, e3, e4⟩ := hm c
    rw [e0, e1, e2, e3, e4]
    exact (dO_down (B0 m c) (B1 m c) (B2 m c) (B3 m c) (B4 m c)).trans (down_out m c).symm), (h c).2⟩) (Cert.DownRefIdeal.Value.run m' g')⟩

/-- The mixing of the attentions: kernel and reference end with equal results. -/
theorem value_mix : Cert.algebraic_MixIdeal_MixRefIdeal := fun m g m' g' _ hm => ⟨fun c => (Cert.MixIdeal.Gen.dats m 0 c).arrAt 9 Cert.MixIdeal.cfg0.N,
  fun c => (Cert.MixIdeal.Gen.dats m 0 c).arrAt 10 Cert.MixIdeal.cfg0.N,
  (θ_run Cert.MixIdeal.defs _ _).mono (fun r h c => h c) (Cert.MixIdeal.Value.run_blocks m g),
  (θ_run Cert.MixRefIdeal.defs _ _).mono (fun r h c => ⟨(h c).1.trans (by
    obtain ⟨e0, e1, e2, e3, e4, e5, e6, e7⟩ := hm c
    refine (mixRef_first m' c).trans ?_
    rw [e0, e1, e2, e3, e4, e5, e7]
    exact (mix_out m c).symm), (h c).2.1.trans (by
    obtain ⟨e0, e1, e2, e3, e4, e5, e6, e7⟩ := hm c
    refine (mixRef_second m' c).trans ?_
    rw [e0, e1, e2, e3, e4, e5, e6, e7]
    exact (mixH_out m c).symm), (h c).2.2⟩) (Cert.MixRefIdeal.Value.run m' g')⟩

/-- The first product of the feed-forward part: kernel and reference end with equal results. -/
theorem value_up : Cert.algebraic_UpIdeal_UpRefIdeal := fun m g m' g' _ hm => ⟨fun c => (Cert.UpIdeal.Gen.dats m 0 c).arrAt 7 Cert.UpIdeal.cfg0.N,
  (θ_run Cert.UpIdeal.defs _ _).mono (fun r h c => h c) (Cert.UpIdeal.Value.run_blocks m g),
  (θ_run Cert.UpRefIdeal.defs _ _).mono (fun r h c => ⟨(h c).1.trans (by
    obtain ⟨e0, e1, e2, e3⟩ := hm c
    unfold Cert.UpRefIdeal.Value.res_main_v32
    rw [e0, e1, e2, e3]
    exact (uO_up (E0 m c) (E1 m c) (E2 m c) (E3 m c)).trans (up_out m c).symm), (h c).2⟩) (Cert.UpRefIdeal.Value.run m' g')⟩

/-- The rewriting of the pairs of halves in the first product's kernel. -/
theorem preserves_up : Cert.preserves_Up_UpIdeal :=
  ⟨IdealRules.bf16_pair.bufferStatement _ _, IdealRules.bf16_pair.statement _ _, IdealRules.bf16_pair.selectZeroStatement _, IdealRules.bf16_pair.packStatement _,
    IdealRules.bf16_pair.statement _ _, IdealRules.bf16_pair.selectZeroStatement _, IdealRules.bf16_pair.statement _ _, IdealRules.bf16_pair.packStatement _,
    IdealRules.bf16_pair.statement _ _, IdealRules.bf16_pair.statement _ _, IdealRules.named_const.statement Cert.UpIdeal.κ "nlog2e" .f32 0xBFB8AA3B#32 _ rfl⟩

end Cert.Ffn

namespace Cert.Proj

open Idealize Idealize.ShloMosaic Idealize.ShloMosaic.TcCoe Idealize.SL.Sem

/-- The first projection: kernel and reference end with equal results where the activations and the shared key's weights are reals. -/
theorem value_in : Cert.algebraic_InpIdeal_InpRefIdeal_pre_finite_key (hPre_finite_key := Cert.Pre_finite_key.Gen.facts) :=
  fun m g m' g' hpre hm => ⟨fun c => (Cert.InpIdeal.Gen.dats m 0 c).arrAt 3 Cert.InpIdeal.cfg0.N,
  (θ_run Cert.InpIdeal.defs _ _).mono (fun r h c => h c) (run_blocks m g),
  (θ_run Cert.InpRefIdeal.defs _ _).mono (fun r h c => ⟨(h c).1.trans (by
    obtain ⟨e0, e1⟩ := hm c
    rw [e0, e1]
    obtain ⟨hh, hw⟩ := key_real _ _ (hpre c)
    exact (pO_proj (E0 m c) (E1 m c) hh hw).trans (proj_out m c).symm), (h c).2⟩) (Cert.InpRefIdeal.Value.run m' g')⟩

/-- The queries' factor named. -/
theorem preserves_in : Cert.preserves_Inp_InpIdeal := IdealRules.named_const.statement Cert.InpIdeal.κ "qscale" .f32 0x3E38AA3B#32 _ rfl

end Cert.Proj

namespace Cert.Query

open Idealize Idealize.ShloMosaic Idealize.ShloMosaic.TcCoe Idealize.SL.Sem

/-- The reference's second result of the projection of the queries is the expression `ropeAt` of its arguments. -/
theorem queRef_second (m' : (ℓ : Loc Cert.QueRefIdeal.nD Cert.QueRefIdeal.τ Cert.QueRefIdeal.sig) → Buf (Elt Ideal) ℓ) (c : Dev Cert.QueRefIdeal.nD) :
    (Cert.QueRefIdeal.Value.res_out1 m' c : Vec Ideal Cert.QueRefIdeal.S16384x1024 .bf16)
      = fun i => ropeAt (queryAt (m' ((c.tc : Thread Cert.QueRefIdeal.nD Cert.QueRefIdeal.τ).loc Cert.QueRefIdeal.main_arg0)) (m' ((c.tc : Thread Cert.QueRefIdeal.nD Cert.QueRefIdeal.τ).loc Cert.QueRefIdeal.main_arg1)) (m' ((c.tc : Thread Cert.QueRefIdeal.nD Cert.QueRefIdeal.τ).loc Cert.QueRefIdeal.main_arg2))) (fun p d => qA (ix2 p d)) (i 0) (i 1) :=
  qR_que _ _ _

/-- The projection of the queries: kernel and reference end with equal results. -/
theorem value_q : Cert.algebraic_QueIdeal_QueRefIdeal := fun m g m' g' _ hm => ⟨fun c => (Cert.QueIdeal.Gen.dats m 0 c).arrAt 6 Cert.QueIdeal.cfg0.N,
  fun c => (Cert.QueIdeal.Gen.dats m 0 c).arrAt 7 Cert.QueIdeal.cfg0.N,
  (θ_run Cert.QueIdeal.defs _ _).mono (fun r h c => h c) (Cert.QueIdeal.Value.run_blocks m g),
  (θ_run Cert.QueRefIdeal.defs _ _).mono (fun r h c => ⟨(h c).1.trans (by
    obtain ⟨e0, e1, e2⟩ := hm c
    rw [e0, e1, e2]
    exact (qN_que (F0 m c) (F1 m c) (F2 m c)).trans (nope_out m c).symm), (h c).2.1.trans (by
    obtain ⟨e0, e1, e2⟩ := hm c
    refine (queRef_second m' c).trans ?_
    rw [e0, e1, e2]
    exact (rope_out m c).symm), (h c).2.2⟩) (Cert.QueRefIdeal.Value.run m' g')⟩

end Cert.Query

end
-- ==== Proof.lean ====
module

public import proofs.«01_k».proof.Defs
public import proofs.«01_k».proof.Proof.Frames
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Pre
public import proofs.«01_k».proof.Proof.Kern
public import proofs.«01_k».proof.Proof.Ref
public import proofs.«01_k».proof.Proof.Results
public import proofs.«01_k».proof.Proof.Gen.KernelIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.InpRefIdeal.Run
public import proofs.«01_k».proof.Proof.Gen.Que
public import proofs.«01_k».proof.Proof.Gen.Que.Skeleton
public import proofs.«01_k».proof.Proof.Gen.Que.Launch
public import proofs.«01_k».proof.Proof.Gen.Que.Points
public import proofs.«01_k».proof.Proof.Gen.Que.Frame
public import proofs.«01_k».proof.Proof.Gen.QueIdeal
public import proofs.«01_k».proof.Proof.Gen.QueIdeal.Skeleton
public import proofs.«01_k».proof.Proof.Gen.QueIdeal.Launch
public import proofs.«01_k».proof.Proof.Gen.QueIdeal.Points
public import proofs.«01_k».proof.Proof.Gen.QueIdeal.Frame
public import proofs.«01_k».proof.Proof.Gen.QueIdeal.Value
public import proofs.«01_k».proof.Proof.Gen.QueRefIdeal
public import proofs.«01_k».proof.Proof.Gen.QueRefIdeal.Run
public import proofs.«01_k».proof.Proof.Gen.Pre_finite_key
public import Idealize.ShloMosaic.Adequacy
public import Idealize.ShloMosaic.Init

@[expose] public section

noncomputable section

namespace Cert.Proof

open Idealize.ShloMosaic Idealize.SL.Sem Cert.Kernel

/-- Under the precondition, at equal arguments, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hf : Cert.Att.Fin4 m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v27 m' c : Vec Ideal Cert.ReferenceIdeal.S16384x2048 .bf16)
      = (Cert.KernelIdeal.Gen.dats m 0 c).arrAt 5 Cert.KernelIdeal.cfg0.N := by
  rw [Cert.Att.kernel_out m c hf]
  obtain ⟨h0, h1, h2, h3⟩ := hf
  rw [Cert.Att.ref_parts, e0, e1, e2, e3, e4]
  funext i
  rw [eq_ix2 i]
  exact Cert.Att.refO_at (Cert.Att.A0 m c) (Cert.Att.A1 m c) (Cert.Att.A2 m c) (Cert.Att.A3 m c) (Cert.Att.A4 m c) h0 h1 h2 h3 (i 0) (i 1) _ _ _ _ rfl rfl rfl rfl

/-- Under the precondition the kernel and the reference, at equal arguments, end with equal results. -/
theorem value : Cert.algebraic_KernelIdeal_ReferenceIdeal_pre_finite_scores (hPre_finite_scores := Cert.Pre_finite_scores.Gen.facts) :=
  fun m g m' g' hpre hm => ⟨fun c => (Cert.KernelIdeal.Gen.dats m 0 c).arrAt 5 Cert.KernelIdeal.cfg0.N,
    (θ_run Cert.KernelIdeal.defs _ _).mono (fun r h c => h c) (Cert.KernelIdeal.Value.run_blocks m g),
    (θ_run Cert.ReferenceIdeal.defs _ _).mono (fun r h c => ⟨(h c).1.trans (results_eq m m' c (Cert.Att.pre_real _ _ _ _ _ (hpre c))
      (hm c).1 (hm c).2.1 (hm c).2.2.1 (hm c).2.2.2.1 (hm c).2.2.2.2), (h c).2⟩) (Cert.ReferenceIdeal.Value.run m' g')⟩

/-- Every claim of the certificate. -/
theorem claim : Cert.Claim := ⟨Cert.Kernel.Gen.facts, Cert.KernelIdeal.Gen.facts, Cert.ReferenceIdeal.Gen.facts,
  Cert.Down.Gen.facts, Cert.DownIdeal.Gen.facts, Cert.DownRefIdeal.Gen.facts, Cert.Mix.Gen.facts, Cert.MixIdeal.Gen.facts, Cert.MixRefIdeal.Gen.facts,
  Cert.Up.Gen.facts, Cert.UpIdeal.Gen.facts, Cert.UpRefIdeal.Gen.facts,
  Cert.Inp.Gen.facts, Cert.InpIdeal.Gen.facts, Cert.InpRefIdeal.Gen.facts,
  Cert.Que.Gen.facts, Cert.QueIdeal.Gen.facts, Cert.QueRefIdeal.Gen.facts,
  Cert.Pre_finite_scores.Gen.facts, Cert.Pre_finite_key.Gen.facts,
  frame_kernel, frame_kernelIdeal, fun m ρ _ => frame_kernelIdeal m ρ trivial, frame_referenceIdeal, fun m ρ _ => frame_referenceIdeal m ρ trivial,
  frame_down, frame_downIdeal, frame_downRefIdeal, frame_mix, frame_mixIdeal, frame_mixRefIdeal,
  frame_up, frame_upIdeal, frame_upRefIdeal,
  frame_in, frame_inIdeal, fun m ρ _ => frame_inIdeal m ρ trivial, frame_inRefIdeal, fun m ρ _ => frame_inRefIdeal m ρ trivial,
  frame_q, frame_qIdeal, frame_qRefIdeal,
  IdealRules.named_const.statement Cert.KernelIdeal.κ "mask" .f32 0xF149F2CA#32 ⊥ rfl, value,
  trivial, Cert.Ffn.value_down, trivial, Cert.Ffn.value_mix, Cert.Ffn.preserves_up, Cert.Ffn.value_up, Cert.Proj.preserves_in, Cert.Proj.value_in,
  trivial, Cert.Query.value_q⟩

end Cert.Proof

end
